-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 4096]⟩ ⟨2, ![1024, 16384]⟩ (Layout.meshBlock [2, 4, 4] ![[], [2]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 4096]⟩ ⟨2, ![1024, 16384]⟩ (Layout.meshBlock [2, 4, 4] ![[], [2]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S1024x1024 : Shape := ⟨2, ![1024, 1024]⟩
abbrev S3x32x1024 : Shape := ⟨3, ![3, 32, 1024]⟩
abbrev S3 : Shape := ⟨1, ![3]⟩
abbrev S4x128x1024 : Shape := ⟨3, ![4, 128, 1024]⟩
abbrev S4 : Shape := ⟨1, ![4]⟩
abbrev S_ : Shape := ⟨0, ![]⟩
abbrev S128x4096 : Shape := ⟨2, ![128, 4096]⟩
abbrev S128x1024 : Shape := ⟨2, ![128, 1024]⟩
abbrev S1 : Shape := ⟨1, ![1]⟩
abbrev S1x32x1024 : Shape := ⟨3, ![1, 32, 1024]⟩
abbrev S32x1024 : Shape := ⟨2, ![32, 1024]⟩
abbrev S1x128x1024 : Shape := ⟨3, ![1, 128, 1024]⟩
abbrev S1x64x1024 : Shape := ⟨3, ![1, 64, 1024]⟩
abbrev S64x1024 : Shape := ⟨2, ![64, 1024]⟩

abbrev nBuf : Space → Nat
  | .hbm => 3
  | .vmem => 7
  | .smem => 0
  | _ => 0

abbrev bufTy : (tb : Table) → Fin (tcTables nBuf tb) → BufTy
  | .hbm, ⟨0, _⟩ => ⟨S1024x4096, .f32⟩
  | .hbm, ⟨1, _⟩ => ⟨S1024x4096, .f32⟩
  | .hbm, ⟨2, _⟩ => ⟨S1024x1024, .f32⟩
  | .local _ .vmem, ⟨0, _⟩ => ⟨S1024x4096, .f32⟩
  | .local _ .vmem, ⟨1, _⟩ => ⟨S1024x4096, .f32⟩
  | .local _ .vmem, ⟨2, _⟩ => ⟨S1024x1024, .f32⟩
  | .local _ .vmem, ⟨3, _⟩ => ⟨S3x32x1024, .f32⟩
  | .local _ .vmem, ⟨4, _⟩ => ⟨S3x32x1024, .f32⟩
  | .local _ .vmem, ⟨5, _⟩ => ⟨S4x128x1024, .f32⟩
  | .local _ .vmem, ⟨6, _⟩ => ⟨S4x128x1024, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  (ofTc nBuf bufTy 1 43 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch3 : Ref sig .tc := ⟨.vmem, 4, rfl⟩
abbrev cc0_scratch6 : Ref sig .tc := ⟨.vmem, 5, rfl⟩
abbrev cc0_scratch11 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_34 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_33 : BitVec 32 := 16#32
  let v57 : BitVec 32 := Scalar.muli v2 c16_i32_33
  let v58 : BitVec 32 := Scalar.addi c0_i32_34 v57
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_35 : BitVec 32 := 4#32
  let v59 : BitVec 32 := Scalar.muli v5 c4_i32_35
  let v60 : BitVec 32 := Scalar.addi v58 v59
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v46 : BitVec 32 := Scalar.addi v8 c1_i32_25
  let c4_i32_26 : BitVec 32 := 4#32
  let c0_i32_27 : BitVec 32 := 0#32
  let v47 : BitVec 1 := Scalar.cmpi .eq c4_i32_26 c0_i32_27
  let c1_i32_28 : BitVec 32 := 1#32
  let v48 : BitVec 32 := Scalar.select v47 c1_i32_28 c4_i32_26
  let v49 : BitVec 32 := Scalar.remsi v46 v48
  let c0_i32_30 : BitVec 32 := 0#32
  let v51 : BitVec 1 := Scalar.cmpi .slt v49 c0_i32_30
  let c0_i32_31 : BitVec 32 := 0#32
  let v52 : BitVec 1 := Scalar.cmpi .slt v48 c0_i32_31
  let v53 : BitVec 1 := Scalar.xori v51 v52
  let c0_i32_29 : BitVec 32 := 0#32
  let v50 : BitVec 1 := Scalar.cmpi .ne v49 c0_i32_29
  let v54 : BitVec 1 := Scalar.andi v53 v50
  let v55 : BitVec 32 := Scalar.addi v49 v48
  let v56 : BitVec 32 := Scalar.select v54 v55 v49
  let c1_i32_36 : BitVec 32 := 1#32
  let v61 : BitVec 32 := Scalar.muli v56 c1_i32_36
  let v62 : BitVec 32 := Scalar.addi v60 v61
  v62.toNat
def k0_dev2 (d0 : Dev nD) : Nat :=
  let c0_i32_46 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_45 : BitVec 32 := 16#32
  let v74 : BitVec 32 := Scalar.muli v2 c16_i32_45
  let v75 : BitVec 32 := Scalar.addi c0_i32_46 v74
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_47 : BitVec 32 := 4#32
  let v76 : BitVec 32 := Scalar.muli v5 c4_i32_47
  let v77 : BitVec 32 := Scalar.addi v75 v76
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_37 : BitVec 32 := 2#32
  let v63 : BitVec 32 := Scalar.addi v8 c2_i32_37
  let c4_i32_38 : BitVec 32 := 4#32
  let c0_i32_39 : BitVec 32 := 0#32
  let v64 : BitVec 1 := Scalar.cmpi .eq c4_i32_38 c0_i32_39
  let c1_i32_40 : BitVec 32 := 1#32
  let v65 : BitVec 32 := Scalar.select v64 c1_i32_40 c4_i32_38
  let v66 : BitVec 32 := Scalar.remsi v63 v65
  let c0_i32_42 : BitVec 32 := 0#32
  let v68 : BitVec 1 := Scalar.cmpi .slt v66 c0_i32_42
  let c0_i32_43 : BitVec 32 := 0#32
  let v69 : BitVec 1 := Scalar.cmpi .slt v65 c0_i32_43
  let v70 : BitVec 1 := Scalar.xori v68 v69
  let c0_i32_41 : BitVec 32 := 0#32
  let v67 : BitVec 1 := Scalar.cmpi .ne v66 c0_i32_41
  let v71 : BitVec 1 := Scalar.andi v70 v67
  let v72 : BitVec 32 := Scalar.addi v66 v65
  let v73 : BitVec 32 := Scalar.select v71 v72 v66
  let c1_i32_48 : BitVec 32 := 1#32
  let v78 : BitVec 32 := Scalar.muli v73 c1_i32_48
  let v79 : BitVec 32 := Scalar.addi v77 v78
  v79.toNat
def k0_dev3 (d0 : Dev nD) : Nat :=
  let c0_i32_57 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_56 : BitVec 32 := 16#32
  let v91 : BitVec 32 := Scalar.muli v2 c16_i32_56
  let v92 : BitVec 32 := Scalar.addi c0_i32_57 v91
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_58 : BitVec 32 := 4#32
  let v93 : BitVec 32 := Scalar.muli v5 c4_i32_58
  let v94 : BitVec 32 := Scalar.addi v92 v93
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v80 : BitVec 32 := Scalar.addi v8 c3_i32
  let c4_i32_49 : BitVec 32 := 4#32
  let c0_i32_50 : BitVec 32 := 0#32
  let v81 : BitVec 1 := Scalar.cmpi .eq c4_i32_49 c0_i32_50
  let c1_i32_51 : BitVec 32 := 1#32
  let v82 : BitVec 32 := Scalar.select v81 c1_i32_51 c4_i32_49
  let v83 : BitVec 32 := Scalar.remsi v80 v82
  let c0_i32_53 : BitVec 32 := 0#32
  let v85 : BitVec 1 := Scalar.cmpi .slt v83 c0_i32_53
  let c0_i32_54 : BitVec 32 := 0#32
  let v86 : BitVec 1 := Scalar.cmpi .slt v82 c0_i32_54
  let v87 : BitVec 1 := Scalar.xori v85 v86
  let c0_i32_52 : BitVec 32 := 0#32
  let v84 : BitVec 1 := Scalar.cmpi .ne v83 c0_i32_52
  let v88 : BitVec 1 := Scalar.andi v87 v84
  let v89 : BitVec 32 := Scalar.addi v83 v82
  let v90 : BitVec 32 := Scalar.select v88 v89 v83
  let c1_i32_59 : BitVec 32 := 1#32
  let v95 : BitVec 32 := Scalar.muli v90 c1_i32_59
  let v96 : BitVec 32 := Scalar.addi v94 v95
  v96.toNat
def k0_dev4 (d0 : Dev nD) : Nat :=
  let c0_i32_62 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_2 : BitVec 32 := 1#32
  let v13 : BitVec 32 := Scalar.addi v11 c1_i32_2
  let c8_i32 : BitVec 32 := 8#32
  let c0_i32_3 : BitVec 32 := 0#32
  let v14 : BitVec 1 := Scalar.cmpi .eq c8_i32 c0_i32_3
  let c1_i32_4 : BitVec 32 := 1#32
  let v15 : BitVec 32 := Scalar.select v14 c1_i32_4 c8_i32
  let v16 : BitVec 32 := Scalar.remsi v13 v15
  let c0_i32_6 : BitVec 32 := 0#32
  let v18 : BitVec 1 := Scalar.cmpi .slt v16 c0_i32_6
  let c0_i32_7 : BitVec 32 := 0#32
  let v19 : BitVec 1 := Scalar.cmpi .slt v15 c0_i32_7
  let v20 : BitVec 1 := Scalar.xori v18 v19
  let c0_i32_5 : BitVec 32 := 0#32
  let v17 : BitVec 1 := Scalar.cmpi .ne v16 c0_i32_5
  let v21 : BitVec 1 := Scalar.andi v20 v17
  let v22 : BitVec 32 := Scalar.addi v16 v15
  let v23 : BitVec 32 := Scalar.select v21 v22 v16
  let c4_i32_8 : BitVec 32 := 4#32
  let v24 : BitVec 1 := Scalar.cmpi .slt v23 c4_i32_8
  let c0_i32_9 : BitVec 32 := 0#32
  let c1_i32_10 : BitVec 32 := 1#32
  let v25 : BitVec 32 := Scalar.select v24 c0_i32_9 c1_i32_10
  let c16_i32_61 : BitVec 32 := 16#32
  let v97 : BitVec 32 := Scalar.muli v25 c16_i32_61
  let v98 : BitVec 32 := Scalar.addi c0_i32_62 v97
  let c4_i32_11 : BitVec 32 := 4#32
  let v26 : BitVec 1 := Scalar.cmpi .slt v23 c4_i32_11
  let c7_i32_12 : BitVec 32 := 7#32
  let v27 : BitVec 32 := Scalar.subi c7_i32_12 v23
  let v28 : BitVec 32 := Scalar.select v26 v23 v27
  let c4_i32_63 : BitVec 32 := 4#32
  let v99 : BitVec 32 := Scalar.muli v28 c4_i32_63
  let v100 : BitVec 32 := Scalar.addi v98 v99
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_64 : BitVec 32 := 1#32
  let v101 : BitVec 32 := Scalar.muli v8 c1_i32_64
  let v102 : BitVec 32 := Scalar.addi v100 v101
  v102.toNat
def k0_dev5 (d0 : Dev nD) : Nat :=
  let c0_i32_67 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_13 : BitVec 32 := 1#32
  let v29 : BitVec 32 := Scalar.subi v11 c1_i32_13
  let c8_i32_14 : BitVec 32 := 8#32
  let c0_i32_15 : BitVec 32 := 0#32
  let v30 : BitVec 1 := Scalar.cmpi .eq c8_i32_14 c0_i32_15
  let c1_i32_16 : BitVec 32 := 1#32
  let v31 : BitVec 32 := Scalar.select v30 c1_i32_16 c8_i32_14
  let v32 : BitVec 32 := Scalar.remsi v29 v31
  let c0_i32_18 : BitVec 32 := 0#32
  let v34 : BitVec 1 := Scalar.cmpi .slt v32 c0_i32_18
  let c0_i32_19 : BitVec 32 := 0#32
  let v35 : BitVec 1 := Scalar.cmpi .slt v31 c0_i32_19
  let v36 : BitVec 1 := Scalar.xori v34 v35
  let c0_i32_17 : BitVec 32 := 0#32
  let v33 : BitVec 1 := Scalar.cmpi .ne v32 c0_i32_17
  let v37 : BitVec 1 := Scalar.andi v36 v33
  let v38 : BitVec 32 := Scalar.addi v32 v31
  let v39 : BitVec 32 := Scalar.select v37 v38 v32
  let c4_i32_20 : BitVec 32 := 4#32
  let v40 : BitVec 1 := Scalar.cmpi .slt v39 c4_i32_20
  let c0_i32_21 : BitVec 32 := 0#32
  let c1_i32_22 : BitVec 32 := 1#32
  let v41 : BitVec 32 := Scalar.select v40 c0_i32_21 c1_i32_22
  let c16_i32_66 : BitVec 32 := 16#32
  let v103 : BitVec 32 := Scalar.muli v41 c16_i32_66
  let v104 : BitVec 32 := Scalar.addi c0_i32_67 v103
  let c4_i32_23 : BitVec 32 := 4#32
  let v42 : BitVec 1 := Scalar.cmpi .slt v39 c4_i32_23
  let c7_i32_24 : BitVec 32 := 7#32
  let v43 : BitVec 32 := Scalar.subi c7_i32_24 v39
  let v44 : BitVec 32 := Scalar.select v42 v39 v43
  let c4_i32_68 : BitVec 32 := 4#32
  let v105 : BitVec 32 := Scalar.muli v44 c4_i32_68
  let v106 : BitVec 32 := Scalar.addi v104 v105
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_69 : BitVec 32 := 1#32
  let v107 : BitVec 32 := Scalar.muli v8 c1_i32_69
  let v108 : BitVec 32 := Scalar.addi v106 v107
  v108.toNat
def k0_off1 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c128_i32 : BitVec 32 := 128#32
  let v12 : BitVec 32 := Scalar.muli v11 c128_i32
  let v109 : Index := Scalar.indexCast v12
  let c0 : Index := 0#32
  ![v109.toNat, 0]
def k0_off2 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c128_i32 : BitVec 32 := 128#32
  let v12 : BitVec 32 := Scalar.muli v11 c128_i32
  let v115 : Index := Scalar.indexCast v12
  let c0_72 : Index := 0#32
  ![v115.toNat, 0]
def k0_off3 (d0 : Dev nD) (c1_i32_73 : BitVec 32) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v117 : BitVec 32 := Scalar.addi v8 c1_i32_73
  let c4_i32_74 : BitVec 32 := 4#32
  let c0_i32_75 : BitVec 32 := 0#32
  let v118 : BitVec 1 := Scalar.cmpi .eq c4_i32_74 c0_i32_75
  let c1_i32_76 : BitVec 32 := 1#32
  let v119 : BitVec 32 := Scalar.select v118 c1_i32_76 c4_i32_74
  let v120 : BitVec 32 := Scalar.remsi v117 v119
  let c0_i32_78 : BitVec 32 := 0#32
  let v122 : BitVec 1 := Scalar.cmpi .slt v120 c0_i32_78
  let c0_i32_79 : BitVec 32 := 0#32
  let v123 : BitVec 1 := Scalar.cmpi .slt v119 c0_i32_79
  let v124 : BitVec 1 := Scalar.xori v122 v123
  let c0_i32_77 : BitVec 32 := 0#32
  let v121 : BitVec 1 := Scalar.cmpi .ne v120 c0_i32_77
  let v125 : BitVec 1 := Scalar.andi v124 v121
  let v126 : BitVec 32 := Scalar.addi v120 v119
  let v127 : BitVec 32 := Scalar.select v125 v126 v120
  let v128 : BitVec 32 := Scalar.subi v8 v127
  let c1_i32_80 : BitVec 32 := 1#32
  let v129 : BitVec 32 := Scalar.subi v128 c1_i32_80
  let c4_i32_81 : BitVec 32 := 4#32
  let c0_i32_82 : BitVec 32 := 0#32
  let v130 : BitVec 1 := Scalar.cmpi .eq c4_i32_81 c0_i32_82
  let c1_i32_83 : BitVec 32 := 1#32
  let v131 : BitVec 32 := Scalar.select v130 c1_i32_83 c4_i32_81
  let v132 : BitVec 32 := Scalar.remsi v129 v131
  let c0_i32_85 : BitVec 32 := 0#32
  let v134 : BitVec 1 := Scalar.cmpi .slt v132 c0_i32_85
  let c0_i32_86 : BitVec 32 := 0#32
  let v135 : BitVec 1 := Scalar.cmpi .slt v131 c0_i32_86
  let v136 : BitVec 1 := Scalar.xori v134 v135
  let c0_i32_84 : BitVec 32 := 0#32
  let v133 : BitVec 1 := Scalar.cmpi .ne v132 c0_i32_84
  let v137 : BitVec 1 := Scalar.andi v136 v133
  let v138 : BitVec 32 := Scalar.addi v132 v131
  let v139 : BitVec 32 := Scalar.select v137 v138 v132
  ![v139.toNat]
def k0_off4 (d0 : Dev nD) (c1_i32_73 : BitVec 32) : Fin 3 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v117 : BitVec 32 := Scalar.addi v8 c1_i32_73
  let c4_i32_74 : BitVec 32 := 4#32
  let c0_i32_75 : BitVec 32 := 0#32
  let v118 : BitVec 1 := Scalar.cmpi .eq c4_i32_74 c0_i32_75
  let c1_i32_76 : BitVec 32 := 1#32
  let v119 : BitVec 32 := Scalar.select v118 c1_i32_76 c4_i32_74
  let v120 : BitVec 32 := Scalar.remsi v117 v119
  let c0_i32_78 : BitVec 32 := 0#32
  let v122 : BitVec 1 := Scalar.cmpi .slt v120 c0_i32_78
  let c0_i32_79 : BitVec 32 := 0#32
  let v123 : BitVec 1 := Scalar.cmpi .slt v119 c0_i32_79
  let v124 : BitVec 1 := Scalar.xori v122 v123
  let c0_i32_77 : BitVec 32 := 0#32
  let v121 : BitVec 1 := Scalar.cmpi .ne v120 c0_i32_77
  let v125 : BitVec 1 := Scalar.andi v124 v121
  let v126 : BitVec 32 := Scalar.addi v120 v119
  let v127 : BitVec 32 := Scalar.select v125 v126 v120
  let v128 : BitVec 32 := Scalar.subi v8 v127
  let c1_i32_80 : BitVec 32 := 1#32
  let v129 : BitVec 32 := Scalar.subi v128 c1_i32_80
  let c4_i32_81 : BitVec 32 := 4#32
  let c0_i32_82 : BitVec 32 := 0#32
  let v130 : BitVec 1 := Scalar.cmpi .eq c4_i32_81 c0_i32_82
  let c1_i32_83 : BitVec 32 := 1#32
  let v131 : BitVec 32 := Scalar.select v130 c1_i32_83 c4_i32_81
  let v132 : BitVec 32 := Scalar.remsi v129 v131
  let c0_i32_85 : BitVec 32 := 0#32
  let v134 : BitVec 1 := Scalar.cmpi .slt v132 c0_i32_85
  let c0_i32_86 : BitVec 32 := 0#32
  let v135 : BitVec 1 := Scalar.cmpi .slt v131 c0_i32_86
  let v136 : BitVec 1 := Scalar.xori v134 v135
  let c0_i32_84 : BitVec 32 := 0#32
  let v133 : BitVec 1 := Scalar.cmpi .ne v132 c0_i32_84
  let v137 : BitVec 1 := Scalar.andi v136 v133
  let v138 : BitVec 32 := Scalar.addi v132 v131
  let v139 : BitVec 32 := Scalar.select v137 v138 v132
  let c0_i32_92 : BitVec 32 := 0#32
  let c0_i32_93 : BitVec 32 := 0#32
  ![v139.toNat, 0, 0]
def k0_off5 (d0 : Dev nD) (c1_i32_73 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c128_i32 : BitVec 32 := 128#32
  let v12 : BitVec 32 := Scalar.muli v11 c128_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v117 : BitVec 32 := Scalar.addi v8 c1_i32_73
  let c4_i32_74 : BitVec 32 := 4#32
  let c0_i32_75 : BitVec 32 := 0#32
  let v118 : BitVec 1 := Scalar.cmpi .eq c4_i32_74 c0_i32_75
  let c1_i32_76 : BitVec 32 := 1#32
  let v119 : BitVec 32 := Scalar.select v118 c1_i32_76 c4_i32_74
  let v120 : BitVec 32 := Scalar.remsi v117 v119
  let c0_i32_78 : BitVec 32 := 0#32
  let v122 : BitVec 1 := Scalar.cmpi .slt v120 c0_i32_78
  let c0_i32_79 : BitVec 32 := 0#32
  let v123 : BitVec 1 := Scalar.cmpi .slt v119 c0_i32_79
  let v124 : BitVec 1 := Scalar.xori v122 v123
  let c0_i32_77 : BitVec 32 := 0#32
  let v121 : BitVec 1 := Scalar.cmpi .ne v120 c0_i32_77
  let v125 : BitVec 1 := Scalar.andi v124 v121
  let v126 : BitVec 32 := Scalar.addi v120 v119
  let v127 : BitVec 32 := Scalar.select v125 v126 v120
  let c32_i32 : BitVec 32 := 32#32
  let v140 : BitVec 32 := Scalar.muli v127 c32_i32
  let v141 : BitVec 32 := Scalar.addi v12 v140
  let c0_i32_94 : BitVec 32 := 0#32
  ![v141.toNat, 0]
def k0_dev6 (d0 : Dev nD) : Nat :=
  let c0_i32_89 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_88 : BitVec 32 := 16#32
  let v142 : BitVec 32 := Scalar.muli v2 c16_i32_88
  let v143 : BitVec 32 := Scalar.addi c0_i32_89 v142
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_90 : BitVec 32 := 4#32
  let v144 : BitVec 32 := Scalar.muli v5 c4_i32_90
  let v145 : BitVec 32 := Scalar.addi v143 v144
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_73 : BitVec 32 := 1#32
  let v117 : BitVec 32 := Scalar.addi v8 c1_i32_73
  let c4_i32_74 : BitVec 32 := 4#32
  let c0_i32_75 : BitVec 32 := 0#32
  let v118 : BitVec 1 := Scalar.cmpi .eq c4_i32_74 c0_i32_75
  let c1_i32_76 : BitVec 32 := 1#32
  let v119 : BitVec 32 := Scalar.select v118 c1_i32_76 c4_i32_74
  let v120 : BitVec 32 := Scalar.remsi v117 v119
  let c0_i32_78 : BitVec 32 := 0#32
  let v122 : BitVec 1 := Scalar.cmpi .slt v120 c0_i32_78
  let c0_i32_79 : BitVec 32 := 0#32
  let v123 : BitVec 1 := Scalar.cmpi .slt v119 c0_i32_79
  let v124 : BitVec 1 := Scalar.xori v122 v123
  let c0_i32_77 : BitVec 32 := 0#32
  let v121 : BitVec 1 := Scalar.cmpi .ne v120 c0_i32_77
  let v125 : BitVec 1 := Scalar.andi v124 v121
  let v126 : BitVec 32 := Scalar.addi v120 v119
  let v127 : BitVec 32 := Scalar.select v125 v126 v120
  let c1_i32_91 : BitVec 32 := 1#32
  let v146 : BitVec 32 := Scalar.muli v127 c1_i32_91
  let v147 : BitVec 32 := Scalar.addi v145 v146
  v147.toNat
def k0_dev7 (d0 : Dev nD) : Nat :=
  let c0_i32_112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_111 : BitVec 32 := 16#32
  let v180 : BitVec 32 := Scalar.muli v2 c16_i32_111
  let v181 : BitVec 32 := Scalar.addi c0_i32_112 v180
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_113 : BitVec 32 := 4#32
  let v182 : BitVec 32 := Scalar.muli v5 c4_i32_113
  let v183 : BitVec 32 := Scalar.addi v181 v182
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_95 : BitVec 32 := 2#32
  let v155 : BitVec 32 := Scalar.addi v8 c2_i32_95
  let c4_i32_96 : BitVec 32 := 4#32
  let c0_i32_97 : BitVec 32 := 0#32
  let v156 : BitVec 1 := Scalar.cmpi .eq c4_i32_96 c0_i32_97
  let c1_i32_98 : BitVec 32 := 1#32
  let v157 : BitVec 32 := Scalar.select v156 c1_i32_98 c4_i32_96
  let v158 : BitVec 32 := Scalar.remsi v155 v157
  let c0_i32_100 : BitVec 32 := 0#32
  let v160 : BitVec 1 := Scalar.cmpi .slt v158 c0_i32_100
  let c0_i32_101 : BitVec 32 := 0#32
  let v161 : BitVec 1 := Scalar.cmpi .slt v157 c0_i32_101
  let v162 : BitVec 1 := Scalar.xori v160 v161
  let c0_i32_99 : BitVec 32 := 0#32
  let v159 : BitVec 1 := Scalar.cmpi .ne v158 c0_i32_99
  let v163 : BitVec 1 := Scalar.andi v162 v159
  let v164 : BitVec 32 := Scalar.addi v158 v157
  let v165 : BitVec 32 := Scalar.select v163 v164 v158
  let c1_i32_114 : BitVec 32 := 1#32
  let v184 : BitVec 32 := Scalar.muli v165 c1_i32_114
  let v185 : BitVec 32 := Scalar.addi v183 v184
  v185.toNat
def k0_dev8 (d0 : Dev nD) : Nat :=
  let c0_i32_135 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_134 : BitVec 32 := 16#32
  let v218 : BitVec 32 := Scalar.muli v2 c16_i32_134
  let v219 : BitVec 32 := Scalar.addi c0_i32_135 v218
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_136 : BitVec 32 := 4#32
  let v220 : BitVec 32 := Scalar.muli v5 c4_i32_136
  let v221 : BitVec 32 := Scalar.addi v219 v220
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_118 : BitVec 32 := 3#32
  let v193 : BitVec 32 := Scalar.addi v8 c3_i32_118
  let c4_i32_119 : BitVec 32 := 4#32
  let c0_i32_120 : BitVec 32 := 0#32
  let v194 : BitVec 1 := Scalar.cmpi .eq c4_i32_119 c0_i32_120
  let c1_i32_121 : BitVec 32 := 1#32
  let v195 : BitVec 32 := Scalar.select v194 c1_i32_121 c4_i32_119
  let v196 : BitVec 32 := Scalar.remsi v193 v195
  let c0_i32_123 : BitVec 32 := 0#32
  let v198 : BitVec 1 := Scalar.cmpi .slt v196 c0_i32_123
  let c0_i32_124 : BitVec 32 := 0#32
  let v199 : BitVec 1 := Scalar.cmpi .slt v195 c0_i32_124
  let v200 : BitVec 1 := Scalar.xori v198 v199
  let c0_i32_122 : BitVec 32 := 0#32
  let v197 : BitVec 1 := Scalar.cmpi .ne v196 c0_i32_122
  let v201 : BitVec 1 := Scalar.andi v200 v197
  let v202 : BitVec 32 := Scalar.addi v196 v195
  let v203 : BitVec 32 := Scalar.select v201 v202 v196
  let c1_i32_137 : BitVec 32 := 1#32
  let v222 : BitVec 32 := Scalar.muli v203 c1_i32_137
  let v223 : BitVec 32 := Scalar.addi v221 v222
  v223.toNat
def k0_off6 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c128_i32 : BitVec 32 := 128#32
  let v12 : BitVec 32 := Scalar.muli v11 c128_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c32_i32_165 : BitVec 32 := 32#32
  let v264 : BitVec 32 := Scalar.muli v8 c32_i32_165
  let v265 : BitVec 32 := Scalar.addi v12 v264
  let v266 : Index := Scalar.indexCast v265
  let c0_166 : Index := 0#32
  ![v266.toNat, 0]
def k0_off7 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c128_i32 : BitVec 32 := 128#32
  let v12 : BitVec 32 := Scalar.muli v11 c128_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c32_i32_175 : BitVec 32 := 32#32
  let v280 : BitVec 32 := Scalar.muli v8 c32_i32_175
  let v281 : BitVec 32 := Scalar.addi v12 v280
  let c0_i32_185 : BitVec 32 := 0#32
  ![v281.toNat, 0]
def k0_dev9 (d0 : Dev nD) : Nat :=
  let c0_i32_180 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_2 : BitVec 32 := 1#32
  let v13 : BitVec 32 := Scalar.addi v11 c1_i32_2
  let c8_i32 : BitVec 32 := 8#32
  let c0_i32_3 : BitVec 32 := 0#32
  let v14 : BitVec 1 := Scalar.cmpi .eq c8_i32 c0_i32_3
  let c1_i32_4 : BitVec 32 := 1#32
  let v15 : BitVec 32 := Scalar.select v14 c1_i32_4 c8_i32
  let v16 : BitVec 32 := Scalar.remsi v13 v15
  let c0_i32_6 : BitVec 32 := 0#32
  let v18 : BitVec 1 := Scalar.cmpi .slt v16 c0_i32_6
  let c0_i32_7 : BitVec 32 := 0#32
  let v19 : BitVec 1 := Scalar.cmpi .slt v15 c0_i32_7
  let v20 : BitVec 1 := Scalar.xori v18 v19
  let c0_i32_5 : BitVec 32 := 0#32
  let v17 : BitVec 1 := Scalar.cmpi .ne v16 c0_i32_5
  let v21 : BitVec 1 := Scalar.andi v20 v17
  let v22 : BitVec 32 := Scalar.addi v16 v15
  let v23 : BitVec 32 := Scalar.select v21 v22 v16
  let c4_i32_8 : BitVec 32 := 4#32
  let v24 : BitVec 1 := Scalar.cmpi .slt v23 c4_i32_8
  let c0_i32_9 : BitVec 32 := 0#32
  let c1_i32_10 : BitVec 32 := 1#32
  let v25 : BitVec 32 := Scalar.select v24 c0_i32_9 c1_i32_10
  let c16_i32_179 : BitVec 32 := 16#32
  let v282 : BitVec 32 := Scalar.muli v25 c16_i32_179
  let v283 : BitVec 32 := Scalar.addi c0_i32_180 v282
  let c4_i32_11 : BitVec 32 := 4#32
  let v26 : BitVec 1 := Scalar.cmpi .slt v23 c4_i32_11
  let c7_i32_12 : BitVec 32 := 7#32
  let v27 : BitVec 32 := Scalar.subi c7_i32_12 v23
  let v28 : BitVec 32 := Scalar.select v26 v23 v27
  let c4_i32_181 : BitVec 32 := 4#32
  let v284 : BitVec 32 := Scalar.muli v28 c4_i32_181
  let v285 : BitVec 32 := Scalar.addi v283 v284
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_182 : BitVec 32 := 1#32
  let v286 : BitVec 32 := Scalar.muli v8 c1_i32_182
  let v287 : BitVec 32 := Scalar.addi v285 v286
  v287.toNat
def k0_dev10 (d0 : Dev nD) : Nat :=
  let c0_i32_190 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_13 : BitVec 32 := 1#32
  let v29 : BitVec 32 := Scalar.subi v11 c1_i32_13
  let c8_i32_14 : BitVec 32 := 8#32
  let c0_i32_15 : BitVec 32 := 0#32
  let v30 : BitVec 1 := Scalar.cmpi .eq c8_i32_14 c0_i32_15
  let c1_i32_16 : BitVec 32 := 1#32
  let v31 : BitVec 32 := Scalar.select v30 c1_i32_16 c8_i32_14
  let v32 : BitVec 32 := Scalar.remsi v29 v31
  let c0_i32_18 : BitVec 32 := 0#32
  let v34 : BitVec 1 := Scalar.cmpi .slt v32 c0_i32_18
  let c0_i32_19 : BitVec 32 := 0#32
  let v35 : BitVec 1 := Scalar.cmpi .slt v31 c0_i32_19
  let v36 : BitVec 1 := Scalar.xori v34 v35
  let c0_i32_17 : BitVec 32 := 0#32
  let v33 : BitVec 1 := Scalar.cmpi .ne v32 c0_i32_17
  let v37 : BitVec 1 := Scalar.andi v36 v33
  let v38 : BitVec 32 := Scalar.addi v32 v31
  let v39 : BitVec 32 := Scalar.select v37 v38 v32
  let c4_i32_20 : BitVec 32 := 4#32
  let v40 : BitVec 1 := Scalar.cmpi .slt v39 c4_i32_20
  let c0_i32_21 : BitVec 32 := 0#32
  let c1_i32_22 : BitVec 32 := 1#32
  let v41 : BitVec 32 := Scalar.select v40 c0_i32_21 c1_i32_22
  let c16_i32_189 : BitVec 32 := 16#32
  let v295 : BitVec 32 := Scalar.muli v41 c16_i32_189
  let v296 : BitVec 32 := Scalar.addi c0_i32_190 v295
  let c4_i32_23 : BitVec 32 := 4#32
  let v42 : BitVec 1 := Scalar.cmpi .slt v39 c4_i32_23
  let c7_i32_24 : BitVec 32 := 7#32
  let v43 : BitVec 32 := Scalar.subi c7_i32_24 v39
  let v44 : BitVec 32 := Scalar.select v42 v39 v43
  let c4_i32_191 : BitVec 32 := 4#32
  let v297 : BitVec 32 := Scalar.muli v44 c4_i32_191
  let v298 : BitVec 32 := Scalar.addi v296 v297
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_192 : BitVec 32 := 1#32
  let v299 : BitVec 32 := Scalar.muli v8 c1_i32_192
  let v300 : BitVec 32 := Scalar.addi v298 v299
  v300.toNat
def k0_dev11 (d0 : Dev nD) : Nat :=
  let c0_i32_213 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_212 : BitVec 32 := 16#32
  let v333 : BitVec 32 := Scalar.muli v2 c16_i32_212
  let v334 : BitVec 32 := Scalar.addi c0_i32_213 v333
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_214 : BitVec 32 := 4#32
  let v335 : BitVec 32 := Scalar.muli v5 c4_i32_214
  let v336 : BitVec 32 := Scalar.addi v334 v335
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_196 : BitVec 32 := 1#32
  let v308 : BitVec 32 := Scalar.addi v8 c1_i32_196
  let c4_i32_197 : BitVec 32 := 4#32
  let c0_i32_198 : BitVec 32 := 0#32
  let v309 : BitVec 1 := Scalar.cmpi .eq c4_i32_197 c0_i32_198
  let c1_i32_199 : BitVec 32 := 1#32
  let v310 : BitVec 32 := Scalar.select v309 c1_i32_199 c4_i32_197
  let v311 : BitVec 32 := Scalar.remsi v308 v310
  let c0_i32_201 : BitVec 32 := 0#32
  let v313 : BitVec 1 := Scalar.cmpi .slt v311 c0_i32_201
  let c0_i32_202 : BitVec 32 := 0#32
  let v314 : BitVec 1 := Scalar.cmpi .slt v310 c0_i32_202
  let v315 : BitVec 1 := Scalar.xori v313 v314
  let c0_i32_200 : BitVec 32 := 0#32
  let v312 : BitVec 1 := Scalar.cmpi .ne v311 c0_i32_200
  let v316 : BitVec 1 := Scalar.andi v315 v312
  let v317 : BitVec 32 := Scalar.addi v311 v310
  let v318 : BitVec 32 := Scalar.select v316 v317 v311
  let c1_i32_215 : BitVec 32 := 1#32
  let v337 : BitVec 32 := Scalar.muli v318 c1_i32_215
  let v338 : BitVec 32 := Scalar.addi v336 v337
  v338.toNat
def k0_dev12 (d0 : Dev nD) : Nat :=
  let c0_i32_236 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_235 : BitVec 32 := 16#32
  let v371 : BitVec 32 := Scalar.muli v2 c16_i32_235
  let v372 : BitVec 32 := Scalar.addi c0_i32_236 v371
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_237 : BitVec 32 := 4#32
  let v373 : BitVec 32 := Scalar.muli v5 c4_i32_237
  let v374 : BitVec 32 := Scalar.addi v372 v373
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_219 : BitVec 32 := 2#32
  let v346 : BitVec 32 := Scalar.addi v8 c2_i32_219
  let c4_i32_220 : BitVec 32 := 4#32
  let c0_i32_221 : BitVec 32 := 0#32
  let v347 : BitVec 1 := Scalar.cmpi .eq c4_i32_220 c0_i32_221
  let c1_i32_222 : BitVec 32 := 1#32
  let v348 : BitVec 32 := Scalar.select v347 c1_i32_222 c4_i32_220
  let v349 : BitVec 32 := Scalar.remsi v346 v348
  let c0_i32_224 : BitVec 32 := 0#32
  let v351 : BitVec 1 := Scalar.cmpi .slt v349 c0_i32_224
  let c0_i32_225 : BitVec 32 := 0#32
  let v352 : BitVec 1 := Scalar.cmpi .slt v348 c0_i32_225
  let v353 : BitVec 1 := Scalar.xori v351 v352
  let c0_i32_223 : BitVec 32 := 0#32
  let v350 : BitVec 1 := Scalar.cmpi .ne v349 c0_i32_223
  let v354 : BitVec 1 := Scalar.andi v353 v350
  let v355 : BitVec 32 := Scalar.addi v349 v348
  let v356 : BitVec 32 := Scalar.select v354 v355 v349
  let c1_i32_238 : BitVec 32 := 1#32
  let v375 : BitVec 32 := Scalar.muli v356 c1_i32_238
  let v376 : BitVec 32 := Scalar.addi v374 v375
  v376.toNat
def k0_dev13 (d0 : Dev nD) : Nat :=
  let c0_i32_259 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_258 : BitVec 32 := 16#32
  let v409 : BitVec 32 := Scalar.muli v2 c16_i32_258
  let v410 : BitVec 32 := Scalar.addi c0_i32_259 v409
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_260 : BitVec 32 := 4#32
  let v411 : BitVec 32 := Scalar.muli v5 c4_i32_260
  let v412 : BitVec 32 := Scalar.addi v410 v411
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_242 : BitVec 32 := 3#32
  let v384 : BitVec 32 := Scalar.addi v8 c3_i32_242
  let c4_i32_243 : BitVec 32 := 4#32
  let c0_i32_244 : BitVec 32 := 0#32
  let v385 : BitVec 1 := Scalar.cmpi .eq c4_i32_243 c0_i32_244
  let c1_i32_245 : BitVec 32 := 1#32
  let v386 : BitVec 32 := Scalar.select v385 c1_i32_245 c4_i32_243
  let v387 : BitVec 32 := Scalar.remsi v384 v386
  let c0_i32_247 : BitVec 32 := 0#32
  let v389 : BitVec 1 := Scalar.cmpi .slt v387 c0_i32_247
  let c0_i32_248 : BitVec 32 := 0#32
  let v390 : BitVec 1 := Scalar.cmpi .slt v386 c0_i32_248
  let v391 : BitVec 1 := Scalar.xori v389 v390
  let c0_i32_246 : BitVec 32 := 0#32
  let v388 : BitVec 1 := Scalar.cmpi .ne v387 c0_i32_246
  let v392 : BitVec 1 := Scalar.andi v391 v388
  let v393 : BitVec 32 := Scalar.addi v387 v386
  let v394 : BitVec 32 := Scalar.select v392 v393 v387
  let c1_i32_261 : BitVec 32 := 1#32
  let v413 : BitVec 32 := Scalar.muli v394 c1_i32_261
  let v414 : BitVec 32 := Scalar.addi v412 v413
  v414.toNat
def k0_dev14 (d0 : Dev nD) : Nat :=
  let c0_i32_296 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_2 : BitVec 32 := 1#32
  let v13 : BitVec 32 := Scalar.addi v11 c1_i32_2
  let c8_i32 : BitVec 32 := 8#32
  let c0_i32_3 : BitVec 32 := 0#32
  let v14 : BitVec 1 := Scalar.cmpi .eq c8_i32 c0_i32_3
  let c1_i32_4 : BitVec 32 := 1#32
  let v15 : BitVec 32 := Scalar.select v14 c1_i32_4 c8_i32
  let v16 : BitVec 32 := Scalar.remsi v13 v15
  let c0_i32_6 : BitVec 32 := 0#32
  let v18 : BitVec 1 := Scalar.cmpi .slt v16 c0_i32_6
  let c0_i32_7 : BitVec 32 := 0#32
  let v19 : BitVec 1 := Scalar.cmpi .slt v15 c0_i32_7
  let v20 : BitVec 1 := Scalar.xori v18 v19
  let c0_i32_5 : BitVec 32 := 0#32
  let v17 : BitVec 1 := Scalar.cmpi .ne v16 c0_i32_5
  let v21 : BitVec 1 := Scalar.andi v20 v17
  let v22 : BitVec 32 := Scalar.addi v16 v15
  let v23 : BitVec 32 := Scalar.select v21 v22 v16
  let c4_i32_8 : BitVec 32 := 4#32
  let v24 : BitVec 1 := Scalar.cmpi .slt v23 c4_i32_8
  let c0_i32_9 : BitVec 32 := 0#32
  let c1_i32_10 : BitVec 32 := 1#32
  let v25 : BitVec 32 := Scalar.select v24 c0_i32_9 c1_i32_10
  let c16_i32_295 : BitVec 32 := 16#32
  let v450 : BitVec 32 := Scalar.muli v25 c16_i32_295
  let v451 : BitVec 32 := Scalar.addi c0_i32_296 v450
  let c4_i32_11 : BitVec 32 := 4#32
  let v26 : BitVec 1 := Scalar.cmpi .slt v23 c4_i32_11
  let c7_i32_12 : BitVec 32 := 7#32
  let v27 : BitVec 32 := Scalar.subi c7_i32_12 v23
  let v28 : BitVec 32 := Scalar.select v26 v23 v27
  let c4_i32_297 : BitVec 32 := 4#32
  let v452 : BitVec 32 := Scalar.muli v28 c4_i32_297
  let v453 : BitVec 32 := Scalar.addi v451 v452
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_298 : BitVec 32 := 1#32
  let v454 : BitVec 32 := Scalar.muli v8 c1_i32_298
  let v455 : BitVec 32 := Scalar.addi v453 v454
  v455.toNat
def k0_dev15 (d0 : Dev nD) : Nat :=
  let c0_i32_308 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_13 : BitVec 32 := 1#32
  let v29 : BitVec 32 := Scalar.subi v11 c1_i32_13
  let c8_i32_14 : BitVec 32 := 8#32
  let c0_i32_15 : BitVec 32 := 0#32
  let v30 : BitVec 1 := Scalar.cmpi .eq c8_i32_14 c0_i32_15
  let c1_i32_16 : BitVec 32 := 1#32
  let v31 : BitVec 32 := Scalar.select v30 c1_i32_16 c8_i32_14
  let v32 : BitVec 32 := Scalar.remsi v29 v31
  let c0_i32_18 : BitVec 32 := 0#32
  let v34 : BitVec 1 := Scalar.cmpi .slt v32 c0_i32_18
  let c0_i32_19 : BitVec 32 := 0#32
  let v35 : BitVec 1 := Scalar.cmpi .slt v31 c0_i32_19
  let v36 : BitVec 1 := Scalar.xori v34 v35
  let c0_i32_17 : BitVec 32 := 0#32
  let v33 : BitVec 1 := Scalar.cmpi .ne v32 c0_i32_17
  let v37 : BitVec 1 := Scalar.andi v36 v33
  let v38 : BitVec 32 := Scalar.addi v32 v31
  let v39 : BitVec 32 := Scalar.select v37 v38 v32
  let c4_i32_20 : BitVec 32 := 4#32
  let v40 : BitVec 1 := Scalar.cmpi .slt v39 c4_i32_20
  let c0_i32_21 : BitVec 32 := 0#32
  let c1_i32_22 : BitVec 32 := 1#32
  let v41 : BitVec 32 := Scalar.select v40 c0_i32_21 c1_i32_22
  let c16_i32_307 : BitVec 32 := 16#32
  let v464 : BitVec 32 := Scalar.muli v41 c16_i32_307
  let v465 : BitVec 32 := Scalar.addi c0_i32_308 v464
  let c4_i32_23 : BitVec 32 := 4#32
  let v42 : BitVec 1 := Scalar.cmpi .slt v39 c4_i32_23
  let c7_i32_24 : BitVec 32 := 7#32
  let v43 : BitVec 32 := Scalar.subi c7_i32_24 v39
  let v44 : BitVec 32 := Scalar.select v42 v39 v43
  let c4_i32_309 : BitVec 32 := 4#32
  let v466 : BitVec 32 := Scalar.muli v44 c4_i32_309
  let v467 : BitVec 32 := Scalar.addi v465 v466
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_310 : BitVec 32 := 1#32
  let v468 : BitVec 32 := Scalar.muli v8 c1_i32_310
  let v469 : BitVec 32 := Scalar.addi v467 v468
  v469.toNat
def k0_off8 (d0 : Dev nD) (c1_i32_315 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c128_i32 : BitVec 32 := 128#32
  let v12 : BitVec 32 := Scalar.muli v11 c128_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v478 : BitVec 32 := Scalar.addi v8 c1_i32_315
  let c4_i32_316 : BitVec 32 := 4#32
  let c0_i32_317 : BitVec 32 := 0#32
  let v479 : BitVec 1 := Scalar.cmpi .eq c4_i32_316 c0_i32_317
  let c1_i32_318 : BitVec 32 := 1#32
  let v480 : BitVec 32 := Scalar.select v479 c1_i32_318 c4_i32_316
  let v481 : BitVec 32 := Scalar.remsi v478 v480
  let c0_i32_320 : BitVec 32 := 0#32
  let v483 : BitVec 1 := Scalar.cmpi .slt v481 c0_i32_320
  let c0_i32_321 : BitVec 32 := 0#32
  let v484 : BitVec 1 := Scalar.cmpi .slt v480 c0_i32_321
  let v485 : BitVec 1 := Scalar.xori v483 v484
  let c0_i32_319 : BitVec 32 := 0#32
  let v482 : BitVec 1 := Scalar.cmpi .ne v481 c0_i32_319
  let v486 : BitVec 1 := Scalar.andi v485 v482
  let v487 : BitVec 32 := Scalar.addi v481 v480
  let v488 : BitVec 32 := Scalar.select v486 v487 v481
  let c32_i32_325 : BitVec 32 := 32#32
  let v491 : BitVec 32 := Scalar.muli v488 c32_i32_325
  let v492 : BitVec 32 := Scalar.addi v12 v491
  let v493 : Index := Scalar.indexCast v492
  let c0_326 : Index := 0#32
  ![v493.toNat, 0]
def k0_dev16 (d0 : Dev nD) : Nat :=
  let c0_i32_343 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_2 : BitVec 32 := 1#32
  let v13 : BitVec 32 := Scalar.addi v11 c1_i32_2
  let c8_i32 : BitVec 32 := 8#32
  let c0_i32_3 : BitVec 32 := 0#32
  let v14 : BitVec 1 := Scalar.cmpi .eq c8_i32 c0_i32_3
  let c1_i32_4 : BitVec 32 := 1#32
  let v15 : BitVec 32 := Scalar.select v14 c1_i32_4 c8_i32
  let v16 : BitVec 32 := Scalar.remsi v13 v15
  let c0_i32_6 : BitVec 32 := 0#32
  let v18 : BitVec 1 := Scalar.cmpi .slt v16 c0_i32_6
  let c0_i32_7 : BitVec 32 := 0#32
  let v19 : BitVec 1 := Scalar.cmpi .slt v15 c0_i32_7
  let v20 : BitVec 1 := Scalar.xori v18 v19
  let c0_i32_5 : BitVec 32 := 0#32
  let v17 : BitVec 1 := Scalar.cmpi .ne v16 c0_i32_5
  let v21 : BitVec 1 := Scalar.andi v20 v17
  let v22 : BitVec 32 := Scalar.addi v16 v15
  let v23 : BitVec 32 := Scalar.select v21 v22 v16
  let c4_i32_8 : BitVec 32 := 4#32
  let v24 : BitVec 1 := Scalar.cmpi .slt v23 c4_i32_8
  let c0_i32_9 : BitVec 32 := 0#32
  let c1_i32_10 : BitVec 32 := 1#32
  let v25 : BitVec 32 := Scalar.select v24 c0_i32_9 c1_i32_10
  let c16_i32_342 : BitVec 32 := 16#32
  let v508 : BitVec 32 := Scalar.muli v25 c16_i32_342
  let v509 : BitVec 32 := Scalar.addi c0_i32_343 v508
  let c4_i32_11 : BitVec 32 := 4#32
  let v26 : BitVec 1 := Scalar.cmpi .slt v23 c4_i32_11
  let c7_i32_12 : BitVec 32 := 7#32
  let v27 : BitVec 32 := Scalar.subi c7_i32_12 v23
  let v28 : BitVec 32 := Scalar.select v26 v23 v27
  let c4_i32_344 : BitVec 32 := 4#32
  let v510 : BitVec 32 := Scalar.muli v28 c4_i32_344
  let v511 : BitVec 32 := Scalar.addi v509 v510
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_345 : BitVec 32 := 1#32
  let v512 : BitVec 32 := Scalar.muli v8 c1_i32_345
  let v513 : BitVec 32 := Scalar.addi v511 v512
  v513.toNat
def k0_dev17 (d0 : Dev nD) : Nat :=
  let c0_i32_354 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_13 : BitVec 32 := 1#32
  let v29 : BitVec 32 := Scalar.subi v11 c1_i32_13
  let c8_i32_14 : BitVec 32 := 8#32
  let c0_i32_15 : BitVec 32 := 0#32
  let v30 : BitVec 1 := Scalar.cmpi .eq c8_i32_14 c0_i32_15
  let c1_i32_16 : BitVec 32 := 1#32
  let v31 : BitVec 32 := Scalar.select v30 c1_i32_16 c8_i32_14
  let v32 : BitVec 32 := Scalar.remsi v29 v31
  let c0_i32_18 : BitVec 32 := 0#32
  let v34 : BitVec 1 := Scalar.cmpi .slt v32 c0_i32_18
  let c0_i32_19 : BitVec 32 := 0#32
  let v35 : BitVec 1 := Scalar.cmpi .slt v31 c0_i32_19
  let v36 : BitVec 1 := Scalar.xori v34 v35
  let c0_i32_17 : BitVec 32 := 0#32
  let v33 : BitVec 1 := Scalar.cmpi .ne v32 c0_i32_17
  let v37 : BitVec 1 := Scalar.andi v36 v33
  let v38 : BitVec 32 := Scalar.addi v32 v31
  let v39 : BitVec 32 := Scalar.select v37 v38 v32
  let c4_i32_20 : BitVec 32 := 4#32
  let v40 : BitVec 1 := Scalar.cmpi .slt v39 c4_i32_20
  let c0_i32_21 : BitVec 32 := 0#32
  let c1_i32_22 : BitVec 32 := 1#32
  let v41 : BitVec 32 := Scalar.select v40 c0_i32_21 c1_i32_22
  let c16_i32_353 : BitVec 32 := 16#32
  let v522 : BitVec 32 := Scalar.muli v41 c16_i32_353
  let v523 : BitVec 32 := Scalar.addi c0_i32_354 v522
  let c4_i32_23 : BitVec 32 := 4#32
  let v42 : BitVec 1 := Scalar.cmpi .slt v39 c4_i32_23
  let c7_i32_24 : BitVec 32 := 7#32
  let v43 : BitVec 32 := Scalar.subi c7_i32_24 v39
  let v44 : BitVec 32 := Scalar.select v42 v39 v43
  let c4_i32_355 : BitVec 32 := 4#32
  let v524 : BitVec 32 := Scalar.muli v44 c4_i32_355
  let v525 : BitVec 32 := Scalar.addi v523 v524
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_356 : BitVec 32 := 1#32
  let v526 : BitVec 32 := Scalar.muli v8 c1_i32_356
  let v527 : BitVec 32 := Scalar.addi v525 v526
  v527.toNat
def k0_dev18 (d0 : Dev nD) : Nat :=
  let c0_i32_389 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_2 : BitVec 32 := 1#32
  let v13 : BitVec 32 := Scalar.addi v11 c1_i32_2
  let c8_i32 : BitVec 32 := 8#32
  let c0_i32_3 : BitVec 32 := 0#32
  let v14 : BitVec 1 := Scalar.cmpi .eq c8_i32 c0_i32_3
  let c1_i32_4 : BitVec 32 := 1#32
  let v15 : BitVec 32 := Scalar.select v14 c1_i32_4 c8_i32
  let v16 : BitVec 32 := Scalar.remsi v13 v15
  let c0_i32_6 : BitVec 32 := 0#32
  let v18 : BitVec 1 := Scalar.cmpi .slt v16 c0_i32_6
  let c0_i32_7 : BitVec 32 := 0#32
  let v19 : BitVec 1 := Scalar.cmpi .slt v15 c0_i32_7
  let v20 : BitVec 1 := Scalar.xori v18 v19
  let c0_i32_5 : BitVec 32 := 0#32
  let v17 : BitVec 1 := Scalar.cmpi .ne v16 c0_i32_5
  let v21 : BitVec 1 := Scalar.andi v20 v17
  let v22 : BitVec 32 := Scalar.addi v16 v15
  let v23 : BitVec 32 := Scalar.select v21 v22 v16
  let c4_i32_8 : BitVec 32 := 4#32
  let v24 : BitVec 1 := Scalar.cmpi .slt v23 c4_i32_8
  let c0_i32_9 : BitVec 32 := 0#32
  let c1_i32_10 : BitVec 32 := 1#32
  let v25 : BitVec 32 := Scalar.select v24 c0_i32_9 c1_i32_10
  let c16_i32_388 : BitVec 32 := 16#32
  let v566 : BitVec 32 := Scalar.muli v25 c16_i32_388
  let v567 : BitVec 32 := Scalar.addi c0_i32_389 v566
  let c4_i32_11 : BitVec 32 := 4#32
  let v26 : BitVec 1 := Scalar.cmpi .slt v23 c4_i32_11
  let c7_i32_12 : BitVec 32 := 7#32
  let v27 : BitVec 32 := Scalar.subi c7_i32_12 v23
  let v28 : BitVec 32 := Scalar.select v26 v23 v27
  let c4_i32_390 : BitVec 32 := 4#32
  let v568 : BitVec 32 := Scalar.muli v28 c4_i32_390
  let v569 : BitVec 32 := Scalar.addi v567 v568
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_391 : BitVec 32 := 1#32
  let v570 : BitVec 32 := Scalar.muli v8 c1_i32_391
  let v571 : BitVec 32 := Scalar.addi v569 v570
  v571.toNat
def k0_dev19 (d0 : Dev nD) : Nat :=
  let c0_i32_400 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_13 : BitVec 32 := 1#32
  let v29 : BitVec 32 := Scalar.subi v11 c1_i32_13
  let c8_i32_14 : BitVec 32 := 8#32
  let c0_i32_15 : BitVec 32 := 0#32
  let v30 : BitVec 1 := Scalar.cmpi .eq c8_i32_14 c0_i32_15
  let c1_i32_16 : BitVec 32 := 1#32
  let v31 : BitVec 32 := Scalar.select v30 c1_i32_16 c8_i32_14
  let v32 : BitVec 32 := Scalar.remsi v29 v31
  let c0_i32_18 : BitVec 32 := 0#32
  let v34 : BitVec 1 := Scalar.cmpi .slt v32 c0_i32_18
  let c0_i32_19 : BitVec 32 := 0#32
  let v35 : BitVec 1 := Scalar.cmpi .slt v31 c0_i32_19
  let v36 : BitVec 1 := Scalar.xori v34 v35
  let c0_i32_17 : BitVec 32 := 0#32
  let v33 : BitVec 1 := Scalar.cmpi .ne v32 c0_i32_17
  let v37 : BitVec 1 := Scalar.andi v36 v33
  let v38 : BitVec 32 := Scalar.addi v32 v31
  let v39 : BitVec 32 := Scalar.select v37 v38 v32
  let c4_i32_20 : BitVec 32 := 4#32
  let v40 : BitVec 1 := Scalar.cmpi .slt v39 c4_i32_20
  let c0_i32_21 : BitVec 32 := 0#32
  let c1_i32_22 : BitVec 32 := 1#32
  let v41 : BitVec 32 := Scalar.select v40 c0_i32_21 c1_i32_22
  let c16_i32_399 : BitVec 32 := 16#32
  let v580 : BitVec 32 := Scalar.muli v41 c16_i32_399
  let v581 : BitVec 32 := Scalar.addi c0_i32_400 v580
  let c4_i32_23 : BitVec 32 := 4#32
  let v42 : BitVec 1 := Scalar.cmpi .slt v39 c4_i32_23
  let c7_i32_24 : BitVec 32 := 7#32
  let v43 : BitVec 32 := Scalar.subi c7_i32_24 v39
  let v44 : BitVec 32 := Scalar.select v42 v39 v43
  let c4_i32_401 : BitVec 32 := 4#32
  let v582 : BitVec 32 := Scalar.muli v44 c4_i32_401
  let v583 : BitVec 32 := Scalar.addi v581 v582
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_402 : BitVec 32 := 1#32
  let v584 : BitVec 32 := Scalar.muli v8 c1_i32_402
  let v585 : BitVec 32 := Scalar.addi v583 v584
  v585.toNat
def k0_dev20 (d0 : Dev nD) : Nat :=
  let c0_i32_470 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_2 : BitVec 32 := 1#32
  let v13 : BitVec 32 := Scalar.addi v11 c1_i32_2
  let c8_i32 : BitVec 32 := 8#32
  let c0_i32_3 : BitVec 32 := 0#32
  let v14 : BitVec 1 := Scalar.cmpi .eq c8_i32 c0_i32_3
  let c1_i32_4 : BitVec 32 := 1#32
  let v15 : BitVec 32 := Scalar.select v14 c1_i32_4 c8_i32
  let v16 : BitVec 32 := Scalar.remsi v13 v15
  let c0_i32_6 : BitVec 32 := 0#32
  let v18 : BitVec 1 := Scalar.cmpi .slt v16 c0_i32_6
  let c0_i32_7 : BitVec 32 := 0#32
  let v19 : BitVec 1 := Scalar.cmpi .slt v15 c0_i32_7
  let v20 : BitVec 1 := Scalar.xori v18 v19
  let c0_i32_5 : BitVec 32 := 0#32
  let v17 : BitVec 1 := Scalar.cmpi .ne v16 c0_i32_5
  let v21 : BitVec 1 := Scalar.andi v20 v17
  let v22 : BitVec 32 := Scalar.addi v16 v15
  let v23 : BitVec 32 := Scalar.select v21 v22 v16
  let c4_i32_8 : BitVec 32 := 4#32
  let v24 : BitVec 1 := Scalar.cmpi .slt v23 c4_i32_8
  let c0_i32_9 : BitVec 32 := 0#32
  let c1_i32_10 : BitVec 32 := 1#32
  let v25 : BitVec 32 := Scalar.select v24 c0_i32_9 c1_i32_10
  let c16_i32_469 : BitVec 32 := 16#32
  let v658 : BitVec 32 := Scalar.muli v25 c16_i32_469
  let v659 : BitVec 32 := Scalar.addi c0_i32_470 v658
  let c4_i32_11 : BitVec 32 := 4#32
  let v26 : BitVec 1 := Scalar.cmpi .slt v23 c4_i32_11
  let c7_i32_12 : BitVec 32 := 7#32
  let v27 : BitVec 32 := Scalar.subi c7_i32_12 v23
  let v28 : BitVec 32 := Scalar.select v26 v23 v27
  let c4_i32_471 : BitVec 32 := 4#32
  let v660 : BitVec 32 := Scalar.muli v28 c4_i32_471
  let v661 : BitVec 32 := Scalar.addi v659 v660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_472 : BitVec 32 := 1#32
  let v662 : BitVec 32 := Scalar.muli v8 c1_i32_472
  let v663 : BitVec 32 := Scalar.addi v661 v662
  v663.toNat
def k0_dev21 (d0 : Dev nD) : Nat :=
  let c0_i32_528 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_13 : BitVec 32 := 1#32
  let v29 : BitVec 32 := Scalar.subi v11 c1_i32_13
  let c8_i32_14 : BitVec 32 := 8#32
  let c0_i32_15 : BitVec 32 := 0#32
  let v30 : BitVec 1 := Scalar.cmpi .eq c8_i32_14 c0_i32_15
  let c1_i32_16 : BitVec 32 := 1#32
  let v31 : BitVec 32 := Scalar.select v30 c1_i32_16 c8_i32_14
  let v32 : BitVec 32 := Scalar.remsi v29 v31
  let c0_i32_18 : BitVec 32 := 0#32
  let v34 : BitVec 1 := Scalar.cmpi .slt v32 c0_i32_18
  let c0_i32_19 : BitVec 32 := 0#32
  let v35 : BitVec 1 := Scalar.cmpi .slt v31 c0_i32_19
  let v36 : BitVec 1 := Scalar.xori v34 v35
  let c0_i32_17 : BitVec 32 := 0#32
  let v33 : BitVec 1 := Scalar.cmpi .ne v32 c0_i32_17
  let v37 : BitVec 1 := Scalar.andi v36 v33
  let v38 : BitVec 32 := Scalar.addi v32 v31
  let v39 : BitVec 32 := Scalar.select v37 v38 v32
  let c4_i32_20 : BitVec 32 := 4#32
  let v40 : BitVec 1 := Scalar.cmpi .slt v39 c4_i32_20
  let c0_i32_21 : BitVec 32 := 0#32
  let c1_i32_22 : BitVec 32 := 1#32
  let v41 : BitVec 32 := Scalar.select v40 c0_i32_21 c1_i32_22
  let c16_i32_527 : BitVec 32 := 16#32
  let v719 : BitVec 32 := Scalar.muli v41 c16_i32_527
  let v720 : BitVec 32 := Scalar.addi c0_i32_528 v719
  let c4_i32_23 : BitVec 32 := 4#32
  let v42 : BitVec 1 := Scalar.cmpi .slt v39 c4_i32_23
  let c7_i32_24 : BitVec 32 := 7#32
  let v43 : BitVec 32 := Scalar.subi c7_i32_24 v39
  let v44 : BitVec 32 := Scalar.select v42 v39 v43
  let c4_i32_529 : BitVec 32 := 4#32
  let v721 : BitVec 32 := Scalar.muli v44 c4_i32_529
  let v722 : BitVec 32 := Scalar.addi v720 v721
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_530 : BitVec 32 := 1#32
  let v723 : BitVec 32 := Scalar.muli v8 c1_i32_530
  let v724 : BitVec 32 := Scalar.addi v722 v723
  v724.toNat
def k0_off9 (d0 : Dev nD) (c1_i32_535 : BitVec 32) (c0_i32_546 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let v733 : BitVec 32 := Scalar.subi v11 c1_i32_535
  let c8_i32_536 : BitVec 32 := 8#32
  let c0_i32_537 : BitVec 32 := 0#32
  let v734 : BitVec 1 := Scalar.cmpi .eq c8_i32_536 c0_i32_537
  let c1_i32_538 : BitVec 32 := 1#32
  let v735 : BitVec 32 := Scalar.select v734 c1_i32_538 c8_i32_536
  let v736 : BitVec 32 := Scalar.remsi v733 v735
  let c0_i32_540 : BitVec 32 := 0#32
  let v738 : BitVec 1 := Scalar.cmpi .slt v736 c0_i32_540
  let c0_i32_541 : BitVec 32 := 0#32
  let v739 : BitVec 1 := Scalar.cmpi .slt v735 c0_i32_541
  let v740 : BitVec 1 := Scalar.xori v738 v739
  let c0_i32_539 : BitVec 32 := 0#32
  let v737 : BitVec 1 := Scalar.cmpi .ne v736 c0_i32_539
  let v741 : BitVec 1 := Scalar.andi v740 v737
  let v742 : BitVec 32 := Scalar.addi v736 v735
  let v743 : BitVec 32 := Scalar.select v741 v742 v736
  let c128_i32_542 : BitVec 32 := 128#32
  let v744 : BitVec 32 := Scalar.muli v743 c128_i32_542
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v747 : BitVec 32 := Scalar.addi v8 c0_i32_546
  let c4_i32_547 : BitVec 32 := 4#32
  let c0_i32_548 : BitVec 32 := 0#32
  let v748 : BitVec 1 := Scalar.cmpi .eq c4_i32_547 c0_i32_548
  let c1_i32_549 : BitVec 32 := 1#32
  let v749 : BitVec 32 := Scalar.select v748 c1_i32_549 c4_i32_547
  let v750 : BitVec 32 := Scalar.remsi v747 v749
  let c0_i32_551 : BitVec 32 := 0#32
  let v752 : BitVec 1 := Scalar.cmpi .slt v750 c0_i32_551
  let c0_i32_552 : BitVec 32 := 0#32
  let v753 : BitVec 1 := Scalar.cmpi .slt v749 c0_i32_552
  let v754 : BitVec 1 := Scalar.xori v752 v753
  let c0_i32_550 : BitVec 32 := 0#32
  let v751 : BitVec 1 := Scalar.cmpi .ne v750 c0_i32_550
  let v755 : BitVec 1 := Scalar.andi v754 v751
  let v756 : BitVec 32 := Scalar.addi v750 v749
  let v757 : BitVec 32 := Scalar.select v755 v756 v750
  let c32_i32_553 : BitVec 32 := 32#32
  let v758 : BitVec 32 := Scalar.muli v757 c32_i32_553
  let v759 : BitVec 32 := Scalar.addi v744 v758
  let v760 : Index := Scalar.indexCast v759
  let c0_554 : Index := 0#32
  ![v760.toNat, 0]
def k0_off10 (d0 : Dev nD) (c0_i32_599 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_588 : BitVec 32 := 1#32
  let v813 : BitVec 32 := Scalar.addi v11 c1_i32_588
  let c8_i32_589 : BitVec 32 := 8#32
  let c0_i32_590 : BitVec 32 := 0#32
  let v814 : BitVec 1 := Scalar.cmpi .eq c8_i32_589 c0_i32_590
  let c1_i32_591 : BitVec 32 := 1#32
  let v815 : BitVec 32 := Scalar.select v814 c1_i32_591 c8_i32_589
  let v816 : BitVec 32 := Scalar.remsi v813 v815
  let c0_i32_593 : BitVec 32 := 0#32
  let v818 : BitVec 1 := Scalar.cmpi .slt v816 c0_i32_593
  let c0_i32_594 : BitVec 32 := 0#32
  let v819 : BitVec 1 := Scalar.cmpi .slt v815 c0_i32_594
  let v820 : BitVec 1 := Scalar.xori v818 v819
  let c0_i32_592 : BitVec 32 := 0#32
  let v817 : BitVec 1 := Scalar.cmpi .ne v816 c0_i32_592
  let v821 : BitVec 1 := Scalar.andi v820 v817
  let v822 : BitVec 32 := Scalar.addi v816 v815
  let v823 : BitVec 32 := Scalar.select v821 v822 v816
  let c128_i32_595 : BitVec 32 := 128#32
  let v824 : BitVec 32 := Scalar.muli v823 c128_i32_595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v827 : BitVec 32 := Scalar.addi v8 c0_i32_599
  let c4_i32_600 : BitVec 32 := 4#32
  let c0_i32_601 : BitVec 32 := 0#32
  let v828 : BitVec 1 := Scalar.cmpi .eq c4_i32_600 c0_i32_601
  let c1_i32_602 : BitVec 32 := 1#32
  let v829 : BitVec 32 := Scalar.select v828 c1_i32_602 c4_i32_600
  let v830 : BitVec 32 := Scalar.remsi v827 v829
  let c0_i32_604 : BitVec 32 := 0#32
  let v832 : BitVec 1 := Scalar.cmpi .slt v830 c0_i32_604
  let c0_i32_605 : BitVec 32 := 0#32
  let v833 : BitVec 1 := Scalar.cmpi .slt v829 c0_i32_605
  let v834 : BitVec 1 := Scalar.xori v832 v833
  let c0_i32_603 : BitVec 32 := 0#32
  let v831 : BitVec 1 := Scalar.cmpi .ne v830 c0_i32_603
  let v835 : BitVec 1 := Scalar.andi v834 v831
  let v836 : BitVec 32 := Scalar.addi v830 v829
  let v837 : BitVec 32 := Scalar.select v835 v836 v830
  let c32_i32_606 : BitVec 32 := 32#32
  let v838 : BitVec 32 := Scalar.muli v837 c32_i32_606
  let v839 : BitVec 32 := Scalar.addi v824 v838
  let v840 : Index := Scalar.indexCast v839
  let c0_607 : Index := 0#32
  ![v840.toNat, 0]
def k0_dev22 (d0 : Dev nD) : Nat :=
  let c0_i32_661 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_2 : BitVec 32 := 1#32
  let v13 : BitVec 32 := Scalar.addi v11 c1_i32_2
  let c8_i32 : BitVec 32 := 8#32
  let c0_i32_3 : BitVec 32 := 0#32
  let v14 : BitVec 1 := Scalar.cmpi .eq c8_i32 c0_i32_3
  let c1_i32_4 : BitVec 32 := 1#32
  let v15 : BitVec 32 := Scalar.select v14 c1_i32_4 c8_i32
  let v16 : BitVec 32 := Scalar.remsi v13 v15
  let c0_i32_6 : BitVec 32 := 0#32
  let v18 : BitVec 1 := Scalar.cmpi .slt v16 c0_i32_6
  let c0_i32_7 : BitVec 32 := 0#32
  let v19 : BitVec 1 := Scalar.cmpi .slt v15 c0_i32_7
  let v20 : BitVec 1 := Scalar.xori v18 v19
  let c0_i32_5 : BitVec 32 := 0#32
  let v17 : BitVec 1 := Scalar.cmpi .ne v16 c0_i32_5
  let v21 : BitVec 1 := Scalar.andi v20 v17
  let v22 : BitVec 32 := Scalar.addi v16 v15
  let v23 : BitVec 32 := Scalar.select v21 v22 v16
  let c4_i32_8 : BitVec 32 := 4#32
  let v24 : BitVec 1 := Scalar.cmpi .slt v23 c4_i32_8
  let c0_i32_9 : BitVec 32 := 0#32
  let c1_i32_10 : BitVec 32 := 1#32
  let v25 : BitVec 32 := Scalar.select v24 c0_i32_9 c1_i32_10
  let c16_i32_660 : BitVec 32 := 16#32
  let v905 : BitVec 32 := Scalar.muli v25 c16_i32_660
  let v906 : BitVec 32 := Scalar.addi c0_i32_661 v905
  let c4_i32_11 : BitVec 32 := 4#32
  let v26 : BitVec 1 := Scalar.cmpi .slt v23 c4_i32_11
  let c7_i32_12 : BitVec 32 := 7#32
  let v27 : BitVec 32 := Scalar.subi c7_i32_12 v23
  let v28 : BitVec 32 := Scalar.select v26 v23 v27
  let c4_i32_662 : BitVec 32 := 4#32
  let v907 : BitVec 32 := Scalar.muli v28 c4_i32_662
  let v908 : BitVec 32 := Scalar.addi v906 v907
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_663 : BitVec 32 := 1#32
  let v909 : BitVec 32 := Scalar.muli v8 c1_i32_663
  let v910 : BitVec 32 := Scalar.addi v908 v909
  v910.toNat
def k0_dev23 (d0 : Dev nD) : Nat :=
  let c0_i32_685 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_13 : BitVec 32 := 1#32
  let v29 : BitVec 32 := Scalar.subi v11 c1_i32_13
  let c8_i32_14 : BitVec 32 := 8#32
  let c0_i32_15 : BitVec 32 := 0#32
  let v30 : BitVec 1 := Scalar.cmpi .eq c8_i32_14 c0_i32_15
  let c1_i32_16 : BitVec 32 := 1#32
  let v31 : BitVec 32 := Scalar.select v30 c1_i32_16 c8_i32_14
  let v32 : BitVec 32 := Scalar.remsi v29 v31
  let c0_i32_18 : BitVec 32 := 0#32
  let v34 : BitVec 1 := Scalar.cmpi .slt v32 c0_i32_18
  let c0_i32_19 : BitVec 32 := 0#32
  let v35 : BitVec 1 := Scalar.cmpi .slt v31 c0_i32_19
  let v36 : BitVec 1 := Scalar.xori v34 v35
  let c0_i32_17 : BitVec 32 := 0#32
  let v33 : BitVec 1 := Scalar.cmpi .ne v32 c0_i32_17
  let v37 : BitVec 1 := Scalar.andi v36 v33
  let v38 : BitVec 32 := Scalar.addi v32 v31
  let v39 : BitVec 32 := Scalar.select v37 v38 v32
  let c4_i32_20 : BitVec 32 := 4#32
  let v40 : BitVec 1 := Scalar.cmpi .slt v39 c4_i32_20
  let c0_i32_21 : BitVec 32 := 0#32
  let c1_i32_22 : BitVec 32 := 1#32
  let v41 : BitVec 32 := Scalar.select v40 c0_i32_21 c1_i32_22
  let c16_i32_684 : BitVec 32 := 16#32
  let v931 : BitVec 32 := Scalar.muli v41 c16_i32_684
  let v932 : BitVec 32 := Scalar.addi c0_i32_685 v931
  let c4_i32_23 : BitVec 32 := 4#32
  let v42 : BitVec 1 := Scalar.cmpi .slt v39 c4_i32_23
  let c7_i32_24 : BitVec 32 := 7#32
  let v43 : BitVec 32 := Scalar.subi c7_i32_24 v39
  let v44 : BitVec 32 := Scalar.select v42 v39 v43
  let c4_i32_686 : BitVec 32 := 4#32
  let v933 : BitVec 32 := Scalar.muli v44 c4_i32_686
  let v934 : BitVec 32 := Scalar.addi v932 v933
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_687 : BitVec 32 := 1#32
  let v935 : BitVec 32 := Scalar.muli v8 c1_i32_687
  let v936 : BitVec 32 := Scalar.addi v934 v935
  v936.toNat
def k0_off11 (d0 : Dev nD) (c1_i32_693 : BitVec 32) (c0_i32_704 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_692 : BitVec 32 := 1#32
  let v945 : BitVec 32 := Scalar.subi v11 c1_i32_692
  let v946 : BitVec 32 := Scalar.subi v945 c1_i32_693
  let c8_i32_694 : BitVec 32 := 8#32
  let c0_i32_695 : BitVec 32 := 0#32
  let v947 : BitVec 1 := Scalar.cmpi .eq c8_i32_694 c0_i32_695
  let c1_i32_696 : BitVec 32 := 1#32
  let v948 : BitVec 32 := Scalar.select v947 c1_i32_696 c8_i32_694
  let v949 : BitVec 32 := Scalar.remsi v946 v948
  let c0_i32_698 : BitVec 32 := 0#32
  let v951 : BitVec 1 := Scalar.cmpi .slt v949 c0_i32_698
  let c0_i32_699 : BitVec 32 := 0#32
  let v952 : BitVec 1 := Scalar.cmpi .slt v948 c0_i32_699
  let v953 : BitVec 1 := Scalar.xori v951 v952
  let c0_i32_697 : BitVec 32 := 0#32
  let v950 : BitVec 1 := Scalar.cmpi .ne v949 c0_i32_697
  let v954 : BitVec 1 := Scalar.andi v953 v950
  let v955 : BitVec 32 := Scalar.addi v949 v948
  let v956 : BitVec 32 := Scalar.select v954 v955 v949
  let c128_i32_700 : BitVec 32 := 128#32
  let v957 : BitVec 32 := Scalar.muli v956 c128_i32_700
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v960 : BitVec 32 := Scalar.addi v8 c0_i32_704
  let c4_i32_705 : BitVec 32 := 4#32
  let c0_i32_706 : BitVec 32 := 0#32
  let v961 : BitVec 1 := Scalar.cmpi .eq c4_i32_705 c0_i32_706
  let c1_i32_707 : BitVec 32 := 1#32
  let v962 : BitVec 32 := Scalar.select v961 c1_i32_707 c4_i32_705
  let v963 : BitVec 32 := Scalar.remsi v960 v962
  let c0_i32_709 : BitVec 32 := 0#32
  let v965 : BitVec 1 := Scalar.cmpi .slt v963 c0_i32_709
  let c0_i32_710 : BitVec 32 := 0#32
  let v966 : BitVec 1 := Scalar.cmpi .slt v962 c0_i32_710
  let v967 : BitVec 1 := Scalar.xori v965 v966
  let c0_i32_708 : BitVec 32 := 0#32
  let v964 : BitVec 1 := Scalar.cmpi .ne v963 c0_i32_708
  let v968 : BitVec 1 := Scalar.andi v967 v964
  let v969 : BitVec 32 := Scalar.addi v963 v962
  let v970 : BitVec 32 := Scalar.select v968 v969 v963
  let c32_i32_711 : BitVec 32 := 32#32
  let v971 : BitVec 32 := Scalar.muli v970 c32_i32_711
  let v972 : BitVec 32 := Scalar.addi v957 v971
  let v973 : Index := Scalar.indexCast v972
  let c0_712 : Index := 0#32
  ![v973.toNat, 0]
def k0_off12 (d0 : Dev nD) (c1_i32_750 : BitVec 32) (c0_i32_761 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_749 : BitVec 32 := 1#32
  let v1026 : BitVec 32 := Scalar.addi v11 c1_i32_749
  let v1027 : BitVec 32 := Scalar.addi v1026 c1_i32_750
  let c8_i32_751 : BitVec 32 := 8#32
  let c0_i32_752 : BitVec 32 := 0#32
  let v1028 : BitVec 1 := Scalar.cmpi .eq c8_i32_751 c0_i32_752
  let c1_i32_753 : BitVec 32 := 1#32
  let v1029 : BitVec 32 := Scalar.select v1028 c1_i32_753 c8_i32_751
  let v1030 : BitVec 32 := Scalar.remsi v1027 v1029
  let c0_i32_755 : BitVec 32 := 0#32
  let v1032 : BitVec 1 := Scalar.cmpi .slt v1030 c0_i32_755
  let c0_i32_756 : BitVec 32 := 0#32
  let v1033 : BitVec 1 := Scalar.cmpi .slt v1029 c0_i32_756
  let v1034 : BitVec 1 := Scalar.xori v1032 v1033
  let c0_i32_754 : BitVec 32 := 0#32
  let v1031 : BitVec 1 := Scalar.cmpi .ne v1030 c0_i32_754
  let v1035 : BitVec 1 := Scalar.andi v1034 v1031
  let v1036 : BitVec 32 := Scalar.addi v1030 v1029
  let v1037 : BitVec 32 := Scalar.select v1035 v1036 v1030
  let c128_i32_757 : BitVec 32 := 128#32
  let v1038 : BitVec 32 := Scalar.muli v1037 c128_i32_757
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v1041 : BitVec 32 := Scalar.addi v8 c0_i32_761
  let c4_i32_762 : BitVec 32 := 4#32
  let c0_i32_763 : BitVec 32 := 0#32
  let v1042 : BitVec 1 := Scalar.cmpi .eq c4_i32_762 c0_i32_763
  let c1_i32_764 : BitVec 32 := 1#32
  let v1043 : BitVec 32 := Scalar.select v1042 c1_i32_764 c4_i32_762
  let v1044 : BitVec 32 := Scalar.remsi v1041 v1043
  let c0_i32_766 : BitVec 32 := 0#32
  let v1046 : BitVec 1 := Scalar.cmpi .slt v1044 c0_i32_766
  let c0_i32_767 : BitVec 32 := 0#32
  let v1047 : BitVec 1 := Scalar.cmpi .slt v1043 c0_i32_767
  let v1048 : BitVec 1 := Scalar.xori v1046 v1047
  let c0_i32_765 : BitVec 32 := 0#32
  let v1045 : BitVec 1 := Scalar.cmpi .ne v1044 c0_i32_765
  let v1049 : BitVec 1 := Scalar.andi v1048 v1045
  let v1050 : BitVec 32 := Scalar.addi v1044 v1043
  let v1051 : BitVec 32 := Scalar.select v1049 v1050 v1044
  let c32_i32_768 : BitVec 32 := 32#32
  let v1052 : BitVec 32 := Scalar.muli v1051 c32_i32_768
  let v1053 : BitVec 32 := Scalar.addi v1038 v1052
  let v1054 : Index := Scalar.indexCast v1053
  let c0_769 : Index := 0#32
  ![v1054.toNat, 0]
def k0_dev24 (d0 : Dev nD) : Nat :=
  let c0_i32_823 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_2 : BitVec 32 := 1#32
  let v13 : BitVec 32 := Scalar.addi v11 c1_i32_2
  let c8_i32 : BitVec 32 := 8#32
  let c0_i32_3 : BitVec 32 := 0#32
  let v14 : BitVec 1 := Scalar.cmpi .eq c8_i32 c0_i32_3
  let c1_i32_4 : BitVec 32 := 1#32
  let v15 : BitVec 32 := Scalar.select v14 c1_i32_4 c8_i32
  let v16 : BitVec 32 := Scalar.remsi v13 v15
  let c0_i32_6 : BitVec 32 := 0#32
  let v18 : BitVec 1 := Scalar.cmpi .slt v16 c0_i32_6
  let c0_i32_7 : BitVec 32 := 0#32
  let v19 : BitVec 1 := Scalar.cmpi .slt v15 c0_i32_7
  let v20 : BitVec 1 := Scalar.xori v18 v19
  let c0_i32_5 : BitVec 32 := 0#32
  let v17 : BitVec 1 := Scalar.cmpi .ne v16 c0_i32_5
  let v21 : BitVec 1 := Scalar.andi v20 v17
  let v22 : BitVec 32 := Scalar.addi v16 v15
  let v23 : BitVec 32 := Scalar.select v21 v22 v16
  let c4_i32_8 : BitVec 32 := 4#32
  let v24 : BitVec 1 := Scalar.cmpi .slt v23 c4_i32_8
  let c0_i32_9 : BitVec 32 := 0#32
  let c1_i32_10 : BitVec 32 := 1#32
  let v25 : BitVec 32 := Scalar.select v24 c0_i32_9 c1_i32_10
  let c16_i32_822 : BitVec 32 := 16#32
  let v1119 : BitVec 32 := Scalar.muli v25 c16_i32_822
  let v1120 : BitVec 32 := Scalar.addi c0_i32_823 v1119
  let c4_i32_11 : BitVec 32 := 4#32
  let v26 : BitVec 1 := Scalar.cmpi .slt v23 c4_i32_11
  let c7_i32_12 : BitVec 32 := 7#32
  let v27 : BitVec 32 := Scalar.subi c7_i32_12 v23
  let v28 : BitVec 32 := Scalar.select v26 v23 v27
  let c4_i32_824 : BitVec 32 := 4#32
  let v1121 : BitVec 32 := Scalar.muli v28 c4_i32_824
  let v1122 : BitVec 32 := Scalar.addi v1120 v1121
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_825 : BitVec 32 := 1#32
  let v1123 : BitVec 32 := Scalar.muli v8 c1_i32_825
  let v1124 : BitVec 32 := Scalar.addi v1122 v1123
  v1124.toNat
def k0_dev25 (d0 : Dev nD) : Nat :=
  let c0_i32_847 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_13 : BitVec 32 := 1#32
  let v29 : BitVec 32 := Scalar.subi v11 c1_i32_13
  let c8_i32_14 : BitVec 32 := 8#32
  let c0_i32_15 : BitVec 32 := 0#32
  let v30 : BitVec 1 := Scalar.cmpi .eq c8_i32_14 c0_i32_15
  let c1_i32_16 : BitVec 32 := 1#32
  let v31 : BitVec 32 := Scalar.select v30 c1_i32_16 c8_i32_14
  let v32 : BitVec 32 := Scalar.remsi v29 v31
  let c0_i32_18 : BitVec 32 := 0#32
  let v34 : BitVec 1 := Scalar.cmpi .slt v32 c0_i32_18
  let c0_i32_19 : BitVec 32 := 0#32
  let v35 : BitVec 1 := Scalar.cmpi .slt v31 c0_i32_19
  let v36 : BitVec 1 := Scalar.xori v34 v35
  let c0_i32_17 : BitVec 32 := 0#32
  let v33 : BitVec 1 := Scalar.cmpi .ne v32 c0_i32_17
  let v37 : BitVec 1 := Scalar.andi v36 v33
  let v38 : BitVec 32 := Scalar.addi v32 v31
  let v39 : BitVec 32 := Scalar.select v37 v38 v32
  let c4_i32_20 : BitVec 32 := 4#32
  let v40 : BitVec 1 := Scalar.cmpi .slt v39 c4_i32_20
  let c0_i32_21 : BitVec 32 := 0#32
  let c1_i32_22 : BitVec 32 := 1#32
  let v41 : BitVec 32 := Scalar.select v40 c0_i32_21 c1_i32_22
  let c16_i32_846 : BitVec 32 := 16#32
  let v1145 : BitVec 32 := Scalar.muli v41 c16_i32_846
  let v1146 : BitVec 32 := Scalar.addi c0_i32_847 v1145
  let c4_i32_23 : BitVec 32 := 4#32
  let v42 : BitVec 1 := Scalar.cmpi .slt v39 c4_i32_23
  let c7_i32_24 : BitVec 32 := 7#32
  let v43 : BitVec 32 := Scalar.subi c7_i32_24 v39
  let v44 : BitVec 32 := Scalar.select v42 v39 v43
  let c4_i32_848 : BitVec 32 := 4#32
  let v1147 : BitVec 32 := Scalar.muli v44 c4_i32_848
  let v1148 : BitVec 32 := Scalar.addi v1146 v1147
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_849 : BitVec 32 := 1#32
  let v1149 : BitVec 32 := Scalar.muli v8 c1_i32_849
  let v1150 : BitVec 32 := Scalar.addi v1148 v1149
  v1150.toNat
abbrev stage0_0 : Fin 1 → Memref sig .tc .vmem S1024x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x16384 : Shape := ⟨2, ![1024, 16384]⟩
abbrev S16384x1024 : Shape := ⟨2, ![16384, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S1024x16384, .f32⟩
  | .hbm, ⟨1, _⟩ => ⟨S1024x16384, .f32⟩
  | .hbm, ⟨2, _⟩ => ⟨S16384x1024, .f32⟩
  | .hbm, ⟨3, _⟩ => ⟨S1024x1024, .f32⟩
  | _, _ => ⟨S1024x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Table.lean ====
/-
The mesh and the transfers of the kernel, as tables.

A device is named by its place `pos` on the ring of eight and its layer `zc`; `nb a j c` is the device `a` places on
and `j` layers up from `c`. Every device starts the same twenty remote copies; `X` names them, and the tables below say
of a name which device it writes, through which memrefs, on which semaphores, and when it is started.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Ring

open Cert.KernelIdeal Cert.KernelIdeal.Gen
open Idealize.ShloMosaic
open Idealize.ShloMosaic.TcCoe

/-! ## The mesh -/

set_option backward.proofsInPublic true

/-- A device's place on the ring of eight. -/
def pos (c : Dev nD) : ℕ := if c.val / 16 = 0 then (c.val / 4) % 4 else 7 - (c.val / 4) % 4
/-- A device's layer. -/
def zc (c : Dev nD) : ℕ := c.val % 4

theorem pos_lt (c : Dev nD) : pos c < 8 := by unfold pos; split <;> omega
theorem zc_lt (c : Dev nD) : zc c < 4 := Nat.mod_lt _ (by decide)

/-- The device at a place and a layer, both taken round. -/
def dv (p z : ℕ) : Dev nD :=
  ⟨(if p % 8 < 4 then 4 * (p % 8) else 16 + 4 * (7 - p % 8)) + z % 4, by
    have h1 : p % 8 < 8 := Nat.mod_lt _ (by decide)
    have h2 : z % 4 < 4 := Nat.mod_lt _ (by decide)
    show _ < 32
    split <;> omega⟩

theorem pos_dv (p z : ℕ) : pos (dv p z) = p % 8 := by
  have h1 : p % 8 < 8 := Nat.mod_lt _ (by decide)
  have h2 : z % 4 < 4 := Nat.mod_lt _ (by decide)
  unfold pos dv
  dsimp only
  by_cases h : p % 8 < 4
  · simp only [if_pos h]; rw [if_pos (by omega)]; omega
  · simp only [if_neg h]; rw [if_neg (by omega)]; omega

theorem zc_dv (p z : ℕ) : zc (dv p z) = z % 4 := by
  have h2 : z % 4 < 4 := Nat.mod_lt _ (by decide)
  unfold zc dv
  dsimp only
  split <;> omega

theorem dv_pos_zc (c : Dev nD) : dv (pos c) (zc c) = c := by revert c; decide +kernel

theorem dev_ext {c d : Dev nD} (hp : pos c = pos d) (hz : zc c = zc d) : c = d := by
  rw [← dv_pos_zc c, ← dv_pos_zc d, hp, hz]

/-- The device `a` places on and `j` layers up. -/
def nb (a j : ℕ) (c : Dev nD) : Dev nD := dv (pos c + a) (zc c + j)

theorem pos_nb (a j : ℕ) (c : Dev nD) : pos (nb a j c) = (pos c + a) % 8 := pos_dv _ _
theorem zc_nb (a j : ℕ) (c : Dev nD) : zc (nb a j c) = (zc c + j) % 4 := zc_dv _ _

theorem nb_nb (a j a' j' : ℕ) (c : Dev nD) : nb a j (nb a' j' c) = nb (a' + a) (j' + j) c := by
  apply dev_ext
  · rw [pos_nb, pos_nb, pos_nb]; omega
  · rw [zc_nb, zc_nb, zc_nb]; omega

theorem nb_congr {a j a' j' : ℕ} (ha : a % 8 = a' % 8) (hj : j % 4 = j' % 4) (c : Dev nD) : nb a j c = nb a' j' c := by
  apply dev_ext
  · rw [pos_nb, pos_nb]; omega
  · rw [zc_nb, zc_nb]; omega

theorem nb_zero (c : Dev nD) : nb 0 0 c = c := by
  apply dev_ext
  · rw [pos_nb]; have := pos_lt c; omega
  · rw [zc_nb]; have := zc_lt c; omega

/-- Going a place and a layer and back. -/
theorem nb_back {a j a' j' : ℕ} (ha : (a + a') % 8 = 0) (hj : (j + j') % 4 = 0) (c : Dev nD) : nb a' j' (nb a j c) = c := by
  rw [nb_nb, nb_congr (a' := 0) (j' := 0) (by omega) (by omega), nb_zero]

/-- The places relative to a device, as a numbering of all the devices. -/
def around (c : Dev nD) : Fin 8 × Fin 4 ≃ Dev nD where
  toFun x := nb x.1.val x.2.val c
  invFun d := (⟨(pos d + 8 - pos c) % 8, Nat.mod_lt _ (by decide)⟩, ⟨(zc d + 4 - zc c) % 4, Nat.mod_lt _ (by decide)⟩)
  left_inv x := by
    have h1 := pos_lt c; have h2 := zc_lt c
    obtain ⟨⟨a, ha⟩, ⟨j, hj⟩⟩ := x
    simp only [pos_nb, zc_nb, Prod.mk.injEq, Fin.mk.injEq]
    omega
  right_inv d := by
    have h1 := pos_lt c; have h2 := zc_lt c; have h3 := pos_lt d; have h4 := zc_lt d
    apply dev_ext
    · simp only [pos_nb]; omega
    · simp only [zc_nb]; omega

/-! ## The twenty transfers -/

/-- `z k`, `g k`: the layers' reduce-scatter and all-gather copies to the layer `k + 1` up; `w d k`: piece `k` of the first
    ring hop; `s d h`: ring hop `h + 1`. `d` is the direction: `false` to the next place, `true` to the one before. -/
inductive X
  | z (k : Fin 3)
  | g (k : Fin 3)
  | w (d : Bool) (k : Fin 4)
  | s (d : Bool) (h : Fin 3)
  deriving DecidableEq

/-- All the transfers, in the order they are started. -/
def X.all : List X :=
  [.z 0, .z 1, .z 2, .w false 0, .w true 0, .g 0, .g 1, .g 2, .w false 1, .w true 1, .w false 2, .w true 2, .w false 3, .w true 3,
    .s false 0, .s true 0, .s false 1, .s true 1, .s false 2, .s true 2]

instance : Fintype X := ⟨⟨X.all, by decide⟩, fun t => by
  cases t with
  | z k => fin_cases k <;> decide
  | g k => fin_cases k <;> decide
  | w d k => cases d <;> fin_cases k <;> decide
  | s d h => cases d <;> fin_cases h <;> decide⟩

/-- The five devices that write a device and that it writes: three in its own place, two beside it on the ring. -/
def pa : Fin 5 → ℕ := ![0, 0, 0, 1, 7]
def pj : Fin 5 → ℕ := ![1, 2, 3, 0, 0]
def qa : Fin 5 → ℕ := ![0, 0, 0, 7, 1]
def qj : Fin 5 → ℕ := ![3, 2, 1, 0, 0]

/-- Peer `i` as a rearrangement of the devices. -/
def peer (i : Fin 5) : Dev nD ≃ Dev nD where
  toFun := nb (pa i) (pj i)
  invFun := nb (qa i) (qj i)
  left_inv c := nb_back (by revert i; decide) (by revert i; decide) c
  right_inv c := nb_back (by revert i; decide) (by revert i; decide) c

namespace X

/-- Which of the five peers a transfer writes. -/
def grp : X → Fin 5
  | z k => ⟨k.val, by omega⟩
  | g k => ⟨k.val, by omega⟩
  | w d _ => if d then 4 else 3
  | s d _ => if d then 4 else 3

/-- The device a transfer of `c` writes. -/
def tgt (t : X) : Dev nD ≃ Dev nD := peer t.grp

/-- The send semaphore's place in the pool. -/
def sn : X → ℕ
  | z k => 3 + k
  | g k => 9 + k
  | w d k => (if d then 29 else 15) + k
  | s d h => (if d then 37 else 23) + h
/-- The receive semaphore's. -/
def rn : X → ℕ
  | z k => 6 + (2 - k)
  | g k => 12 + (2 - k)
  | w d k => (if d then 33 else 19) + k
  | s d h => (if d then 40 else 26) + h

/-- The order the copies are started in. -/
def ord : X → ℕ
  | z k => k
  | g k => 5 + k
  | w d k => (if k = 0 then 3 else 6 + 2 * k.val) + (if d then 1 else 0)
  | s d h => 14 + 2 * h.val + (if d then 1 else 0)

/-- The level of the receive cell. -/
def lev : X → ℕ
  | z _ => 2
  | g _ => 3
  | w _ _ => 4
  | s _ h => 5 + h

theorem sn_lt (t : X) : t.sn < 43 := by revert t; decide
theorem rn_lt (t : X) : t.rn < 43 := by revert t; decide
theorem ord_inj {t u : X} (h : t.ord = u.ord) : t = u := by revert t u; decide
theorem ord_lt (t : X) : t.ord < 20 := by revert t; decide

/-- The send (`false`) and receive (`true`) semaphore of a transfer. -/
def dn (t : X) (b : Bool) : ℕ := if b then t.rn else t.sn
theorem dn_lt (t : X) (b : Bool) : t.dn b < 43 := by revert t b; decide
def ds (t : X) (b : Bool) : DmaSem sig := ⟨t.dn b, t.dn_lt b⟩

/-- The shape a transfer copies. -/
abbrev sh : X → Shape
  | z _ => S32x1024
  | g _ => S32x1024
  | w _ _ => S32x1024
  | s _ h => if h = 2 then S64x1024 else S128x1024

end X

/-- Which transfer a semaphore of the pool belongs to, and on which side. -/
def ofSem (n : ℕ) : Option (X × Bool) :=
  if n < 3 then none else if n < 6 then some (.z ⟨(n - 3) % 3, Nat.mod_lt _ (by decide)⟩, false)
  else if n < 9 then some (.z ⟨(8 - n) % 3, Nat.mod_lt _ (by decide)⟩, true)
  else if n < 12 then some (.g ⟨(n - 9) % 3, Nat.mod_lt _ (by decide)⟩, false)
  else if n < 15 then some (.g ⟨(14 - n) % 3, Nat.mod_lt _ (by decide)⟩, true)
  else if n < 19 then some (.w false ⟨(n - 15) % 4, Nat.mod_lt _ (by decide)⟩, false)
  else if n < 23 then some (.w false ⟨(n - 19) % 4, Nat.mod_lt _ (by decide)⟩, true)
  else if n < 26 then some (.s false ⟨(n - 23) % 3, Nat.mod_lt _ (by decide)⟩, false)
  else if n < 29 then some (.s false ⟨(n - 26) % 3, Nat.mod_lt _ (by decide)⟩, true)
  else if n < 33 then some (.w true ⟨(n - 29) % 4, Nat.mod_lt _ (by decide)⟩, false)
  else if n < 37 then some (.w true ⟨(n - 33) % 4, Nat.mod_lt _ (by decide)⟩, true)
  else if n < 40 then some (.s true ⟨(n - 37) % 3, Nat.mod_lt _ (by decide)⟩, false)
  else some (.s true ⟨(n - 40) % 3, Nat.mod_lt _ (by decide)⟩, true)

theorem ofSem_dn (t : X) (b : Bool) : ofSem (t.dn b) = some (t, b) := by revert t b; decide

/-! ## The memrefs -/

abbrev dyM : Memref sig .tc .vmem S1024x4096 .f32 := Memref.whole cc0_stg0_0
abbrev wM : Memref sig .tc .vmem S1024x4096 .f32 := Memref.whole cc0_stg1_0
abbrev outM : Memref sig .tc .vmem S1024x1024 .f32 := Memref.whole cc0_stg2_0
abbrev zM : Memref sig .tc .vmem S3x32x1024 .f32 := Memref.whole cc0_scratch0
abbrev gM : Memref sig .tc .vmem S3x32x1024 .f32 := Memref.whole cc0_scratch3
abbrev cwM : Memref sig .tc .vmem S4x128x1024 .f32 := Memref.whole cc0_scratch6
abbrev ccM : Memref sig .tc .vmem S4x128x1024 .f32 := Memref.whole cc0_scratch11
/-- The ring's buffer of a direction. -/
abbrev rM : Bool → Memref sig .tc .vmem S4x128x1024 .f32
  | false => cwM
  | true => ccM

/-- The rows of the result device `d` reduces. -/
theorem inb_row (d : Dev nD) : ∀ a, ![128 * pos d + 32 * zc d, 0] a + S32x1024.size a ≤ S1024x1024.size a := by
  intro a
  have h1 := pos_lt d; have h2 := zc_lt d
  fin_cases a
  · show 128 * pos d + 32 * zc d + 32 ≤ 1024; omega
  · show 0 + 1024 ≤ 1024; omega
abbrev rowR (d : Dev nD) : Rect S1024x1024 := Rect.unit ![128 * pos d + 32 * zc d, 0] S32x1024.size (inb_row d)

/-- The 128 rows of the result at place `p`. -/
theorem inb_blk (p : Fin 8) : ∀ a, ![128 * p.val, 0] a + S128x1024.size a ≤ S1024x1024.size a := by
  intro a
  fin_cases a
  · show 128 * p.val + 128 ≤ 1024; omega
  · show 0 + 1024 ≤ 1024; omega
abbrev blkR (p : Fin 8) : Rect S1024x1024 := Rect.unit ![128 * p.val, 0] S128x1024.size (inb_blk p)

theorem inb_sl (k : Fin 3) : ∀ a, ![k.val, 0, 0] a + S1x32x1024.size a ≤ S3x32x1024.size a := by revert k; decide
/-- Slot `k` of a three-slot buffer. -/
abbrev slR (k : Fin 3) : Rect S3x32x1024 := Rect.unit ![k.val, 0, 0] S1x32x1024.size (inb_sl k)

theorem inb_pc (h j : Fin 4) : ∀ a, ![h.val, 32 * j.val, 0] a + S1x32x1024.size a ≤ S4x128x1024.size a := by revert h j; decide
/-- Piece `j` of slot `h` of a ring buffer. -/
abbrev pcR (h j : Fin 4) : Rect S4x128x1024 := Rect.unit ![h.val, 32 * j.val, 0] S1x32x1024.size (inb_pc h j)

theorem inb_st (h : Fin 4) : ∀ a, ![h.val, 0, 0] a + S1x128x1024.size a ≤ S4x128x1024.size a := by revert h; decide
/-- Slot `h` of a ring buffer. -/
abbrev stR (h : Fin 4) : Rect S4x128x1024 := Rect.unit ![h.val, 0, 0] S1x128x1024.size (inb_st h)

theorem inb_hf (h : Fin 4) (b : Bool) : ∀ a, ![h.val, if b then 64 else 0, 0] a + S1x64x1024.size a ≤ S4x128x1024.size a := by revert h b; decide
/-- The lower or upper half of slot `h`. -/
abbrev hfR (h : Fin 4) (b : Bool) : Rect S4x128x1024 := Rect.unit ![h.val, if b then 64 else 0, 0] S1x64x1024.size (inb_hf h b)

abbrev rowM (d : Dev nD) : Memref sig .tc .vmem S32x1024 .f32 := outM.slice (rowR d) (fun _ => rfl)
abbrev sq3 (m : Memref sig .tc .vmem S3x32x1024 .f32) (k : Fin 3) : Memref sig .tc .vmem S32x1024 .f32 :=
  (m.slice (slR k) (fun _ => rfl)).squeeze S32x1024 squeezes_S1x32x1024_S32x1024
abbrev sqp (d : Bool) (h j : Fin 4) : Memref sig .tc .vmem S32x1024 .f32 :=
  ((rM d).slice (pcR h j) (fun _ => rfl)).squeeze S32x1024 squeezes_S1x32x1024_S32x1024
abbrev sqs (d : Bool) (h : Fin 4) : Memref sig .tc .vmem S128x1024 .f32 :=
  ((rM d).slice (stR h) (fun _ => rfl)).squeeze S128x1024 squeezes_S1x128x1024_S128x1024
abbrev sqh (d : Bool) (h : Fin 4) (b : Bool) : Memref sig .tc .vmem S64x1024 .f32 :=
  ((rM d).slice (hfR h b) (fun _ => rfl)).squeeze S64x1024 squeezes_S1x64x1024_S64x1024

/-- What a transfer writes on its target. -/
abbrev X.dst : (t : X) → Memref sig .tc .vmem t.sh .f32
  | .z k => sq3 zM (2 - k)
  | .g k => sq3 gM (2 - k)
  | .w d k => sqp d 0 k
  | .s d 0 => sqs d 1
  | .s d 1 => sqs d 2
  | .s d 2 => sqh d 3 d

/-- What a transfer of device `c` reads. -/
abbrev X.src (c : Dev nD) : (t : X) → Memref sig .tc .vmem t.sh .f32
  | .z k => rowM (nb 0 (k.val + 1) c)
  | .g _ => rowM c
  | .w _ 0 => rowM c
  | .w _ 1 => sq3 gM 0
  | .w _ 2 => sq3 gM 1
  | .w _ 3 => sq3 gM 2
  | .s d 0 => sqs d 0
  | .s d 1 => sqs d 1
  | .s d 2 => sqh d 2 d

end Cert.Ring

end
-- ==== Proof.Contents.lean ====
/-
What the buffers hold, and the coordinates of the memrefs.

Each buffer is described by one function on all of its elements, fixed once the devices' inputs are: a transfer, a
load or a store only ever touches a part of it, on which the buffer agrees with that function.
-/
module

public import proofs.«01_k».proof.Proof.Table
public import Idealize.ShloMosaic.Lib.ValueIdxCore

@[expose] public section

noncomputable section

namespace Cert.Ring

open Cert.KernelIdeal Cert.KernelIdeal.Gen
open Idealize.ShloMosaic
open Idealize.ShloMosaic.TcCoe
open Idealize.ShloMosaic.ValueIdx

variable {F : FTy → Type} [FloatOps F]
variable (m : (ℓ : Loc nD τ sig) → Buf (Elt F) ℓ)

set_option backward.proofsInPublic true

/-! ## Contents -/

/-- The two operands as staged. -/
def dyS (c : Dev nD) : (cc0_stg0_0 : Ref sig .tc).ty.Contents (Elt F) :=
  (win0_0.blk (0 : Fin 1)).view.read (Elt F) (m ((c : Thread nD τ).loc main_arg0))
def wS (c : Dev nD) : (cc0_stg1_0 : Ref sig .tc).ty.Contents (Elt F) :=
  (win0_1.blk (0 : Fin 1)).view.read (Elt F) (m ((c : Thread nD τ).loc main_arg1))

theorem inb_dy (p : Fin 8) : ∀ a, ![128 * p.val, 0] a + S128x4096.size a ≤ S1024x4096.size a := by
  intro a
  fin_cases a
  · show 128 * p.val + 128 ≤ 1024; omega
  · show 0 + 4096 ≤ 4096; omega
/-- The 128 rows of the first operand at place `p`, and the whole of the second. -/
abbrev dyR (p : Fin 8) : Rect S1024x4096 := Rect.unit ![128 * p.val, 0] S128x4096.size (inb_dy p)
abbrev wR : Rect S1024x4096 := Rect.unit ![0, 0] S1024x4096.size inb_S1024x4096_S1024x4096_0_0
/-- A device's place, as an index. -/
def pf (c : Dev nD) : Fin 8 := ⟨pos c, pos_lt c⟩

/-- A device's partial product. -/
def PROD (c : Dev nD) : FVec F S128x1024 .f32 :=
  k0_pay1 ((dyM.access (dyR (pf c))).read (Elt F) (dyS m c)) ((wM.access wR).read (Elt F) (wS m c))
def prodN (c : Dev nD) (r x : ℕ) : Elt F .f32 :=
  PROD m c (ix2 ⟨r % 128, Nat.mod_lt _ (by decide)⟩ ⟨x % 1024, Nat.mod_lt _ (by decide)⟩)

/-- The result buffer once the product is in it, on the device's own 128 rows. -/
def OUT1 (c : Dev nD) : S1024x1024.Idx → Elt F .f32 := fun i => prodN m c ((i 0).val - 128 * pos c) (i 1).val
/-- The reduce-scatter buffer: slot `s` from the layer `s + 1` up. -/
def ZC (c : Dev nD) : S3x32x1024.Idx → Elt F .f32 := fun i => prodN m (nb 0 ((i 0).val + 1) c) (32 * zc c + (i 1).val) (i 2).val

/-- A device's reduced rows: its own part of its product, and the three it received. -/
def RED (c : Dev nD) : FVec F S32x1024 .f32 :=
  k0_pay5 (k0_pay2 ((outM.access (rowR c)).read (Elt F) (OUT1 m c)))
    (k0_pay3 ((zM.access (slR 0)).read (Elt F) (ZC m c)) ((zM.access (slR 1)).read (Elt F) (ZC m c)))
    (k0_pay4 ((zM.access (slR 2)).read (Elt F) (ZC m c)))
def redN (c : Dev nD) (r x : ℕ) : Elt F .f32 :=
  RED m c (ix2 ⟨r % 32, Nat.mod_lt _ (by decide)⟩ ⟨x % 1024, Nat.mod_lt _ (by decide)⟩)

/-- The all-gather buffer: slot `s` from the layer `s + 1` up. -/
def GC (c : Dev nD) : S3x32x1024.Idx → Elt F .f32 := fun i => redN m (nb 0 ((i 0).val + 1) c) (i 1).val (i 2).val
/-- A ring buffer: slot `h` from `h + 1` places back (or on), its rows by layers from the device's own. -/
def RC (d : Bool) (c : Dev nD) : S4x128x1024.Idx → Elt F .f32 := fun i =>
  redN m (nb (if d then 1 + (i 0).val else 7 - (i 0).val) ((i 1).val / 32) c) ((i 1).val % 32) (i 2).val
/-- The result, the same on every device. -/
def FIN : S1024x1024.Idx → Elt F .f32 := fun i =>
  redN m (dv ((i 0).val / 128) ((i 0).val % 128 / 32)) ((i 0).val % 32) (i 1).val

/-! ## Coordinates -/

theorem prodN_idx (c : Dev nD) (j : S128x1024.Idx) : prodN m c (j 0).val (j 1).val = PROD m c j := by
  unfold prodN
  congr 1
  have h0 : (j 0).val < 128 := (j 0).isLt
  have h1 : (j 1).val < 1024 := (j 1).isLt
  refine Eq.trans ?_ (eq_ix2 j).symm
  congr 1
  · exact Fin.ext (Nat.mod_eq_of_lt h0)
  · exact Fin.ext (Nat.mod_eq_of_lt h1)

theorem redN_idx (c : Dev nD) (j : S32x1024.Idx) : redN m c (j 0).val (j 1).val = RED m c j := by
  unfold redN
  congr 1
  have h0 : (j 0).val < 32 := (j 0).isLt
  have h1 : (j 1).val < 1024 := (j 1).isLt
  refine Eq.trans ?_ (eq_ix2 j).symm
  congr 1
  · exact Fin.ext (Nat.mod_eq_of_lt h0)
  · exact Fin.ext (Nat.mod_eq_of_lt h1)

/-- A one-high box of a stack, squeezed: its elements' places in the stack. -/
theorem emb_sq {A B n : ℕ} (off : Fin 3 → ℕ) (inb : ∀ a, off a + ![1, n, 1024] a ≤ (⟨3, ![A, B, 1024]⟩ : Shape).size a)
    (h : (⟨2, ![n, 1024]⟩ : Shape).numel = (⟨3, ![1, n, 1024]⟩ : Shape).numel) (j : (⟨2, ![n, 1024]⟩ : Shape).Idx) (a : Fin 3) :
    ((Rect.unit (s := ⟨3, ![A, B, 1024]⟩) off ![1, n, 1024] inb).emb (Shape.reshapeEquiv (s := ⟨3, ![1, n, 1024]⟩) h j) a).val
      = off a + ![0, (j 0).val, (j 1).val] a := by
  rw [show Shape.reshapeEquiv (s := ⟨3, ![1, n, 1024]⟩) h j = (Fin.cons ⟨0, Nat.one_pos⟩ j : (⟨3, ![1, n, 1024]⟩ : Shape).Idx)
    from Shape.reshapeEquiv_cons_one (d := ![n, 1024]) h j]
  match a with
  | ⟨0, _⟩ => show off 0 + 1 * 0 = off 0 + 0; omega
  | ⟨1, _⟩ => show off 1 + 1 * (j 0).val = off 1 + (j 0).val; omega
  | ⟨2, _⟩ => show off 2 + 1 * (j 1).val = off 2 + (j 1).val; omega

theorem emb_flat {A B n k : ℕ} (off : Fin 2 → ℕ) (inb : ∀ a, off a + ![n, k] a ≤ (⟨2, ![A, B]⟩ : Shape).size a)
    (j : (⟨2, ![n, k]⟩ : Shape).Idx) (a : Fin 2) :
    ((Rect.unit (s := ⟨2, ![A, B]⟩) off ![n, k] inb).emb j a).val = off a + (j a).val := by
  show off a + 1 * (j a).val = _
  omega

/-! Reading the contents through the memrefs. -/

theorem read_row_OUT1 (c d : Dev nD) (j : S32x1024.Idx) :
    (rowM d).view.read (Elt F) (OUT1 m c) j = prodN m c (128 * pos d + 32 * zc d + (j 0).val - 128 * pos c) (j 1).val := by
  show OUT1 m c ((rowR d).emb j) = _
  unfold OUT1
  rw [emb_flat, emb_flat]
  show prodN m c _ (0 + (j 1).val) = _
  rw [Nat.zero_add]; rfl

theorem read_row_FIN (c d : Dev nD) (j : S32x1024.Idx) : (rowM d).view.read (Elt F) (FIN m) j = redN m d (j 0).val (j 1).val := by
  show FIN m ((rowR d).emb j) = _
  unfold FIN
  rw [emb_flat, emb_flat]
  have h0 : (j 0).val < 32 := (j 0).isLt
  have h1 := pos_lt d; have h2 := zc_lt d
  show redN m (dv ((128 * pos d + 32 * zc d + (j 0).val) / 128) ((128 * pos d + 32 * zc d + (j 0).val) % 128 / 32))
    ((128 * pos d + 32 * zc d + (j 0).val) % 32) (0 + (j 1).val) = _
  rw [show (128 * pos d + 32 * zc d + (j 0).val) / 128 = pos d by omega, show (128 * pos d + 32 * zc d + (j 0).val) % 128 / 32 = zc d by omega,
    show (128 * pos d + 32 * zc d + (j 0).val) % 32 = (j 0).val by omega, dv_pos_zc, Nat.zero_add]

theorem read_sq_ZC (c : Dev nD) (k : Fin 3) (j : S32x1024.Idx) :
    (sq3 zM k).view.read (Elt F) (ZC m c) j = prodN m (nb 0 (k.val + 1) c) (32 * zc c + (j 0).val) (j 1).val := by
  show ZC m c ((slR k).emb (Shape.reshapeEquiv _ j)) = _
  unfold ZC
  rw [emb_sq, emb_sq, emb_sq]
  show prodN m (nb 0 (k.val + 0 + 1) c) (32 * zc c + (0 + (j 0).val)) (0 + (j 1).val) = _
  rw [Nat.zero_add, Nat.zero_add]

theorem read_sq_GC (c : Dev nD) (k : Fin 3) (j : S32x1024.Idx) :
    (sq3 gM k).view.read (Elt F) (GC m c) j = redN m (nb 0 (k.val + 1) c) (j 0).val (j 1).val := by
  show GC m c ((slR k).emb (Shape.reshapeEquiv _ j)) = _
  unfold GC
  rw [emb_sq, emb_sq, emb_sq]
  show redN m (nb 0 (k.val + 0 + 1) c) (0 + (j 0).val) (0 + (j 1).val) = _
  rw [Nat.zero_add, Nat.zero_add]

/-- An element of a ring buffer, by its box: `n` rows from row `b` of slot `h`. -/
theorem RC_box (d : Bool) (c : Dev nD) (h b n : ℕ) (inb : ∀ a, ![h, b, 0] a + ![1, n, 1024] a ≤ S4x128x1024.size a)
    (hn : (⟨2, ![n, 1024]⟩ : Shape).numel = (⟨3, ![1, n, 1024]⟩ : Shape).numel) (j : (⟨2, ![n, 1024]⟩ : Shape).Idx) :
    RC m d c ((Rect.unit (s := S4x128x1024) ![h, b, 0] ![1, n, 1024] inb).emb (Shape.reshapeEquiv (s := ⟨3, ![1, n, 1024]⟩) hn j))
      = redN m (nb (if d then 1 + h else 7 - h) ((b + (j 0).val) / 32) c) ((b + (j 0).val) % 32) (j 1).val := by
  unfold RC
  rw [emb_sq, emb_sq, emb_sq]
  show redN m (nb (if d then 1 + (h + 0) else 7 - (h + 0)) ((b + (j 0).val) / 32) c) ((b + (j 0).val) % 32) (0 + (j 1).val) = _
  rw [Nat.zero_add]; rfl

/-- A piece's elements: one device's reduced rows. -/
theorem RC_piece (d : Bool) (c : Dev nD) (h k : Fin 4) (j : S32x1024.Idx) :
    RC m d c ((pcR h k).emb (Shape.reshapeEquiv (s := S1x32x1024) (squeezes_S1x32x1024_S32x1024).numel_eq j))
      = redN m (nb (if d then 1 + h.val else 7 - h.val) k.val c) (j 0).val (j 1).val := by
  rw [show RC m d c ((pcR h k).emb (Shape.reshapeEquiv (s := S1x32x1024) (squeezes_S1x32x1024_S32x1024).numel_eq j)) = _ from
    RC_box m d c h.val (32 * k.val) 32 (inb_pc h k) _ j]
  have h0 : (j 0).val < 32 := (j 0).isLt
  rw [show (32 * k.val + (j 0).val) / 32 = k.val by omega, show (32 * k.val + (j 0).val) % 32 = (j 0).val by omega]

/-! The element sets of the memrefs. -/

theorem set_row (d : Dev nD) : (rowM d).view.set = (rowR d).set := by
  show ((View.whole cc0_stg2_0).slice (rowR d)).set = _
  rw [View.set_slice_whole]
theorem set_sqz (k : Fin 3) : (sq3 zM k).view.set = (slR k).set := by
  show (((View.whole cc0_scratch0).slice (slR k)).reshape _ _).set = _
  rw [View.set_reshape, View.set_slice_whole]
theorem set_sqg (k : Fin 3) : (sq3 gM k).view.set = (slR k).set := by
  show (((View.whole cc0_scratch3).slice (slR k)).reshape _ _).set = _
  rw [View.set_reshape, View.set_slice_whole]

end Cert.Ring

end
-- ==== Proof.Sched.lean ====
/-
The protocol: who hands what to whom, on which semaphore, and in what order.

A device's barrier cell takes one unit from each of its five peers; with it a peer hands over the parts of its buffers
the device will write. Each transfer has a send cell on its source and a receive cell on its target, one round each:
the receive cell hands the target the part written, at its contents; the send cell hands the source back what was read.
-/
module

public import proofs.«01_k».proof.Proof.Contents

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's copy, and the protocol's, its duties named by the five peers -/

abbrev UB : Type := URounds (GSem nD τ sig) (Fin 5)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

set_option backward.proofsInPublic true

/-! ## Parts of the buffers -/

abbrev outP (c : Dev nD) (S : Finset S1024x1024.Idx) (q : PosShare TreeShare) (f : S1024x1024.Idx → Elt F .f32) : sProp 𝕄 :=
  ((c : Thread nD τ).loc cc0_stg2_0) ↦[S]{q} f
abbrev zP (c : Dev nD) (S : Finset S3x32x1024.Idx) (q : PosShare TreeShare) (f : S3x32x1024.Idx → Elt F .f32) : sProp 𝕄 :=
  ((c : Thread nD τ).loc cc0_scratch0) ↦[S]{q} f
abbrev gP (c : Dev nD) (S : Finset S3x32x1024.Idx) (q : PosShare TreeShare) (f : S3x32x1024.Idx → Elt F .f32) : sProp 𝕄 :=
  ((c : Thread nD τ).loc cc0_scratch3) ↦[S]{q} f
abbrev rP (d : Bool) (c : Dev nD) (S : Finset S4x128x1024.Idx) (q : PosShare TreeShare) (f : S4x128x1024.Idx → Elt F .f32) : sProp 𝕄 :=
  match d with
  | false => ((c : Thread nD τ).loc cc0_scratch6) ↦[S]{q} f
  | true => ((c : Thread nD τ).loc cc0_scratch11) ↦[S]{q} f

instance rP_storable (d : Bool) (c : Dev nD) (S q f) : BI.Storable (upEmb : UEmb _ 𝕄) (rP d c S q f) := by
  cases d <;> (dsimp only [rP]; infer_instance)

namespace X

/-- What a transfer's target owns once it has arrived. -/
def dpts (t : X) (c : Dev nD) : sProp 𝕄 :=
  match t with
  | z k => zP c (slR (2 - k)).set fullShare (ZC m c)
  | g k => gP c (slR (2 - k)).set fullShare (GC m c)
  | w d k => rP d c (pcR 0 k).set fullShare (RC m d c)
  | s d 0 => rP d c (stR 1).set fullShare (RC m d c)
  | s d 1 => rP d c (stR 2).set fullShare (RC m d c)
  | s d 2 => rP d c (hfR 3 d).set fullShare (RC m d c)

/-- The same part before, at any contents. -/
def dany (t : X) (c : Dev nD) : sProp 𝕄 :=
  match t with
  | z k => iprop(∃ f, zP c (slR (2 - k)).set fullShare f)
  | g k => iprop(∃ f, gP c (slR (2 - k)).set fullShare f)
  | w d k => iprop(∃ f, rP d c (pcR 0 k).set fullShare f)
  | s d 0 => iprop(∃ f, rP d c (stR 1).set fullShare f)
  | s d 1 => iprop(∃ f, rP d c (stR 2).set fullShare f)
  | s d 2 => iprop(∃ f, rP d c (hfR 3 d).set fullShare f)

/-- What a transfer's source lends it: its own reduced rows in five shares, a gathered slot in two of three, half of a
    ring slot. -/
def spts (t : X) (c : Dev nD) : sProp 𝕄 :=
  match t with
  | z k => outP c (rowR (nb 0 (k.val + 1) c)).set fullShare (OUT1 m c)
  | g 0 => outP c (rowR c).set fullShare.right.left (FIN m)
  | g 1 => outP c (rowR c).set fullShare.right.right.left (FIN m)
  | g 2 => outP c (rowR c).set fullShare.right.right.right (FIN m)
  | w d 0 => outP c (rowR c).set (if d then fullShare.left.right else fullShare.left.left) (FIN m)
  | w d 1 => gP c (slR 0).set (if d then fullShare.right.left else fullShare.left) (GC m c)
  | w d 2 => gP c (slR 1).set (if d then fullShare.right.left else fullShare.left) (GC m c)
  | w d 3 => gP c (slR 2).set (if d then fullShare.right.left else fullShare.left) (GC m c)
  | s d 0 => rP d c (stR 0).set fullShare.left (RC m d c)
  | s d 1 => rP d c (stR 1).set fullShare.left (RC m d c)
  | s d 2 => rP d c (hfR 2 d).set fullShare.left (RC m d c)

/-- A transfer's credit. -/
def N : X → ℕ
  | s _ 2 => 8192
  | s _ _ => 16384
  | _ => 4096

theorem N_pos (t : X) : 0 < t.N := by revert t; decide
theorem credit_dst (t : X) : t.dst.view.dmaCredit = t.N := by revert t; decide

instance dpts_storable (t : X) (c : Dev nD) : BI.Storable (upEmb : UEmb _ 𝕄) (t.dpts m c) := by
  unfold dpts; split <;> infer_instance
instance dany_storable (t : X) (c : Dev nD) : BI.Storable (upEmb : UEmb _ 𝕄) (t.dany (F := F) c) := by
  unfold dany; split <;> infer_instance
instance spts_storable (t : X) (c : Dev nD) : BI.Storable (upEmb : UEmb _ 𝕄) (t.spts m c) := by
  unfold spts; split <;> infer_instance

end X

/-! ## The cells -/

abbrev barS : Sem sig := (SemArray.scalar (sig.barrier 0 rfl) : Sems sig S_).sem
/-- A device's cells: its barrier's (`none`), and a send and a receive cell for each transfer. -/
abbrev csem : Option (X × Bool) → SemLoc sig
  | none => .reg barS
  | some (t, b) => .dma (t.ds b)
abbrev kcell (x : Dev nD × Option (X × Bool)) : GSem nD τ sig := ((x.1 : Thread nD τ), csem x.2)
abbrev barCell (c : Dev nD) : GSem nD τ sig := ((c : Thread nD τ), .reg barS)
abbrev cell (c : Dev nD) (t : X) (b : Bool) : GSem nD τ sig := ((c : Thread nD τ), .dma (t.ds b))

/-- The peer that a device is to its own peer `i`. -/
def opp : Fin 5 → Fin 5 := ![2, 1, 0, 4, 3]
theorem opp_opp (i : Fin 5) : opp (opp i) = i := by revert i; decide
theorem peer_opp (i : Fin 5) (c : Dev nD) : peer (opp i) (peer i c) = c :=
  nb_back (by revert i; decide) (by revert i; decide) c

/-- What duty `i` of a device's barrier cell hands it: the parts of peer `i`'s buffers it will write. -/
def barPay (c : Dev nD) (i : Fin 5) : sProp 𝕄 :=
  bigSep Finset.univ fun t : X => if t.grp = i then t.dany (peer i c) else iprop(emp)

instance barPay_storable (c : Dev nD) (i : Fin 5) : BI.Storable (upEmb : UEmb _ 𝕄) (barPay (F := F) c i) := by
  unfold barPay
  have (t : X) : BI.Storable (upEmb : UEmb _ 𝕄) (if t.grp = i then t.dany (F := F) (peer i c) else iprop(emp)) := by
    split <;> infer_instance
  infer_instance

/-- What a transfer's cell hands its owner. -/
def cellPay (c : Dev nD) (x : Option (X × Bool)) : sProp 𝕄 :=
  match x with
  | some (t, true) => t.dpts m c
  | some (t, false) => t.spts m c
  | none => iprop(emp)

instance cellPay_storable (c : Dev nD) (x) : BI.Storable (upEmb : UEmb _ 𝕄) (cellPay m c x) := by
  unfold cellPay; split <;> infer_instance

/-- One round of each cell. -/
def ringRd : Rounds.Schedule (GSem nD τ sig) (Fin 5) 𝕄 where
  duties g r := if r = 0 ∧ g.1.2 = .tc then (match g.2 with
    | .reg s => if s = barS then Finset.univ else ∅
    | .dma q => if (ofSem q.val).isSome then {0} else ∅) else ∅
  unitless _ := False
  amount g _ _ := match g.2 with
    | .reg _ => 1
    | .dma q => match ofSem q.val with | some x => x.1.N | none => 1
  payload g _ i := match g.2 with
    | .reg _ => barPay g.1.1 i
    | .dma q => cellPay m g.1.1 (ofSem q.val)
  amount_pos g _ _ _ := by
    dsimp only
    split
    · exact Nat.one_pos
    · split
      · exact X.N_pos _
      · exact Nat.one_pos

instance ringRd_payload_storable (g : GSem nD τ sig) (r : ℕ) (i : Fin 5) :
    BI.Storable (upEmb : UEmb _ 𝕄) ((ringRd (F := F) m).payload g r i) := by
  dsimp only [ringRd]
  split <;> infer_instance

section Tables
variable (c : Dev nD) (t : X) (b : Bool)

theorem ofSem_ds : ofSem (t.ds b).val = some (t, b) := ofSem_dn t b

theorem duties_bar : (ringRd (F := F) m).duties (barCell c) 0 = Finset.univ := by
  dsimp only [ringRd]; rw [if_pos ⟨rfl, rfl⟩]; exact if_pos rfl
theorem duties_cell : (ringRd (F := F) m).duties (cell c t b) 0 = {0} := by
  dsimp only [ringRd]; rw [if_pos ⟨rfl, rfl⟩, ofSem_ds]; exact if_pos rfl
theorem duties_later (g : GSem nD τ sig) : ∀ r, 1 ≤ r → (ringRd (F := F) m).duties g r = ∅ :=
  fun r hr => by dsimp only [ringRd]; rw [if_neg fun h => by omega]
theorem amount_bar (i : Fin 5) : (ringRd (F := F) m).amount (barCell c) 0 i = 1 := rfl
theorem amount_cell (i : Fin 5) : (ringRd (F := F) m).amount (cell c t b) 0 i = t.N := by
  dsimp only [ringRd]; rw [ofSem_ds]
theorem expect_bar : (ringRd (F := F) m).expect (barCell c) 0 = 5 := by
  unfold Schedule.expect Schedule.amountOf
  rw [duties_bar, Finset.sum_congr rfl fun d _ => amount_bar m c d, Finset.sum_const, Finset.card_univ, Fintype.card_fin, smul_eq_mul]
theorem expect_cell : (ringRd (F := F) m).expect (cell c t b) 0 = t.N := by
  unfold Schedule.expect Schedule.amountOf; rw [duties_cell, Finset.sum_singleton, amount_cell]
theorem payload_bar (i : Fin 5) : (ringRd (F := F) m).payload (barCell c) 0 i = barPay c i := rfl
theorem payload_cell (i : Fin 5) : (ringRd (F := F) m).payload (cell c t b) 0 i = cellPay m c (some (t, b)) := by
  dsimp only [ringRd]; rw [ofSem_ds]
theorem payload_recv (i : Fin 5) : (ringRd (F := F) m).payload (cell c t true) 0 i = t.dpts m c := payload_cell m c t true i
theorem payload_send (i : Fin 5) : (ringRd (F := F) m).payload (cell c t false) 0 i = t.spts m c := payload_cell m c t false i
theorem rest_bar : bigSep ((ringRd (F := F) m).duties (barCell c) 0 \ ∅) (fun d => (ringRd (F := F) m).payload (barCell c) 0 d)
    = bigSep Finset.univ fun i => barPay c i := by
  rw [Finset.sdiff_empty, duties_bar]; rfl
theorem rest_cell : bigSep ((ringRd (F := F) m).duties (cell c t b) 0 \ ∅) (fun d => (ringRd (F := F) m).payload (cell c t b) 0 d)
    = cellPay m c (some (t, b)) := by
  rw [Finset.sdiff_empty, duties_cell, bigSep_singleton, payload_cell]

end Tables

/-! ## What a device owes, and the levels -/

/-- What device `c` owes with the transfers from the `n`-th on still to be started. -/
def Ow (c : Dev nD) (n : ℕ) : CellTallies nD τ sig Unit :=
  ∑ t : X, if n ≤ t.ord then tallyAt (cell (t.tgt c) t true) () t.N else 0
/-- What it owes its peers' barriers with the signals from the `n`-th on still to be sent. -/
def Ob (c : Dev nD) (n : ℕ) : CellTallies nD τ sig Unit :=
  ∑ i : Fin 5, if n ≤ i.val then tallyAt (barCell (peer i c)) () 1 else 0

theorem Ow_step (c : Dev nD) (t : X) : Ow c t.ord = Ow c (t.ord + 1) + tallyAt (cell (t.tgt c) t true) () t.N := by
  unfold Ow
  rw [← Finset.add_sum_erase _ _ (Finset.mem_univ t), ← Finset.add_sum_erase _ _ (Finset.mem_univ t), if_pos le_rfl,
    if_neg (by omega), zero_add, add_comm]
  congr 1
  refine Finset.sum_congr rfl fun u hu => ?_
  have hne : u.ord ≠ t.ord := fun h => (Finset.mem_erase.mp hu).1 (X.ord_inj h)
  by_cases h : t.ord ≤ u.ord
  · rw [if_pos h, if_pos (by omega)]
  · rw [if_neg h, if_neg (by omega)]

theorem Ow_end (c : Dev nD) : Ow c 20 = 0 := by
  unfold Ow
  exact Finset.sum_eq_zero fun t _ => if_neg (by have := t.ord_lt; omega)

theorem Ob_step (c : Dev nD) (i : Fin 5) : Ob c i.val = Ob c (i.val + 1) + tallyAt (barCell (peer i c)) () 1 := by
  unfold Ob
  rw [← Finset.add_sum_erase _ _ (Finset.mem_univ i), ← Finset.add_sum_erase _ _ (Finset.mem_univ i), if_pos le_rfl,
    if_neg (by omega), zero_add, add_comm]
  congr 1
  refine Finset.sum_congr rfl fun u hu => ?_
  have hne : u.val ≠ i.val := fun h => (Finset.mem_erase.mp hu).1 (Fin.ext h)
  by_cases h : i.val ≤ u.val
  · rw [if_pos h, if_pos (by omega)]
  · rw [if_neg h, if_neg (by omega)]

theorem Ob_end (c : Dev nD) : Ob c 5 = 0 := by
  unfold Ob
  exact Finset.sum_eq_zero fun i _ => if_neg (by omega)

def O₀ (c : Dev nD) : CellTallies nD τ sig Unit := Ow c 0 + Ob c 0

def L (g : GSem nD τ sig) : Finset Unit := if g.1.2 = .tc then {()} else ∅
/-- A receive cell's level grows along the protocol; barriers are below, everything else at the bottom. -/
def lvS : SemLoc sig → ℕ
  | .reg _ => 1
  | .dma q => match ofSem q.val with | some (t, true) => t.lev | _ => 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem lvS_recv (t : X) : lvS (.dma (t.ds true)) = t.lev := by unfold lvS; dsimp only; rw [ofSem_ds]
theorem lvS_send (t : X) : lvS (.dma (t.ds false)) = 0 := by unfold lvS; dsimp only; rw [ofSem_ds]

theorem sum_pos_of {I : Type} [Fintype I] {f : I → CellTallies nD τ sig Unit} {g : GSem nD τ sig} {u : Unit}
    (h : 0 < (∑ i, f i) g u) : ∃ i, 0 < f i g u := by
  by_contra hn
  push Not at hn
  rw [Finset.sum_apply, Finsupp.finset_sum_apply, Finset.sum_eq_zero fun i _ => Nat.le_zero.mp (hn i)] at h
  exact Nat.lt_irrefl 0 h

theorem tallyAt_pos {g g' : GSem nD τ sig} {u : Unit} {k : ℕ} (h : 0 < (tallyAt g () k : CellTallies nD τ sig Unit) g' u) : g' = g := by
  rw [tallyAt_apply] at h
  by_contra hn
  rw [if_neg fun h' => hn h'.1] at h
  exact Nat.lt_irrefl 0 h

theorem Ow_pos {c : Dev nD} {n : ℕ} {g : GSem nD τ sig} {u : Unit} (h : 0 < Ow c n g u) :
    ∃ t : X, n ≤ t.ord ∧ g = cell (t.tgt c) t true := by
  obtain ⟨t, ht⟩ := sum_pos_of h
  by_cases hn : n ≤ t.ord
  · rw [if_pos hn] at ht; exact ⟨t, hn, tallyAt_pos ht⟩
  · rw [if_neg hn] at ht; exact absurd ht (Nat.lt_irrefl 0)

theorem Ob_pos {c : Dev nD} {n : ℕ} {g : GSem nD τ sig} {u : Unit} (h : 0 < Ob c n g u) : ∃ i : Fin 5, g = barCell (peer i c) := by
  obtain ⟨i, hi⟩ := sum_pos_of h
  by_cases hn : n ≤ i.val
  · rw [if_pos hn] at hi; exact ⟨i, tallyAt_pos hi⟩
  · rw [if_neg hn] at hi; exact absurd hi (Nat.lt_irrefl 0)

/-- The levels, as every device knows them. -/
def levs : sProp 𝕄 := levAts L lv
instance levs_persistent : BI.Persistent (levs (F := F)) := by unfold levs; infer_instance

/-- A device may wait on a cell of its own below everything it still owes. -/
theorem mayWait (c : Dev nD) (sm : SemLoc sig) (n : ℕ) (h : ∀ t : X, n ≤ t.ord → lvS sm < t.lev) :
    levs (F := F) ⊢ MayWait (c : Thread nD τ) sm () (Ow c n) :=
  MayOwe.of_cut (L := L) (lev := lv) (lvS sm) (fun p hp => by rw [Finset.mem_singleton.mp hp, L_tc]; exact Finset.mem_singleton_self _)
    (fun g u hg => by obtain ⟨t, _, rfl⟩ := Ow_pos hg; exact Finset.mem_singleton_self _)
    (fun p hp => by rw [Finset.mem_singleton.mp hp]; exact le_refl (lvS sm))
    (fun g u hg => by
      obtain ⟨t, ht, rfl⟩ := Ow_pos hg
      show lvS sm < lvS (.dma (t.ds true))
      rw [lvS_recv]; exact h t ht)

/-- At launch and at the end it may wait for its operands. -/
theorem mayWait_stage (c : Dev nD) (q : DmaSem sig) (hq : lvS (.dma q) = 0) (O : CellTallies nD τ sig Unit) (hO : O = O₀ c ∨ O = 0) :
    levs (F := F) ⊢ MayWait (c : Thread nD τ) (.dma q) () O := by
  rcases hO with rfl | rfl
  · have hor {g : GSem nD τ sig} {u : Unit} (hg : 0 < O₀ c g u) : 0 < Ow c 0 g u ∨ 0 < Ob c 0 g u := by
      unfold O₀ at hg
      rw [Pi.add_apply, Finsupp.add_apply] at hg
      omega
    refine MayOwe.of_cut (L := L) (lev := lv) 0 (fun p hp => by rw [Finset.mem_singleton.mp hp, L_tc]; exact Finset.mem_singleton_self _)
      (fun g u hg => by
        rcases hor hg with h | h
        · obtain ⟨t, _, rfl⟩ := Ow_pos h; exact Finset.mem_singleton_self _
        · obtain ⟨i, rfl⟩ := Ob_pos h; exact Finset.mem_singleton_self _)
      (fun p hp => by rw [Finset.mem_singleton.mp hp]; exact le_of_eq hq)
      (fun g u hg => by
        rcases hor hg with h | h
        · obtain ⟨t, _, rfl⟩ := Ow_pos h
          show 0 < lvS (.dma (t.ds true))
          rw [lvS_recv]; clear * -; revert t; decide
        · obtain ⟨i, rfl⟩ := Ob_pos h; exact Nat.one_pos)
  · rw [MayWait_zero]; iintro -; iempintro

/-! ## A device's progress -/

/-- The order a device waits in. -/
def wo : X × Bool → ℕ
  | (.z k, true) => k
  | (.z k, false) => 3 + k
  | (.g k, true) => 6 + (2 - k)
  | (.w d k, true) => 9 + (if d then 4 else 0) + k
  | (.s d h, true) => 17 + 2 * h + (if d then 1 else 0)
  | (.g k, false) => 23 + k
  | (.w d k, false) => 26 + (if d then 4 else 0) + k
  | (.s d h, false) => 34 + 2 * h + (if d then 1 else 0)

theorem wo_inj {x y : X × Bool} (h : wo x = wo y) : x = y := by revert x y; decide
theorem wo_lt (x : X × Bool) : wo x < 40 := by revert x; decide

/-- What a wait hands out, and what is kept with the closed cell till the end. -/
def giv (c : Dev nD) : X × Bool → sProp 𝕄
  | (t, true) => t.dpts m c
  | (.z k, false) => (X.z k).spts m c
  | _ => iprop(emp)
def kept (c : Dev nD) : X × Bool → sProp 𝕄
  | (_, true) => iprop(emp)
  | (.z _, false) => iprop(emp)
  | (t, false) => t.spts m c

theorem pay_split (c : Dev nD) (x : X × Bool) : cellPay m c (some x) ⊢ iprop(giv m c x ∗ kept m c x) := by
  obtain ⟨t, b⟩ := x
  cases b
  · cases t
    · exact (sep_emp (PROP := sProp 𝕄)).2
    all_goals exact (emp_sep (PROP := sProp 𝕄)).2
  · exact (sep_emp (PROP := sProp 𝕄)).2

/-- What starting a transfer takes beside its source. -/
def snd (c : Dev nD) (t : X) : sProp 𝕄 :=
  iprop(dutyTok ER (cell c t false) 0 (0 : Fin 5) ∗ dutyTok ER (cell (t.tgt c) t true) 0 (0 : Fin 5) ∗ atPos ER (cell c t false) 0 ∅ 0
    ∗ t.dany (t.tgt c))
/-- What waiting takes. -/
def wt (c : Dev nD) (x : X × Bool) : sProp 𝕄 :=
  iprop(atPos ER (cell c x.1 x.2) 0 ∅ 0 ∗ cred (tallyAt (cell c x.1 x.2) () x.1.N))
def done (c : Dev nD) (x : X × Bool) : sProp 𝕄 := iprop(semVal (cell c x.1 x.2) 0 ∗ kept m c x)

/-- A transfer's cell after `n` starts and `w` waits. -/
def wst (c : Dev nD) (n w : ℕ) (x : X × Bool) : sProp 𝕄 :=
  if wo x < w then done m c x else if x.2 = true ∨ x.1.ord < n then wt c x else iprop(emp)

/-- A device that has started `n` transfers and waited `w` times. -/
def Run (c : Dev nD) (n w : ℕ) : sProp 𝕄 :=
  iprop((∃ W, owes (c : Thread nD τ) (Ow c n) W)
    ∗ (bigSep Finset.univ fun t : X => if n ≤ t.ord then snd c t else iprop(emp))
    ∗ bigSep Finset.univ fun x : X × Bool => wst m c n w x)

/-- What all devices know: the cells' invariants, that each cell has reached its round, the levels. -/
def ctx (K : Dev nD × Option (X × Bool) → ℕ) : sProp 𝕄 :=
  iprop((bigSep Finset.univ fun x => cellInv ER (ringRd m) (K x) (kcell x)) ∗ (bigSep Finset.univ fun x => reached ER (kcell x) 0)
    ∗ levs (F := F))

instance ctx_persistent (K) : BI.Persistent (ctx m K) := by unfold ctx; infer_instance

variable (K : Dev nD × Option (X × Bool) → ℕ)

theorem all_inv (x : Dev nD × Option (X × Bool)) :
    (bigSep Finset.univ fun x => cellInv ER (ringRd m) (K x) (kcell x)) ⊢ cellInv ER (ringRd m) (K x) (kcell x) :=
  bigSep_elim (Finset.mem_univ x)
theorem all_reached (x : Dev nD × Option (X × Bool)) :
    (bigSep Finset.univ fun x : Dev nD × Option (X × Bool) => (reached ER (kcell x) 0 : sProp 𝕄)) ⊢ reached ER (kcell x) 0 :=
  bigSep_elim (Finset.mem_univ x)
theorem may (c : Dev nD) (sm : SemLoc sig) (n : ℕ) (h : ∀ t : X, n ≤ t.ord → lvS sm < t.lev) :
    ctx m K ⊢ MayWait (c : Thread nD τ) sm () (Ow c n) := by
  unfold ctx
  iintro ⟨-, -, H⟩
  iapply (mayWait c sm n h); iexact H
theorem ctx_inv (x : Dev nD × Option (X × Bool)) : ctx m K ⊢ cellInv ER (ringRd m) (K x) (kcell x) := by
  unfold ctx
  iintro ⟨H, -, -⟩
  iapply (all_inv m K x); iexact H
theorem ctx_reached (x : Dev nD × Option (X × Bool)) : ctx m K ⊢ reached ER (kcell x) 0 := by
  unfold ctx
  iintro ⟨-, H, -⟩
  iapply (all_reached x); iexact H
theorem ctx_lev : ctx m K ⊢ levs (F := F) := by
  unfold ctx
  iintro ⟨-, -, H⟩
  iexact H

/-- Changing one summand. -/
theorem bigSep_one {I : Type} [Fintype I] [DecidableEq I] (i : I) {Φ Ψ : I → sProp 𝕄} (h : ∀ j, j ≠ i → Φ j = Ψ j) :
    bigSep Finset.univ Φ ⊢ iprop(Φ i ∗ (Ψ i -∗ bigSep Finset.univ Ψ)) := by
  rw [bigSep_univ_at Φ i, bigSep_univ_at Ψ i,
    bigSep_congr (s := Finset.univ.erase i) (Φ := Φ) (Ψ := Ψ) fun j hj => h j (Finset.mem_erase.mp hj).1]
  iintro ⟨H1, H2⟩
  isplitl [H1]; · iexact H1
  iintro H3
  isplitl [H3] <;> iassumption

end Cert.Ring

end
-- ==== Proof.Moves.lean ====
/-
What each transfer moves: its source as lent, its destination as handed over, and that the destination then holds what
its target expects.
-/
module

public import proofs.«01_k».proof.Proof.Sched
public import Idealize.ShloMosaic.Lib.ViewIndex

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

set_option backward.proofsInPublic true

/-- A part of a buffer, seen through a memref of device `c`. -/
abbrev mpts {s : Shape} (r : Memref sig .tc .vmem s .f32) (c : Dev nD) (q : PosShare TreeShare) (f : r.view.ty.Contents (Elt F)) : sProp 𝕄 :=
  (r.view.loc (c : Thread nD τ)) ↦[r.view.set]{q} f

theorem mpts_row (c d : Dev nD) (q f) : mpts (F := F) (rowM d) c q f = outP c (rowR d).set q f := by
  unfold mpts; rw [set_row]
theorem mpts_sqz (c : Dev nD) (k q f) : mpts (F := F) (sq3 zM k) c q f = zP c (slR k).set q f := by
  unfold mpts; rw [set_sqz]
theorem mpts_sqg (c : Dev nD) (k q f) : mpts (F := F) (sq3 gM k) c q f = gP c (slR k).set q f := by
  unfold mpts; rw [set_sqg]

theorem mpts_sqpF (c : Dev nD) (h j) (q f) : mpts (F := F) (sqp false h j) c q f = rP false c (pcR h j).set q f := by
  unfold mpts
  rw [show (sqp false h j).view.set = (pcR h j).set by
    show (((View.whole cc0_scratch6).slice (pcR h j)).reshape _ _).set = _
    rw [View.set_reshape, View.set_slice_whole]]
theorem mpts_sqpT (c : Dev nD) (h j) (q f) : mpts (F := F) (sqp true h j) c q f = rP true c (pcR h j).set q f := by
  unfold mpts
  rw [show (sqp true h j).view.set = (pcR h j).set by
    show (((View.whole cc0_scratch11).slice (pcR h j)).reshape _ _).set = _
    rw [View.set_reshape, View.set_slice_whole]]
theorem mpts_sqsF (c : Dev nD) (h) (q f) : mpts (F := F) (sqs false h) c q f = rP false c (stR h).set q f := by
  unfold mpts
  rw [show (sqs false h).view.set = (stR h).set by
    show (((View.whole cc0_scratch6).slice (stR h)).reshape _ _).set = _
    rw [View.set_reshape, View.set_slice_whole]]
theorem mpts_sqsT (c : Dev nD) (h) (q f) : mpts (F := F) (sqs true h) c q f = rP true c (stR h).set q f := by
  unfold mpts
  rw [show (sqs true h).view.set = (stR h).set by
    show (((View.whole cc0_scratch11).slice (stR h)).reshape _ _).set = _
    rw [View.set_reshape, View.set_slice_whole]]
theorem mpts_sqhF (c : Dev nD) (h b) (q f) : mpts (F := F) (sqh false h b) c q f = rP false c (hfR h b).set q f := by
  unfold mpts
  rw [show (sqh false h b).view.set = (hfR h b).set by
    show (((View.whole cc0_scratch6).slice (hfR h b)).reshape _ _).set = _
    rw [View.set_reshape, View.set_slice_whole]]
theorem mpts_sqhT (c : Dev nD) (h b) (q f) : mpts (F := F) (sqh true h b) c q f = rP true c (hfR h b).set q f := by
  unfold mpts
  rw [show (sqh true h b).view.set = (hfR h b).set by
    show (((View.whole cc0_scratch11).slice (hfR h b)).reshape _ _).set = _
    rw [View.set_reshape, View.set_slice_whole]]

/-- Written with what `g` reads there, a memref's part holds `g`. -/
theorem lands {s : Shape} (r : Memref sig .tc .vmem s .f32) (c : Dev nD) (fd g : r.view.ty.Contents (Elt F)) (w : s.Idx → Elt F .f32)
    (h : ∀ j, w j = r.view.read (Elt F) g j) :
    mpts r c fullShare (r.view.write (Elt F) fd w Finset.univ) = mpts r c fullShare g := by
  refine pointsTo_congr fun i hi => ?_
  obtain ⟨j, -, rfl⟩ := Finset.mem_map.mp hi
  exact View.eq_of_read_eq ((View.read_write_of_mem fd w (Finset.mem_univ j)).trans (h j))

/-- A transfer moves what it should. -/
def Moves (t : X) (c : Dev nD) : Prop :=
  ∃ (q : PosShare TreeShare) (fs : (t.src c).view.ty.Contents (Elt F)),
    t.spts m c = mpts (t.src c) c q fs ∧ (t.dany (t.tgt c) ⊢ iprop(∃ fd, mpts (F := F) t.dst (t.tgt c) fullShare fd))
    ∧ ∀ fd, mpts t.dst (t.tgt c) fullShare (t.dst.view.write (Elt F) fd ((t.src c).view.read (Elt F) fs) Finset.univ) ⊢ t.dpts m (t.tgt c)

theorem Moves.of (t : X) (c : Dev nD) (q : PosShare TreeShare) (fs : (t.src c).view.ty.Contents (Elt F)) (g : t.dst.view.ty.Contents (Elt F))
    (hs : t.spts m c = mpts (t.src c) c q fs) (hd : t.dany (t.tgt c) = iprop(∃ fd, mpts (F := F) t.dst (t.tgt c) fullShare fd))
    (hg : mpts t.dst (t.tgt c) fullShare g = t.dpts m (t.tgt c))
    (h : ∀ j, (t.src c).view.read (Elt F) fs j = t.dst.view.read (Elt F) g j) : Moves m t c :=
  ⟨q, fs, hs, Entails.of_eq hd, fun fd => Entails.of_eq ((lands t.dst (t.tgt c) fd g _ h).trans hg)⟩

theorem tgt_z (k : Fin 3) (c : Dev nD) : (X.z k).tgt c = nb 0 (k.val + 1) c := by
  match k with
  | 0 => rfl
  | 1 => rfl
  | 2 => rfl
theorem tgt_g (k : Fin 3) (c : Dev nD) : (X.g k).tgt c = nb 0 (k.val + 1) c := by
  match k with
  | 0 => rfl
  | 1 => rfl
  | 2 => rfl
theorem up_back (k : Fin 3) (c : Dev nD) : nb 0 ((2 - k).val + 1) (nb 0 (k.val + 1) c) = c :=
  nb_back (by decide) (by revert k; decide) c

theorem dany_z (k : Fin 3) (e : Dev nD) : (X.z k).dany (F := F) e = iprop(∃ f, zP e (slR (2 - k)).set fullShare f) := rfl
theorem dany_g (k : Fin 3) (e : Dev nD) : (X.g k).dany (F := F) e = iprop(∃ f, gP e (slR (2 - k)).set fullShare f) := rfl
theorem dany_w (d : Bool) (k : Fin 4) (e : Dev nD) : (X.w d k).dany (F := F) e = iprop(∃ f, rP d e (pcR 0 k).set fullShare f) := rfl

theorem moves_z (k : Fin 3) (c : Dev nD) : Moves m (.z k) c := by
  refine Moves.of m (.z k) c fullShare (OUT1 m c) (ZC m ((X.z k).tgt c)) (mpts_row c _ _ _).symm ?_ (mpts_sqz _ _ _ _) fun j => ?_
  · generalize (X.z k).tgt c = e
    rw [dany_z]
    exact congrArg _ (funext fun f => (mpts_sqz _ _ _ _).symm)
  · refine (read_row_OUT1 m c _ j).trans (Eq.trans ?_ (read_sq_ZC m ((X.z k).tgt c) (2 - k) j).symm)
    rw [tgt_z, up_back, zc_nb, pos_nb]
    congr 1
    have := pos_lt c
    omega

/-- The share of its own rows each gather is lent. -/
def gq : Fin 3 → PosShare TreeShare
  | 0 => fullShare.right.left
  | 1 => fullShare.right.right.left
  | 2 => fullShare.right.right.right
theorem spts_g (k : Fin 3) (c : Dev nD) : (X.g k).spts m c = mpts (rowM c) c (gq k) (FIN m) := by
  rw [mpts_row]
  match k with
  | 0 => rfl
  | 1 => rfl
  | 2 => rfl
theorem moves_g (k : Fin 3) (c : Dev nD) : Moves m (.g k) c := by
  refine Moves.of m (.g k) c (gq k) (FIN m) (GC m ((X.g k).tgt c)) (spts_g m k c) ?_ (mpts_sqg _ _ _ _) fun j => ?_
  · generalize (X.g k).tgt c = e
    rw [dany_g]
    exact congrArg _ (funext fun f => (mpts_sqg _ _ _ _).symm)
  · refine (read_row_FIN m c c j).trans (Eq.trans ?_ (read_sq_GC m ((X.g k).tgt c) (2 - k) j).symm)
    rw [tgt_g, up_back]

/-- The ring slots a hop apart, on neighbours. -/
theorem hop (d : Bool) (h : Fin 3) (k : ℕ) (c : Dev nD) :
    nb (if d then 1 + (h.val + 1) else 7 - (h.val + 1)) k ((X.s d h).tgt c) = nb (if d then 1 + h.val else 7 - h.val) k c := by
  cases d
  · show nb (7 - (h.val + 1)) k (nb 1 0 c) = nb (7 - h.val) k c
    rw [nb_nb]; exact nb_congr (by omega) (by omega) c
  · show nb (1 + (h.val + 1)) k (nb 7 0 c) = nb (1 + h.val) k c
    rw [nb_nb]; exact nb_congr (by omega) (by omega) c

theorem first (d : Bool) (k : Fin 4) (c : Dev nD) : nb (if d then 1 else 7) k.val ((X.w d k).tgt c) = nb 0 k.val c := by
  cases d
  · show nb 7 k (nb 1 0 c) = _
    rw [nb_nb]; exact nb_congr (by omega) (by omega) c
  · show nb 1 k (nb 7 0 c) = _
    rw [nb_nb]; exact nb_congr (by omega) (by omega) c

/-- What the ring's first slot expects, from the sender's own rows or what it gathered. -/
theorem read_first (d : Bool) (k : Fin 4) (c : Dev nD) (j : S32x1024.Idx) :
    RC m d ((X.w d k).tgt c) ((pcR 0 k).emb (Shape.reshapeEquiv (s := S1x32x1024) (squeezes_S1x32x1024_S32x1024).numel_eq j))
      = redN m (nb 0 k.val c) (j 0).val (j 1).val := by
  rw [RC_piece]
  show redN m (nb (if d then 1 else 7) k.val _) _ _ = _
  rw [first]

theorem own_first (d : Bool) (c : Dev nD) (j : S32x1024.Idx) : (rowM c).view.read (Elt F) (FIN m) j
    = RC m d ((X.w d 0).tgt c) ((pcR 0 0).emb (Shape.reshapeEquiv (s := S1x32x1024) (squeezes_S1x32x1024_S32x1024).numel_eq j)) := by
  rw [read_row_FIN m c, read_first]
  show _ = redN m (nb 0 0 c) _ _
  rw [nb_zero]

theorem got_first (d : Bool) (k : Fin 3) (k' : Fin 4) (hk : k'.val = k.val + 1) (c : Dev nD) (j : S32x1024.Idx) :
    (sq3 gM k).view.read (Elt F) (GC m c) j
    = RC m d ((X.w d k').tgt c) ((pcR 0 k').emb (Shape.reshapeEquiv (s := S1x32x1024) (squeezes_S1x32x1024_S32x1024).numel_eq j)) := by
  rw [read_sq_GC, read_first, hk]

theorem dany_wF (k : Fin 4) (e : Dev nD) : (X.w false k).dany e = iprop(∃ fd, mpts (F := F) (sqp false 0 k) e fullShare fd) := by
  rw [dany_w]; exact congrArg _ (funext fun f => (mpts_sqpF _ _ _ _ _).symm)
theorem dany_wT (k : Fin 4) (e : Dev nD) : (X.w true k).dany e = iprop(∃ fd, mpts (F := F) (sqp true 0 k) e fullShare fd) := by
  rw [dany_w]; exact congrArg _ (funext fun f => (mpts_sqpT _ _ _ _ _).symm)

theorem moves_wF (k : Fin 4) (c : Dev nD) : Moves m (.w false k) c := by
  match k with
  | 0 =>
    exact Moves.of m (.w false 0) c fullShare.left.left (FIN m) (RC m false ((X.w false 0).tgt c)) (mpts_row c _ _ _).symm
      (dany_wF 0 _) (mpts_sqpF _ _ _ _ _) (own_first m false c)
  | 1 =>
    exact Moves.of m (.w false 1) c fullShare.left (GC m c) (RC m false ((X.w false 1).tgt c)) (mpts_sqg c _ _ _).symm
      (dany_wF 1 _) (mpts_sqpF _ _ _ _ _) (got_first m false 0 1 rfl c)
  | 2 =>
    exact Moves.of m (.w false 2) c fullShare.left (GC m c) (RC m false ((X.w false 2).tgt c)) (mpts_sqg c _ _ _).symm
      (dany_wF 2 _) (mpts_sqpF _ _ _ _ _) (got_first m false 1 2 rfl c)
  | 3 =>
    exact Moves.of m (.w false 3) c fullShare.left (GC m c) (RC m false ((X.w false 3).tgt c)) (mpts_sqg c _ _ _).symm
      (dany_wF 3 _) (mpts_sqpF _ _ _ _ _) (got_first m false 2 3 rfl c)

theorem moves_wT (k : Fin 4) (c : Dev nD) : Moves m (.w true k) c := by
  match k with
  | 0 =>
    exact Moves.of m (.w true 0) c fullShare.left.right (FIN m) (RC m true ((X.w true 0).tgt c)) (mpts_row c _ _ _).symm
      (dany_wT 0 _) (mpts_sqpT _ _ _ _ _) (own_first m true c)
  | 1 =>
    exact Moves.of m (.w true 1) c fullShare.right.left (GC m c) (RC m true ((X.w true 1).tgt c)) (mpts_sqg c _ _ _).symm
      (dany_wT 1 _) (mpts_sqpT _ _ _ _ _) (got_first m true 0 1 rfl c)
  | 2 =>
    exact Moves.of m (.w true 2) c fullShare.right.left (GC m c) (RC m true ((X.w true 2).tgt c)) (mpts_sqg c _ _ _).symm
      (dany_wT 2 _) (mpts_sqpT _ _ _ _ _) (got_first m true 1 2 rfl c)
  | 3 =>
    exact Moves.of m (.w true 3) c fullShare.right.left (GC m c) (RC m true ((X.w true 3).tgt c)) (mpts_sqg c _ _ _).symm
      (dany_wT 3 _) (mpts_sqpT _ _ _ _ _) (got_first m true 2 3 rfl c)

theorem hop_box (d : Bool) (c : Dev nD) (h : Fin 3) (b n : ℕ) (i1 i2) (hn : (⟨2, ![n, 1024]⟩ : Shape).numel = (⟨3, ![1, n, 1024]⟩ : Shape).numel)
    (j : (⟨2, ![n, 1024]⟩ : Shape).Idx) :
    RC m d c ((Rect.unit (s := S4x128x1024) ![h.val, b, 0] ![1, n, 1024] i1).emb (Shape.reshapeEquiv (s := ⟨3, ![1, n, 1024]⟩) hn j))
      = RC m d ((X.s d h).tgt c) ((Rect.unit (s := S4x128x1024) ![h.val + 1, b, 0] ![1, n, 1024] i2).emb (Shape.reshapeEquiv (s := ⟨3, ![1, n, 1024]⟩) hn j)) := by
  rw [RC_box, RC_box, hop]

theorem dany_s0F (e : Dev nD) : (X.s false 0).dany e = iprop(∃ fd, mpts (F := F) (sqs false 1) e fullShare fd) :=
  show iprop(∃ f, rP false e (stR 1).set fullShare f) = _ from
    congrArg _ (funext fun f => (mpts_sqsF _ _ _ _).symm)
theorem moves_s0F (c : Dev nD) : Moves m (.s false 0) c :=
  Moves.of m (.s false 0) c fullShare.left (RC m false c) (RC m false ((X.s false 0).tgt c)) (mpts_sqsF _ _ _ _).symm
    (dany_s0F _) (mpts_sqsF _ _ _ _) (hop_box m false c 0 0 128 (inb_st 0) (inb_st 1) _)
theorem dany_s0T (e : Dev nD) : (X.s true 0).dany e = iprop(∃ fd, mpts (F := F) (sqs true 1) e fullShare fd) :=
  show iprop(∃ f, rP true e (stR 1).set fullShare f) = _ from
    congrArg _ (funext fun f => (mpts_sqsT _ _ _ _).symm)
theorem moves_s0T (c : Dev nD) : Moves m (.s true 0) c :=
  Moves.of m (.s true 0) c fullShare.left (RC m true c) (RC m true ((X.s true 0).tgt c)) (mpts_sqsT _ _ _ _).symm
    (dany_s0T _) (mpts_sqsT _ _ _ _) (hop_box m true c 0 0 128 (inb_st 0) (inb_st 1) _)
theorem dany_s1F (e : Dev nD) : (X.s false 1).dany e = iprop(∃ fd, mpts (F := F) (sqs false 2) e fullShare fd) :=
  show iprop(∃ f, rP false e (stR 2).set fullShare f) = _ from
    congrArg _ (funext fun f => (mpts_sqsF _ _ _ _).symm)
theorem moves_s1F (c : Dev nD) : Moves m (.s false 1) c :=
  Moves.of m (.s false 1) c fullShare.left (RC m false c) (RC m false ((X.s false 1).tgt c)) (mpts_sqsF _ _ _ _).symm
    (dany_s1F _) (mpts_sqsF _ _ _ _) (hop_box m false c 1 0 128 (inb_st 1) (inb_st 2) _)
theorem dany_s1T (e : Dev nD) : (X.s true 1).dany e = iprop(∃ fd, mpts (F := F) (sqs true 2) e fullShare fd) :=
  show iprop(∃ f, rP true e (stR 2).set fullShare f) = _ from
    congrArg _ (funext fun f => (mpts_sqsT _ _ _ _).symm)
theorem moves_s1T (c : Dev nD) : Moves m (.s true 1) c :=
  Moves.of m (.s true 1) c fullShare.left (RC m true c) (RC m true ((X.s true 1).tgt c)) (mpts_sqsT _ _ _ _).symm
    (dany_s1T _) (mpts_sqsT _ _ _ _) (hop_box m true c 1 0 128 (inb_st 1) (inb_st 2) _)
theorem dany_s2F (e : Dev nD) : (X.s false 2).dany e = iprop(∃ fd, mpts (F := F) (sqh false 3 false) e fullShare fd) :=
  show iprop(∃ f, rP false e (hfR 3 false).set fullShare f) = _ from
    congrArg _ (funext fun f => (mpts_sqhF _ _ _ _ _).symm)
theorem moves_s2F (c : Dev nD) : Moves m (.s false 2) c :=
  Moves.of m (.s false 2) c fullShare.left (RC m false c) (RC m false ((X.s false 2).tgt c)) (mpts_sqhF _ _ _ _ _).symm
    (dany_s2F _) (mpts_sqhF _ _ _ _ _) (hop_box m false c 2 0 64 (inb_hf 2 false) (inb_hf 3 false) _)
theorem dany_s2T (e : Dev nD) : (X.s true 2).dany e = iprop(∃ fd, mpts (F := F) (sqh true 3 true) e fullShare fd) :=
  show iprop(∃ f, rP true e (hfR 3 true).set fullShare f) = _ from
    congrArg _ (funext fun f => (mpts_sqhT _ _ _ _ _).symm)
theorem moves_s2T (c : Dev nD) : Moves m (.s true 2) c :=
  Moves.of m (.s true 2) c fullShare.left (RC m true c) (RC m true ((X.s true 2).tgt c)) (mpts_sqhT _ _ _ _ _).symm
    (dany_s2T _) (mpts_sqhT _ _ _ _ _) (hop_box m true c 2 64 64 (inb_hf 2 true) (inb_hf 3 true) _)

theorem moves (t : X) (c : Dev nD) : Moves m t c := by
  match t with
  | .z k => exact moves_z m k c
  | .g k => exact moves_g m k c
  | .w false k => exact moves_wF m k c
  | .w true k => exact moves_wT m k c
  | .s false 0 => exact moves_s0F m c
  | .s true 0 => exact moves_s0T m c
  | .s false 1 => exact moves_s1F m c
  | .s true 1 => exact moves_s1T m c
  | .s false 2 => exact moves_s2F m c
  | .s true 2 => exact moves_s2T m c

end Cert.Ring

end
-- ==== Proof.Steps.lean ====
/-
One rule per kind of effect, over a device's progress: a signal to a peer, the barrier's wait, starting a transfer,
waiting for one to arrive or to have been read.
-/
module

public import proofs.«01_k».proof.Proof.Moves

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Option (X × Bool) → ℕ)

set_option backward.proofsInPublic true

abbrev 𝒱₀ : Variants := Variants.none

/-- Device `c` runs `p`, and ends with `Q`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## The barrier -/

/-- What the signal to peer `i` takes. -/
def sig1 (c : Dev nD) (i : Fin 5) : sProp 𝕄 := iprop(dutyTok ER (barCell (peer i c)) 0 (opp i) ∗ barPay (peer i c) (opp i))
/-- A device that has sent `n` of its signals. -/
def Bar (c : Dev nD) (n : ℕ) : sProp 𝕄 :=
  iprop((∃ W, owes (c : Thread nD τ) (Ow c 0 + Ob c n) W) ∗ bigSep Finset.univ fun i : Fin 5 => if n ≤ i.val then sig1 c i else iprop(emp))

theorem step_signal (c : Dev nD) (i : Fin 5) {e : Dev nD} {sem : Sem sig} {k' : ℕ} {α : Type} {Q : α → sProp 𝕄} {k : PUnit → Prog (TpuEff nD τ sig (Elt F) Λ₀ .tc) α}
    (he : e = peer i c) (hs : sem = barS) (hk : 1 = k') :
    iprop(ctx m K ∗ Bar c i.val) ⊢ iprop((Bar c (i.val + 1) -∗ WP c (k ⟨⟩) Q)
      -∗ WP c (.op (.semSignal (Dev.tc e : Thread nD τ) sem k') k) Q) := by
  subst he hs hk
  have hne (j : Fin 5) (hj : j ≠ i) : (if i.val ≤ j.val then sig1 (F := F) c j else iprop(emp)) = if i.val + 1 ≤ j.val then sig1 c j else iprop(emp) := by
    have : j.val ≠ i.val := fun h => hj (Fin.ext h)
    by_cases h : i.val ≤ j.val
    · rw [if_pos h, if_pos (by omega)]
    · rw [if_neg h, if_neg (by omega)]
  have hd : opp i ∈ (ringRd (F := F) m).duties (barCell (peer i c)) 0 := by rw [duties_bar]; exact Finset.mem_univ _
  have hO : Ow c 0 + Ob c i.val = Ow c 0 + Ob c (i.val + 1) + tallyAt (barCell (peer i c)) () 1 := by rw [add_assoc, ← Ob_step]
  unfold Bar
  iintro ⟨#Hx, ⟨%W, HO⟩, Hs⟩ Hk
  ihave Hs' := (bigSep_one i hne) $$ Hs
  rw [if_pos le_rfl, if_neg (show ¬ i.val + 1 ≤ i.val by omega)]
  unfold sig1
  icases Hs' with ⟨⟨Ht, Hp⟩, Hb⟩
  iapply (Rounds.wp_signal 𝒱₀ ER (ringRd m) (c : Thread nD τ) none (dst := (peer i c : Thread nD τ)) (κ := K (peer i c, none)) (r := 0)
      (d := opp i) hd (amount_bar m (peer i c) (opp i)) () (Ow c 0 + Ob c (i.val + 1))
      hO) $$ [HO Ht Hp]
  · isplitr; · iapply (ctx_inv m K (peer i c, none)); iexact Hx
    isplitl [HO]; · iexact HO
    isplitl [Ht]; · iexact Ht
    isplitl [Hp]; · rw [payload_bar]; iexact Hp
    iapply (ctx_reached m K (peer i c, none)); iexact Hx
  iintro HO
  iapply Hk
  isplitl [HO]; · iexists W; iexact HO
  iapply Hb; iempintro

/-- All five peers' parts are the targets of a device's transfers. -/
theorem bar_all (c : Dev nD) :
    (bigSep Finset.univ fun i => barPay (F := F) c i) = bigSep Finset.univ fun t : X => t.dany (F := F) (t.tgt c) := by
  unfold barPay
  rw [bigSep_univ_comm]
  refine bigSep_congr fun t _ => ?_
  rw [bigSep_univ_at _ t.grp, if_pos rfl, bigSep_congr (Ψ := fun _ => (iprop(emp) : sProp 𝕄)) fun i hi => if_neg (fun h => (Finset.mem_erase.mp hi).1 h.symm)]
  exact (congrArg (fun P => iprop(t.dany (F := F) ((peer t.grp) c) ∗ P)) (bigSep_emp_const (Finset.univ.erase t.grp))).trans (equiv_iff.mp BI.sep_emp)

theorem step_barrier (c : Dev nD) {sem : Sem sig} {k' : ℕ} {α : Type} {Q : α → sProp 𝕄} {k : PUnit → Prog (TpuEff nD τ sig (Elt F) Λ₀ .tc) α}
    (hs : sem = barS) (hk : 5 = k') :
    iprop(ctx m K ∗ Bar c 5 ∗ atPos ER (barCell c) 0 ∅ 0 ∗ cred (tallyAt (barCell c) () 5)) ⊢
      iprop((((∃ W, owes (c : Thread nD τ) (Ow c 0) W) ∗ semVal (barCell c) 0 ∗ bigSep Finset.univ fun t : X => t.dany (t.tgt c)) -∗ WP c (k ⟨⟩) Q)
      -∗ WP c (.op (.semWait sem k') k) Q) := by
  subst hs hk
  have hm : 0 + 5 = (ringRd (F := F) m).expect (barCell c) 0 := (expect_bar m c).symm
  have hlt : ∀ t : X, 0 ≤ t.ord → lvS (.reg barS) < t.lev := fun t _ => by show 1 < t.lev; revert t; decide
  unfold Bar
  iintro ⟨#Hx, ⟨⟨%W, HO⟩, -⟩, Hat, Hc⟩ Hk
  rw [Ob_end, add_zero]
  iapply (Rounds.wp_wait_rest_token 𝒱₀ ER (ringRd m) (c : Thread nD τ) none (κ := K (c, none))
      (wpE_semWait_eq 𝒱₀ (c : Thread nD τ) none Set.univ) (Set.mem_univ _) () (O := Ow c 0) (W := W) (R := 0) (m := 0) (T := ∅)
      hm) $$ [Hc HO Hat]
  · isplitr; · iapply (ctx_inv m K (c, none)); iexact Hx
    isplitl [Hc]; · iexact Hc
    isplitl [HO]; · iexact HO
    isplitr; · iapply (may m K c (.reg barS) 0 hlt); iexact Hx
    iexact Hat
  iintro ⟨HO, Hat, -, Hp⟩
  ihave Hp' := (Entails.of_eq ((rest_bar m c).trans (bar_all c))) $$ Hp
  imod (Rounds.cell_close ER (ringRd m) (Set.mem_univ (K (c, none))) (fun h => h) (R := 0 + 1) (duties_later m (barCell c))) $$ [Hat] with Hz
  · isplitr; · iapply (ctx_inv m K (c, none)); iexact Hx
    iexact Hat
  iapply Hk
  isplitl [HO]; · iexists _; iexact HO
  isplitl [Hz]; · iexact Hz
  iexact Hp'

/-! ## Transfers -/

theorem rt (c e : Dev nD) : τ.routes (c : Thread nD τ) (e : Thread nD τ) = true := by routes
/-- Starting a transfer, its source and destination any memrefs. -/
theorem raw_send (c e : Dev nD) (sS sR : DmaSem sig) (N κ₁ κ₂ : ℕ) {s : Shape} (src dst : Memref sig .tc .vmem s .f32)
    {hsc : dst.view.ref.isScScratch = false} {hsrc : src.view.WordExact} {hdst : dst.view.WordExact}
    {hsem : DmaTarget.Typed .vmem (.dma sR) (.remote (Dev.tc e : Thread nD τ) dst (.dma sS) hsc)}
    {α : Type} {Q : α → sProp 𝕄} {k : PUnit → Prog (TpuEff nD τ sig (Elt F) Λ₀ .tc) α} {q : PosShare TreeShare}
    (fs : src.view.ty.Contents (Elt F)) (fd : dst.view.ty.Contents (Elt F)) (O₁ O₂ : CellTallies nD τ sig Unit) (W : Waits sig Unit)
    (hd1 : (0 : Fin 5) ∈ (ringRd (F := F) m).duties ((c : Thread nD τ), .dma sS) 0)
    (hd2 : (0 : Fin 5) ∈ (ringRd (F := F) m).duties ((e : Thread nD τ), .dma sR) 0)
    (hN : dst.view.amount (.dma sR) = N) (hO : O₁ = O₂ + tallyAt ((e : Thread nD τ), .dma sR) () N)
    (hk1 : (ringRd (F := F) m).amount ((c : Thread nD τ), .dma sS) 0 0 = N) (hk2 : (ringRd (F := F) m).amount ((e : Thread nD τ), .dma sR) 0 0 = N)
    (hp1 : mpts src c q fs ⊢ (ringRd (F := F) m).payload ((c : Thread nD τ), .dma sS) 0 0)
    (hp2 : mpts dst e fullShare (dst.view.write (Elt F) fd (src.view.read (Elt F) fs) Finset.univ) ⊢ (ringRd (F := F) m).payload ((e : Thread nD τ), .dma sR) 0 0) :
    iprop(cellInv ER (ringRd m) κ₁ ((c : Thread nD τ), .dma sS) ∗ cellInv ER (ringRd m) κ₂ ((e : Thread nD τ), .dma sR)
        ∗ mpts src c q fs ∗ mpts dst e fullShare fd ∗ owes (c : Thread nD τ) O₁ W
        ∗ dutyTok ER ((c : Thread nD τ), .dma sS) 0 (0 : Fin 5) ∗ reached ER ((c : Thread nD τ), .dma sS) 0
        ∗ dutyTok ER ((e : Thread nD τ), .dma sR) 0 (0 : Fin 5) ∗ reached ER ((e : Thread nD τ), .dma sR) 0)
      ⊢ iprop(((cred (tallyAt ((c : Thread nD τ), .dma sS) () N) ∗ owes (c : Thread nD τ) O₂ W) -∗ WP c (k ⟨⟩) Q)
        -∗ WP c (.op (.enqueueDma src (.remote (Dev.tc e : Thread nD τ) dst (.dma sS) hsc) (.dma sR) hsrc hdst hsem) k) Q) := by
  exact Rounds.wp_send_pointsTo (k := k) (Q := Q) (hsc := hsc) (hsrc := hsrc) (hdst := hdst) (hsem := hsem) (defs := defs₀ (F := F)) 𝒱₀ ER (ringRd m) (c : Thread nD τ) none (κ₁ := κ₁) (κ₂ := κ₂) (c' := (e : Thread nD τ)) (src := src) (dst := dst)
    (r₁ := 0) (r₂ := 0) (d₁ := 0) (d₂ := 0) (fd := fd) (fs := fs) (q := q) (Es := Set.univ)
    hd1 hd2 () () N hN hk1 hk2 O₂ hO (W := W) hp1 hp2 (hr := rt c e)

theorem step_send (t : X) (c : Dev nD) (w : ℕ) {e : Dev nD} {src : Memref sig .tc .vmem t.sh .f32} {dst : Memref sig .tc .vmem t.sh .f32}
    {sS sR : DmaSem sig} {hsc : dst.view.ref.isScScratch = false} {hsrc : src.view.WordExact} {hdst : dst.view.WordExact}
    {hsem : DmaTarget.Typed .vmem (.dma sR) (.remote (Dev.tc e : Thread nD τ) dst (.dma sS) hsc)}
    {α : Type} {Q : α → sProp 𝕄} {k : PUnit → Prog (TpuEff nD τ sig (Elt F) Λ₀ .tc) α}
    (he : e = t.tgt c) (h1 : src = t.src c) (h2 : dst = t.dst) (hS : sS = t.ds false) (hR : sR = t.ds true) (hw : w ≤ wo (t, false)) :
    iprop(ctx m K ∗ Run m c t.ord w ∗ t.spts m c) ⊢ iprop((Run m c (t.ord + 1) w -∗ WP c (k ⟨⟩) Q)
      -∗ WP c (.op (.enqueueDma src (.remote (Dev.tc e : Thread nD τ) dst (.dma sS) hsc) (.dma sR) hsrc hdst hsem) k) Q) := by
  subst he hS hR
  have hN : dst.view.amount (.dma (t.ds true)) = t.N := by subst h2; exact X.credit_dst t
  obtain ⟨q, fs, hs, hd, hg⟩ : ∃ (q : PosShare TreeShare) (fs : src.view.ty.Contents (Elt F)),
      t.spts m c = mpts src c q fs ∧ (t.dany (t.tgt c) ⊢ iprop(∃ fd, mpts (F := F) dst (t.tgt c) fullShare fd))
      ∧ ∀ fd, mpts dst (t.tgt c) fullShare (dst.view.write (Elt F) fd (src.view.read (Elt F) fs) Finset.univ) ⊢ t.dpts m (t.tgt c) := by
    subst h1 h2; exact moves m t c
  clear h1 h2
  have h1 (u : X) (hu : u ≠ t) : (if t.ord ≤ u.ord then snd (F := F) c u else iprop(emp)) = if t.ord + 1 ≤ u.ord then snd c u else iprop(emp) := by
    have : u.ord ≠ t.ord := fun h => hu (X.ord_inj h)
    by_cases h : t.ord ≤ u.ord
    · rw [if_pos h, if_pos (by omega)]
    · rw [if_neg h, if_neg (by omega)]
  have h2 (x : X × Bool) (hx : x ≠ (t, false)) : wst m c t.ord w x = wst m c (t.ord + 1) w x := by
    unfold wst
    by_cases h : wo x < w
    · rw [if_pos h, if_pos h]
    rw [if_neg h, if_neg h]
    obtain ⟨u, b⟩ := x
    cases b
    · have : u.ord ≠ t.ord := fun h => hx (by rw [X.ord_inj h])
      by_cases h : u.ord < t.ord
      · rw [if_pos (Or.inr h), if_pos (Or.inr (show u.ord < t.ord + 1 by omega))]
      · have h3 : ¬ (false = true ∨ u.ord < t.ord) := by rintro (h' | h') <;> [cases h'; exact h h']
        have h4 : ¬ (false = true ∨ u.ord < t.ord + 1) := by rintro (h' | h') <;> [cases h'; omega]
        rw [if_neg h3, if_neg h4]
    · rw [if_pos (Or.inl rfl), if_pos (Or.inl rfl)]
  have h3 : wst m c t.ord w (t, false) = iprop(emp) := by
    have h4 : ¬ (false = true ∨ t.ord < t.ord) := by rintro (h' | h') <;> [cases h'; omega]
    unfold wst
    rw [if_neg (by omega), if_neg h4]
  have h5 : wst m c (t.ord + 1) w (t, false) = wt c (t, false) := by
    unfold wst
    rw [if_neg (by omega), if_pos (Or.inr (Nat.lt_succ_self _))]
  have hp1 : mpts src c q fs ⊢ (ringRd (F := F) m).payload (cell c t false) 0 0 := by rw [payload_send, hs]
  have hp2 (fd) : mpts dst (t.tgt c) fullShare (dst.view.write (Elt F) fd (src.view.read (Elt F) fs) Finset.univ)
      ⊢ (ringRd (F := F) m).payload (cell (t.tgt c) t true) 0 0 := by rw [payload_recv]; exact hg fd
  have hd1 : (0 : Fin 5) ∈ (ringRd (F := F) m).duties (cell c t false) 0 := by rw [duties_cell]; exact Finset.mem_singleton_self _
  have hd2 : (0 : Fin 5) ∈ (ringRd (F := F) m).duties (cell (t.tgt c) t true) 0 := by rw [duties_cell]; exact Finset.mem_singleton_self _
  unfold Run
  iintro ⟨#Hx, ⟨⟨%W, HO⟩, Hs, Hw⟩, Hsrc⟩ Hk
  ihave Hs' := (bigSep_one t h1) $$ Hs
  ihave Hw' := (bigSep_one (t, false) h2) $$ Hw
  rw [if_pos le_rfl, if_neg (show ¬ t.ord + 1 ≤ t.ord by omega)]
  rw [h3, h5]
  unfold snd wt
  icases Hs' with ⟨⟨HtS, HtR, Hat, Hd⟩, Hs⟩
  icases Hw' with ⟨-, Hw⟩
  ihave Hd' := hd $$ Hd
  icases Hd' with ⟨%fd, Hd⟩
  iapply (raw_send m c (t.tgt c) (t.ds false) (t.ds true) t.N (K (c, some (t, false))) (K (t.tgt c, some (t, true))) src dst fs fd
      (Ow c t.ord) (Ow c (t.ord + 1)) W hd1 hd2 hN (Ow_step c t) (amount_cell m c t false 0) (amount_cell m (t.tgt c) t true 0) hp1 (hp2 fd)) $$ [HtS HtR Hd HO Hsrc]
  · isplitr; · iapply (ctx_inv m K (c, some (t, false))); iexact Hx
    isplitr; · iapply (ctx_inv m K (t.tgt c, some (t, true))); iexact Hx
    isplitl [Hsrc]; · iapply (Entails.of_eq hs); iexact Hsrc
    isplitl [Hd]; · iexact Hd
    isplitl [HO]; · iexact HO
    isplitl [HtS]; · iexact HtS
    isplitr; · iapply (ctx_reached m K (c, some (t, false))); iexact Hx
    isplitl [HtR]; · iexact HtR
    iapply (ctx_reached m K (t.tgt c, some (t, true))); iexact Hx
  iintro ⟨Hc, HO⟩
  iapply Hk
  isplitl [HO]; · iexists W; iexact HO
  isplitl [Hs]; · iapply Hs; iempintro
  iapply Hw
  isplitl [Hat] <;> iassumption

theorem step_wait (x : X × Bool) (c : Dev nD) (n : ℕ) {sem : DmaSem sig} {sp sp' : Space} {s s' : Shape} {e e' : EltTy}
    {src : Memref sig .tc sp' s' e'} {dst : Memref sig .tc sp s e} {hsrc : src.view.WordExact} {hdst : dst.view.WordExact}
    {α : Type} {Q : α → sProp 𝕄} {k : PUnit → Prog (TpuEff nD τ sig (Elt F) Λ₀ .tc) α}
    (hS : sem = x.1.ds x.2) (hN : x.1.N = dst.view.dmaCredit) (hn : x.2 = true ∨ x.1.ord < n) (hl : ∀ u : X, n ≤ u.ord → (if x.2 then x.1.lev else 0) < u.lev) :
    iprop(ctx m K ∗ Run m c n (wo x)) ⊢ iprop(((Run m c n (wo x + 1) ∗ giv m c x) -∗ WP c (k ⟨⟩) Q)
      -∗ WP c (.op (.waitDma2 sem src dst hsrc hdst) k) Q) := by
  subst hS
  have h1 (y : X × Bool) (hy : y ≠ x) : wst m c n (wo x) y = wst m c n (wo x + 1) y := by
    unfold wst
    have : wo y ≠ wo x := fun h => hy (wo_inj h)
    by_cases h : wo y < wo x
    · rw [if_pos h, if_pos (by omega)]
    · rw [if_neg h, if_neg (show ¬ wo y < wo x + 1 by omega)]
  have h2 : wst m c n (wo x) x = wt c x := by
    unfold wst
    rw [if_neg (Nat.lt_irrefl _), if_pos hn]
  have h3 : wst m c n (wo x + 1) x = done m c x := by
    unfold wst
    rw [if_pos (Nat.lt_succ_self _)]
  have h4 (K : PUnit → sProp 𝕄) : wpE (defs₀ (F := F)) 𝒱₀ (c : Thread nD τ) none Set.univ (.waitDma2 (x.1.ds x.2) src dst hsrc hdst) K
      = waitSpec (c : Thread nD τ) Set.univ (.dma (x.1.ds x.2)) x.1.N K := by rw [hN]; exact wpE_waitDma2_eq 𝒱₀ (c : Thread nD τ) none Set.univ K
  have h5 : 0 + x.1.N = (ringRd (F := F) m).expect (cell c x.1 x.2) 0 := by rw [Nat.zero_add]; exact (expect_cell m c x.1 x.2).symm
  have h6 (u : X) (hu : n ≤ u.ord) : lvS (.dma (x.1.ds x.2)) < u.lev := by
    have h := hl u hu
    obtain ⟨t, b⟩ := x
    cases b
    · rw [lvS_send]; exact h
    · rw [lvS_recv]; exact h
  unfold Run
  iintro ⟨#Hx, ⟨⟨%W, HO⟩, Hs, Hw⟩⟩ Hk
  ihave Hw' := (bigSep_one x h1) $$ Hw
  rw [h2, h3]
  unfold wt done
  icases Hw' with ⟨⟨Hat, Hc⟩, Hw⟩
  iapply (Rounds.wp_wait_rest_token 𝒱₀ ER (ringRd m) (c : Thread nD τ) none (κ := K (c, some x)) (sm := .dma (x.1.ds x.2)) (k' := x.1.N)
      h4 (Set.mem_univ _) () (O := Ow c n) (W := W) (R := 0) (m := 0) (T := ∅)
      h5) $$ [Hc HO Hat]
  · isplitr; · iapply (ctx_inv m K (c, some x)); iexact Hx
    isplitl [Hc]; · iexact Hc
    isplitl [HO]; · iexact HO
    isplitr
    · iapply (may m K c (.dma (x.1.ds x.2)) n h6); iexact Hx
    iexact Hat
  iintro ⟨HO, Hat, -, Hp⟩
  ihave Hp' := ((Entails.of_eq (rest_cell m c x.1 x.2)).trans (pay_split m c x)) $$ Hp
  icases Hp' with ⟨Hg, Hkp⟩
  imod (Rounds.cell_close ER (ringRd m) (Set.mem_univ (K (c, some x))) (fun h => h) (R := 0 + 1) (duties_later m (cell c x.1 x.2))) $$ [Hat] with Hz
  · isplitr; · iapply (ctx_inv m K (c, some x)); iexact Hx
    iexact Hat
  iapply Hk
  isplitr [Hg]
  · isplitl [HO]; · iexists _; iexact HO
    isplitl [Hs]; · iexact Hs
    iapply Hw
    isplitl [Hz] <;> iassumption
  iexact Hg

end Cert.Ring

end
-- ==== Proof.Offsets.lean ====
/-
The device numbers and offsets the program computes, in the terms of the tables.
-/
module

public import proofs.«01_k».proof.Proof.Table

@[expose] public section

noncomputable section

namespace Cert.Ring

open Cert.KernelIdeal Cert.KernelIdeal.Gen
open Idealize.ShloMosaic

set_option backward.proofsInPublic true

/-- Where the rows device `d` reduces start. -/
abbrev rowO (d : Dev nD) : Fin 2 → ℕ := ![128 * pos d + 32 * zc d, 0]

theorem dev1 (c : Dev nD) : (⟨k0_dev1 c, k0_dev1_lt c⟩ : Dev nD) = peer 0 c := by revert c; decide +kernel
theorem dev2 (c : Dev nD) : (⟨k0_dev2 c, k0_dev2_lt c⟩ : Dev nD) = peer 1 c := by revert c; decide +kernel
theorem dev3 (c : Dev nD) : (⟨k0_dev3 c, k0_dev3_lt c⟩ : Dev nD) = peer 2 c := by revert c; decide +kernel
theorem dev4 (c : Dev nD) : (⟨k0_dev4 c, k0_dev4_lt c⟩ : Dev nD) = peer 3 c := by revert c; decide +kernel
theorem dev5 (c : Dev nD) : (⟨k0_dev5 c, k0_dev5_lt c⟩ : Dev nD) = peer 4 c := by revert c; decide +kernel
theorem dev6 (c : Dev nD) : (⟨k0_dev6 c, k0_dev6_lt c⟩ : Dev nD) = peer 0 c := by revert c; decide +kernel
theorem dev7 (c : Dev nD) : (⟨k0_dev7 c, k0_dev7_lt c⟩ : Dev nD) = peer 1 c := by revert c; decide +kernel
theorem dev8 (c : Dev nD) : (⟨k0_dev8 c, k0_dev8_lt c⟩ : Dev nD) = peer 2 c := by revert c; decide +kernel
theorem dev9 (c : Dev nD) : (⟨k0_dev9 c, k0_dev9_lt c⟩ : Dev nD) = peer 3 c := by revert c; decide +kernel
theorem dev10 (c : Dev nD) : (⟨k0_dev10 c, k0_dev10_lt c⟩ : Dev nD) = peer 4 c := by revert c; decide +kernel
theorem dev11 (c : Dev nD) : (⟨k0_dev11 c, k0_dev11_lt c⟩ : Dev nD) = peer 0 c := by revert c; decide +kernel
theorem dev12 (c : Dev nD) : (⟨k0_dev12 c, k0_dev12_lt c⟩ : Dev nD) = peer 1 c := by revert c; decide +kernel
theorem dev13 (c : Dev nD) : (⟨k0_dev13 c, k0_dev13_lt c⟩ : Dev nD) = peer 2 c := by revert c; decide +kernel
theorem dev14 (c : Dev nD) : (⟨k0_dev14 c, k0_dev14_lt c⟩ : Dev nD) = peer 3 c := by revert c; decide +kernel
theorem dev15 (c : Dev nD) : (⟨k0_dev15 c, k0_dev15_lt c⟩ : Dev nD) = peer 4 c := by revert c; decide +kernel
theorem dev16 (c : Dev nD) : (⟨k0_dev16 c, k0_dev16_lt c⟩ : Dev nD) = peer 3 c := by revert c; decide +kernel
theorem dev17 (c : Dev nD) : (⟨k0_dev17 c, k0_dev17_lt c⟩ : Dev nD) = peer 4 c := by revert c; decide +kernel
theorem dev18 (c : Dev nD) : (⟨k0_dev18 c, k0_dev18_lt c⟩ : Dev nD) = peer 3 c := by revert c; decide +kernel
theorem dev19 (c : Dev nD) : (⟨k0_dev19 c, k0_dev19_lt c⟩ : Dev nD) = peer 4 c := by revert c; decide +kernel
theorem dev20 (c : Dev nD) : (⟨k0_dev20 c, k0_dev20_lt c⟩ : Dev nD) = peer 3 c := by revert c; decide +kernel
theorem dev21 (c : Dev nD) : (⟨k0_dev21 c, k0_dev21_lt c⟩ : Dev nD) = peer 4 c := by revert c; decide +kernel
theorem dev22 (c : Dev nD) : (⟨k0_dev22 c, k0_dev22_lt c⟩ : Dev nD) = peer 3 c := by revert c; decide +kernel
theorem dev23 (c : Dev nD) : (⟨k0_dev23 c, k0_dev23_lt c⟩ : Dev nD) = peer 4 c := by revert c; decide +kernel
theorem dev24 (c : Dev nD) : (⟨k0_dev24 c, k0_dev24_lt c⟩ : Dev nD) = peer 3 c := by revert c; decide +kernel
theorem dev25 (c : Dev nD) : (⟨k0_dev25 c, k0_dev25_lt c⟩ : Dev nD) = peer 4 c := by revert c; decide +kernel

theorem off1 (c : Dev nD) : k0_off1 c = ![128 * pos c, 0] := by revert c; decide +kernel
theorem off2 (c : Dev nD) : k0_off2 c = ![128 * pos c, 0] := by revert c; decide +kernel
theorem off3 (c : Dev nD) (k : Fin 3) : k0_off3 c (BitVec.ofNat 32 (1 + k.val)) = ![(2 - k).val] := by revert c k; decide +kernel
theorem off4 (c : Dev nD) (k : Fin 3) : k0_off4 c (BitVec.ofNat 32 (1 + k.val)) = ![(2 - k).val, 0, 0] := by revert c k; decide +kernel
theorem off5 (c : Dev nD) (k : Fin 3) : k0_off5 c (BitVec.ofNat 32 (1 + k.val)) = rowO (nb 0 (k.val + 1) c) := by revert c k; decide +kernel
theorem off6 (c : Dev nD) : k0_off6 c = rowO c := by revert c; decide +kernel
theorem off7 (c : Dev nD) : k0_off7 c = rowO c := by revert c; decide +kernel
theorem off8 (c : Dev nD) (k : Fin 3) : k0_off8 c (BitVec.ofNat 32 (1 + k.val)) = rowO (nb 0 (k.val + 1) c) := by revert c k; decide +kernel
/-- The rows a piece of the clockwise buffer's slot 0 goes to, and those of the last slot, whichever buffer. -/
theorem off9a (c : Dev nD) (j : Fin 4) : k0_off9 c 1#32 (BitVec.ofNat 32 j.val) = rowO (nb 7 j.val c) := by revert c j; decide +kernel
theorem off9b (c : Dev nD) (j : Fin 4) : k0_off9 c 4#32 (BitVec.ofNat 32 j.val) = rowO (nb 4 j.val c) := by revert c j; decide +kernel
theorem off10 (c : Dev nD) (j : Fin 4) : k0_off10 c (BitVec.ofNat 32 j.val) = rowO (nb 1 j.val c) := by revert c j; decide +kernel
theorem off11 (c : Dev nD) (h : Fin 2) (j : Fin 4) :
    k0_off11 c (BitVec.ofNat 32 (1 + h.val)) (BitVec.ofNat 32 j.val) = rowO (nb (6 - h.val) j.val c) := by revert c h j; decide +kernel
theorem off12 (c : Dev nD) (h : Fin 2) (j : Fin 4) :
    k0_off12 c (BitVec.ofNat 32 (1 + h.val)) (BitVec.ofNat 32 j.val) = rowO (nb (2 + h.val) j.val c) := by revert c h j; decide +kernel

end Cert.Ring

end
-- ==== Proof.Bufs.lean ====
/-
Loads and stores of a device: the result buffer filled row by row, the pieces of the buffers received.
-/
module

public import proofs.«01_k».proof.Proof.Steps
public import proofs.«01_k».proof.Proof.Offsets

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Option (X × Bool) → ℕ)

set_option backward.proofsInPublic true

/-! ## The result buffer beyond the device's own rows -/

theorem mem_row {d : Dev nD} {i : S1024x1024.Idx} : i ∈ (rowR d).set ↔ 128 * pos d + 32 * zc d ≤ (i 0).val ∧ (i 0).val < 128 * pos d + 32 * zc d + 32 := by
  rw [Rect.mem_set_unit]
  refine ⟨fun h => ⟨(h 0).1, (h 0).2⟩, fun h a => ?_⟩
  have h1 : (i 1).val < 1024 := (i 1).isLt
  match a with
  | ⟨0, _⟩ => exact h
  | ⟨1, _⟩ => exact ⟨Nat.zero_le _, by show (i 1).val < 0 + 1024; omega⟩

theorem row_disj {c d : Dev nD} (h : d ≠ c) : Disjoint (rowR d).set (rowR c).set := by
  rw [Finset.disjoint_left]
  intro i h1 h2
  rw [mem_row] at h1 h2
  have := zc_lt c; have := zc_lt d
  exact h (dev_ext (by omega) (by omega))

/-- All but a device's own rows. -/
abbrev offR (c : Dev nD) : Finset S1024x1024.Idx := Finset.univ \ (rowR c).set

theorem row_off {c d : Dev nD} (h : d ≠ c) : (rowR d).set ⊆ offR c := fun i hi =>
  Finset.mem_sdiff.mpr ⟨Finset.mem_univ _, Finset.disjoint_left.mp (row_disj h) hi⟩

/-- The device whose rows device `c` fills in `n`-th. -/
def sd (c : Dev nD) (n : ℕ) : Dev nD :=
  if n < 3 then nb 0 (n + 1) c else nb ((![7, 1, 6, 2, 5, 3, 4] : Fin 7 → ℕ) ⟨(n - 3) / 4 % 7, Nat.mod_lt _ (by decide)⟩) ((n - 3) % 4) c

theorem sd_ne (c : Dev nD) (n : Fin 31) : sd c n ≠ c := by revert c n; decide +kernel
theorem sd_all (c d : Dev nD) (h : d ≠ c) : ∃ n : Fin 31, sd c n = d := by revert c d; decide +kernel

/-- With the first `n` of them filled in. -/
def OutR (c : Dev nD) (n : ℕ) : sProp 𝕄 :=
  iprop(∃ f, ⌜∀ k, k < n → ∀ i ∈ (rowR (sd c k)).set, f i = FIN m i⌝ ∗ outP c (offR c) fullShare f)

/-- A loaded value is device `d`'s reduced rows. -/
def IsRed (d : Dev nD) (w : S32x1024.Idx → Elt F .f32) : Prop := ∀ j : S32x1024.Idx, w j = redN m d (j 0).val (j 1).val

theorem acc_set {off : Fin 2 → ℕ} {inb} {d : Dev nD} (h : off = rowO d) :
    (outM.access (Rect.unit (s := S1024x1024) off S32x1024.size inb)).set = (rowR d).set := by
  subst h
  show ((View.whole cc0_stg2_0).slice _).set = _
  rw [View.set_slice_whole]

/-- Loading rows that are about to be filled in. -/
theorem out_load (c : Dev nD) (n : ℕ) {off : Fin 2 → ℕ} {inb} {hl} (hn : n < 31) (h : off = rowO (sd c n)) {α : Type} {Q : α → sProp 𝕄}
    {k : (S32x1024.Idx → Elt F .f32) → Prog (TpuEff nD τ sig (Elt F) Λ₀ .tc) α} :
    OutR m c n ⊢ iprop((∀ v, OutR m c n -∗ WP c (k v) Q)
      -∗ WP c (.op (.load outM (Rect.unit (s := S1024x1024) off S32x1024.size inb).toLoadRect hl) k) Q) := by
  have hS : (outM.access (Rect.unit (s := S1024x1024) off S32x1024.size inb)).set ⊆ offR c := by rw [acc_set h]; exact row_off (sd_ne c ⟨n, hn⟩)
  unfold OutR
  iintro ⟨%f, %hf, Ho⟩ Hk
  iapply (wp_load_rect 𝒱₀ (c : Thread nD τ) none Set.univ (m := outM) hS) $$ Ho
  iintro Ho
  iapply Hk
  iexists f
  isplitr; · ipureintro; exact hf
  iexact Ho

/-- Writing what `g` reads. -/
theorem write_eq {r : Shape} (v : View sig .tc .vmem r .f32) (f g : v.ty.Contents (Elt F)) (w : r.Idx → Elt F .f32)
    (h : ∀ j, w j = v.read (Elt F) g j) (i : v.ty.Idx) :
    v.write (Elt F) f w Finset.univ i = if i ∈ v.set then g i else f i := by
  by_cases hi : i ∈ v.set
  · rw [if_pos hi]
    obtain ⟨j, -, rfl⟩ := Finset.mem_map.mp hi
    exact View.eq_of_read_eq ((View.read_write_of_mem f w (Finset.mem_univ j)).trans (h j))
  · rw [if_neg hi]
    exact View.write_of_not_mem _ _ _ (by rwa [View.setOn_univ])

theorem write_row {d : Dev nD} (inb) (f : S1024x1024.Idx → Elt F .f32) (w : S32x1024.Idx → Elt F .f32) (hw : IsRed m d w) (i : S1024x1024.Idx) :
    (outM.access (Rect.unit (s := S1024x1024) (rowO d) S32x1024.size inb)).write (Elt F) f w Finset.univ i
      = if i ∈ (rowR d).set then FIN m i else f i := by
  have h := write_eq (F := F) (outM.access (Rect.unit (s := S1024x1024) (rowO d) S32x1024.size inb)) f (FIN m) w
    (fun j => (hw j).trans (read_row_FIN m d d j).symm) i
  rw [h, acc_set rfl]

/-- Filling in the next rows. -/
theorem out_store (c : Dev nD) (n : ℕ) {off : Fin 2 → ℕ} {inb} {w : S32x1024.Idx → Elt F .f32} {hx hm} (hn : n < 31) (h : off = rowO (sd c n)) (hw : IsRed m (sd c n) w)
    {α : Type} {Q : α → sProp 𝕄} {k : PUnit → Prog (TpuEff nD τ sig (Elt F) Λ₀ .tc) α} :
    OutR m c n ⊢ iprop((OutR m c (n + 1) -∗ WP c (k ⟨⟩) Q)
      -∗ WP c (.op (.store outM (Rect.unit (s := S1024x1024) off S32x1024.size inb) w Finset.univ hx hm) k) Q) := by
  subst h
  have hS : (outM.access (Rect.unit (s := S1024x1024) (rowO (sd c n)) S32x1024.size inb)).setOn Finset.univ ⊆ offR c := by
    rw [View.setOn_univ, acc_set rfl]; exact row_off (sd_ne c ⟨n, hn⟩)
  unfold OutR
  iintro ⟨%f, %hf, Ho⟩ Hk
  iapply (wp_store 𝒱₀ (c : Thread nD τ) none Set.univ (m := outM) hS) $$ Ho
  iintro Ho
  iapply Hk
  iexists _
  isplitr
  · ipureintro
    intro k hk i hi
    refine (write_row m inb f w hw i).trans ?_
    by_cases h : i ∈ (rowR (sd c n)).set
    · rw [if_pos h]
    · rw [if_neg h]
      refine hf k ?_ i hi
      rcases Nat.lt_or_eq_of_le (Nat.lt_succ_iff.mp hk) with h' | rfl
      · exact h'
      · exact absurd hi h
  iexact Ho

/-- All filled in. -/
theorem OutR_end (c : Dev nD) : OutR m c 31 ⊢ outP c (offR c) fullShare (FIN m) := by
  unfold OutR
  iintro ⟨%f, %hf, Ho⟩
  rw [show outP c (offR c) fullShare (FIN m) = outP c (offR c) fullShare f from pointsTo_congr fun (i : S1024x1024.Idx) hi => ?_]
  · iexact Ho
  have h0 : (i 0).val < 1024 := (i 0).isLt
  have h2 : (i 0).val / 128 < 8 := by omega
  have h3 : (i 0).val % 128 / 32 < 4 := by omega
  have hp : pos (dv ((i 0).val / 128) ((i 0).val % 128 / 32)) = (i 0).val / 128 := (pos_dv _ _).trans (Nat.mod_eq_of_lt h2)
  have hz : zc (dv ((i 0).val / 128) ((i 0).val % 128 / 32)) = (i 0).val % 128 / 32 := (zc_dv _ _).trans (Nat.mod_eq_of_lt h3)
  have hin : i ∈ (rowR (dv ((i 0).val / 128) ((i 0).val % 128 / 32))).set := by
    rw [mem_row, hp, hz]; omega
  obtain ⟨n, hn⟩ := sd_all c _ (fun h : dv ((i 0).val / 128) ((i 0).val % 128 / 32) = c => (Finset.mem_sdiff.mp hi).2 (h ▸ hin))
  exact (hf n n.isLt i (by rw [hn]; exact hin)).symm

/-! ## Pieces received -/

theorem pc_st (h k : Fin 4) : (pcR h k).set ⊆ (stR h).set := by
  intro i hi
  rw [Rect.mem_set_unit] at hi ⊢
  intro a
  have := hi a
  have := k.isLt
  match a with
  | ⟨0, _⟩ => exact hi 0
  | ⟨1, _⟩ => exact ⟨Nat.zero_le _, by have h2 : (i 1).val < 32 * k.val + 32 := (hi 1).2; show (i 1).val < 0 + 128; omega⟩
  | ⟨2, _⟩ => exact hi 2

/-- A loaded slot of the gathered buffer. -/
theorem g_load (c : Dev nD) (k : Fin 3) {q : PosShare TreeShare} {off : Fin 3 → ℕ} {inb} {hl} (h : off = ![k.val, 0, 0]) {α : Type} {Q : α → sProp 𝕄}
    {kk : (S1x32x1024.Idx → Elt F .f32) → Prog (TpuEff nD τ sig (Elt F) Λ₀ .tc) α} :
    gP c (slR k).set q (GC m c) ⊢ iprop((∀ v, ⌜IsRed m (nb 0 (k.val + 1) c) (shapeCast S32x1024 v shapeCasts_S1x32x1024_S32x1024)⌝ -∗ gP c (slR k).set q (GC m c) -∗ WP c (kk v) Q)
      -∗ WP c (.op (.load gM (Rect.unit (s := S3x32x1024) off S1x32x1024.size inb).toLoadRect hl) kk) Q) := by
  subst h
  have hS : (gM.access (Rect.unit (s := S3x32x1024) ![k.val, 0, 0] S1x32x1024.size inb)).set ⊆ (slR k).set := by
    show ((View.whole cc0_scratch3).slice _).set ⊆ _
    rw [View.set_slice_whole]
  iintro H Hk
  iapply (wp_load_rect 𝒱₀ (c : Thread nD τ) none Set.univ (m := gM) hS) $$ H
  iintro H
  iapply Hk
  · ipureintro
    intro j
    exact read_sq_GC m c k j
  iexact H

/-- A loaded piece of a ring buffer. -/
theorem r_loadF (c : Dev nD) (h k : Fin 4) {S : Finset S4x128x1024.Idx} (hp : (pcR h k).set ⊆ S) {q : PosShare TreeShare} {off : Fin 3 → ℕ} {inb} {hl} (ho : off = ![h.val, 32 * k.val, 0]) {α : Type} {Q : α → sProp 𝕄}
    {kk : (S1x32x1024.Idx → Elt F .f32) → Prog (TpuEff nD τ sig (Elt F) Λ₀ .tc) α} :
    rP false c S q (RC m false c) ⊢ iprop((∀ v, ⌜IsRed m (nb (7 - h.val) k.val c) (shapeCast S32x1024 v shapeCasts_S1x32x1024_S32x1024)⌝ -∗ rP false c S q (RC m false c) -∗ WP c (kk v) Q)
      -∗ WP c (.op (.load cwM (Rect.unit (s := S4x128x1024) off S1x32x1024.size inb).toLoadRect hl) kk) Q) := by
  subst ho
  have hS : (cwM.access (Rect.unit (s := S4x128x1024) ![h.val, 32 * k.val, 0] S1x32x1024.size inb)).set ⊆ S := by
    refine subset_trans ?_ hp
    show ((View.whole cc0_scratch6).slice _).set ⊆ _
    rw [View.set_slice_whole]
  iintro H Hk
  iapply (wp_load_rect 𝒱₀ (c : Thread nD τ) none Set.univ (m := cwM) hS) $$ H
  iintro H
  iapply Hk
  · ipureintro
    intro j
    exact RC_piece m false c h k j
  iexact H
theorem r_loadT (c : Dev nD) (h k : Fin 4) {S : Finset S4x128x1024.Idx} (hp : (pcR h k).set ⊆ S) {q : PosShare TreeShare} {off : Fin 3 → ℕ} {inb} {hl} (ho : off = ![h.val, 32 * k.val, 0]) {α : Type} {Q : α → sProp 𝕄}
    {kk : (S1x32x1024.Idx → Elt F .f32) → Prog (TpuEff nD τ sig (Elt F) Λ₀ .tc) α} :
    rP true c S q (RC m true c) ⊢ iprop((∀ v, ⌜IsRed m (nb (1 + h.val) k.val c) (shapeCast S32x1024 v shapeCasts_S1x32x1024_S32x1024)⌝ -∗ rP true c S q (RC m true c) -∗ WP c (kk v) Q)
      -∗ WP c (.op (.load ccM (Rect.unit (s := S4x128x1024) off S1x32x1024.size inb).toLoadRect hl) kk) Q) := by
  subst ho
  have hS : (ccM.access (Rect.unit (s := S4x128x1024) ![h.val, 32 * k.val, 0] S1x32x1024.size inb)).set ⊆ S := by
    refine subset_trans ?_ hp
    show ((View.whole cc0_scratch11).slice _).set ⊆ _
    rw [View.set_slice_whole]
  iintro H Hk
  iapply (wp_load_rect 𝒱₀ (c : Thread nD τ) none Set.univ (m := ccM) hS) $$ H
  iintro H
  iapply Hk
  · ipureintro
    intro j
    exact RC_piece m true c h k j
  iexact H

end Cert.Ring

end
-- ==== Proof.Rules.lean ====
/-
The rules in the form the device's program uses them: its memrefs and semaphores as the program spells them.
-/
module

public import proofs.«01_k».proof.Proof.Bufs

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Option (X × Bool) → ℕ)

set_option backward.proofsInPublic true

/-! ## What the program's slices are -/

theorem slice_row {off : Fin 2 → ℕ} {inb} {d : Dev nD} (h : off = rowO d) :
    outM.slice (Rect.unit (s := S1024x1024) off S32x1024.size inb) (fun _ => rfl) = rowM d := by subst h; rfl
theorem slice_sq (M : Memref sig .tc .vmem S3x32x1024 .f32) {off : Fin 3 → ℕ} {inb} {k : Fin 3} (h : off = ![k.val, 0, 0]) :
    (M.slice (Rect.unit (s := S3x32x1024) off S1x32x1024.size inb) (fun _ => rfl)).squeeze S32x1024 squeezes_S1x32x1024_S32x1024 = sq3 M k := by
  subst h; rfl
theorem sem3 (A : DmaSems sig S3) {off off' : Fin 1 → ℕ} {inb} (inb') (h : off = off') :
    ((A.slice (Rect.unit (s := S3) off S1.size inb)).squeeze S_ squeezes_S1_S_).sem
      = ((A.slice (Rect.unit (s := S3) off' S1.size inb')).squeeze S_ squeezes_S1_S_).sem := by subst h; rfl

/-! ## The rules, one hypothesis at a time -/

theorem snd_step (t : X) (c : Dev nD) (n n' w : ℕ) {e : Dev nD} {src : Memref sig .tc .vmem t.sh .f32} {dst : Memref sig .tc .vmem t.sh .f32}
    {sS sR : DmaSem sig} {hsc : dst.view.ref.isScScratch = false} {hsrc : src.view.WordExact} {hdst : dst.view.WordExact}
    {hsem : DmaTarget.Typed .vmem (.dma sR) (.remote (Dev.tc e : Thread nD τ) dst (.dma sS) hsc)}
    {α : Type} {Q : α → sProp 𝕄} {k : PUnit → Prog (TpuEff nD τ sig (Elt F) Λ₀ .tc) α}
    (hn : t.ord = n ∧ n + 1 = n' ∧ w ≤ wo (t, false))
    (he : e = t.tgt c) (h1 : src = t.src c) (h2 : dst = t.dst) (hS : sS = t.ds false) (hR : sR = t.ds true) :
    ctx m K ⊢ iprop(Run m c n w -∗ t.spts m c -∗ (Run m c n' w -∗ WP c (k ⟨⟩) Q)
      -∗ WP c (.op (.enqueueDma src (.remote (Dev.tc e : Thread nD τ) dst (.dma sS) hsc) (.dma sR) hsrc hdst hsem) k) Q) := by
  obtain ⟨rfl, rfl, hw⟩ := hn
  iintro #Hx HR Hs
  iapply (step_send m K t c w he h1 h2 hS hR hw)
  isplitr; · iexact Hx
  isplitl [HR] <;> iassumption

theorem wt_step (x : X × Bool) (c : Dev nD) (n w w' : ℕ) {sem : DmaSem sig} {sp sp' : Space} {s s' : Shape} {e e' : EltTy}
    {src : Memref sig .tc sp' s' e'} {dst : Memref sig .tc sp s e} {hsrc : src.view.WordExact} {hdst : dst.view.WordExact}
    {α : Type} {Q : α → sProp 𝕄} {k : PUnit → Prog (TpuEff nD τ sig (Elt F) Λ₀ .tc) α}
    (hn : wo x = w ∧ w + 1 = w' ∧ (x.2 = true ∨ x.1.ord < n) ∧ ∀ u : X, n ≤ u.ord → (if x.2 then x.1.lev else 0) < u.lev)
    (hN : x.1.N = dst.view.dmaCredit) (hS : sem = x.1.ds x.2) :
    ctx m K ⊢ iprop(Run m c n w -∗ (Run m c n w' -∗ giv m c x -∗ WP c (k ⟨⟩) Q)
      -∗ WP c (.op (.waitDma2 sem src dst hsrc hdst) k) Q) := by
  obtain ⟨rfl, rfl, hn, hl⟩ := hn
  iintro #Hx HR Hk
  iapply (step_wait m K x c n hS hN hn hl) $$ [HR]
  · isplitr; · iexact Hx
    iexact HR
  iintro ⟨HR, Hg⟩
  iapply Hk $$ HR Hg

/-- A wait for a transfer to arrive. -/
theorem wt_in (t : X) (c : Dev nD) (n w w' : ℕ) {sem : DmaSem sig} {sp sp' : Space} {s s' : Shape} {e e' : EltTy}
    {src : Memref sig .tc sp' s' e'} {dst : Memref sig .tc sp s e} {hsrc : src.view.WordExact} {hdst : dst.view.WordExact}
    {α : Type} {Q : α → sProp 𝕄} {k : PUnit → Prog (TpuEff nD τ sig (Elt F) Λ₀ .tc) α}
    (hn : wo (t, true) = w ∧ w + 1 = w' ∧ ∀ u : X, n ≤ u.ord → t.lev < u.lev) (hN : t.N = dst.view.dmaCredit) (hS : sem = t.ds true) :
    ctx m K ⊢ iprop(Run m c n w -∗ (Run m c n w' -∗ t.dpts m c -∗ WP c (k ⟨⟩) Q) -∗ WP c (.op (.waitDma2 sem src dst hsrc hdst) k) Q) :=
  wt_step m K (t, true) c n w w' ⟨hn.1, hn.2.1, Or.inl rfl, hn.2.2⟩ hN hS

/-- A wait for a product's rows to have been read. -/
theorem wt_z (j : Fin 3) (c : Dev nD) (n w w' : ℕ) {sem : DmaSem sig} {sp sp' : Space} {s s' : Shape} {e e' : EltTy}
    {src : Memref sig .tc sp' s' e'} {dst : Memref sig .tc sp s e} {hsrc : src.view.WordExact} {hdst : dst.view.WordExact}
    {α : Type} {Q : α → sProp 𝕄} {k : PUnit → Prog (TpuEff nD τ sig (Elt F) Λ₀ .tc) α}
    (hn : wo (.z j, false) = w ∧ w + 1 = w' ∧ (X.z j).ord < n ∧ ∀ u : X, n ≤ u.ord → 0 < u.lev) (hN : (X.z j).N = dst.view.dmaCredit) (hS : sem = (X.z j).ds false) :
    ctx m K ⊢ iprop(Run m c n w -∗ (Run m c n w' -∗ (X.z j).spts m c -∗ WP c (k ⟨⟩) Q) -∗ WP c (.op (.waitDma2 sem src dst hsrc hdst) k) Q) :=
  wt_step m K (.z j, false) c n w w' ⟨hn.1, hn.2.1, Or.inr hn.2.2.1, hn.2.2.2⟩ hN hS

/-- A wait, at the end, for another transfer's source to have been read. -/
theorem wt_out (t : X) (c : Dev nD) (w w' : ℕ) {sem : DmaSem sig} {sp sp' : Space} {s s' : Shape} {e e' : EltTy}
    {src : Memref sig .tc sp' s' e'} {dst : Memref sig .tc sp s e} {hsrc : src.view.WordExact} {hdst : dst.view.WordExact}
    {α : Type} {Q : α → sProp 𝕄} {k : PUnit → Prog (TpuEff nD τ sig (Elt F) Λ₀ .tc) α}
    (hn : wo (t, false) = w ∧ w + 1 = w') (hN : t.N = dst.view.dmaCredit) (hS : sem = t.ds false) :
    ctx m K ⊢ iprop(Run m c 20 w -∗ (Run m c 20 w' -∗ WP c (k ⟨⟩) Q) -∗ WP c (.op (.waitDma2 sem src dst hsrc hdst) k) Q) := by
  iintro #Hx HR Hk
  have h : wo (t, false) = w ∧ w + 1 = w' ∧ ((t, false).2 = true ∨ (t, false).1.ord < 20)
      ∧ ∀ u : X, 20 ≤ u.ord → (if (t, false).2 then (t, false).1.lev else 0) < u.lev :=
    ⟨hn.1, hn.2, Or.inr t.ord_lt, fun u hu => absurd u.ord_lt (by omega)⟩
  iapply (wt_step m K (t, false) c 20 w w' h hN hS) $$ Hx HR
  iintro HR -
  iapply Hk $$ HR

/-- Loading rows about to be filled in, at the `n`-th. -/
theorem ld (c : Dev nD) (n : ℕ) {off : Fin 2 → ℕ} {inb} {hl} (hn : n < 31) (h : off = rowO (sd c n)) {α : Type} {Q : α → sProp 𝕄}
    {k : (S32x1024.Idx → Elt F .f32) → Prog (TpuEff nD τ sig (Elt F) Λ₀ .tc) α} :
    OutR m c n ⊢ iprop((∀ v, OutR m c n -∗ WP c (k v) Q)
      -∗ WP c (.op (.load outM (Rect.unit (s := S1024x1024) off S32x1024.size inb).toLoadRect hl) k) Q) := out_load m c n hn h

/-- Filling in the `n`-th rows. -/
theorem st (c : Dev nD) (n n' : ℕ) {off : Fin 2 → ℕ} {inb} {w : S32x1024.Idx → Elt F .f32} {hx hm} (hn : n < 31 ∧ n + 1 = n') (h : off = rowO (sd c n))
    (hw : IsRed m (sd c n) w) {α : Type} {Q : α → sProp 𝕄} {k : PUnit → Prog (TpuEff nD τ sig (Elt F) Λ₀ .tc) α} :
    OutR m c n ⊢ iprop((OutR m c n' -∗ WP c (k ⟨⟩) Q)
      -∗ WP c (.op (.store outM (Rect.unit (s := S1024x1024) off S32x1024.size inb) w Finset.univ hx hm) k) Q) := by
  obtain ⟨hn, rfl⟩ := hn
  exact out_store m c n hn h hw

end Cert.Ring

end
-- ==== Proof.Splits.lean ====
/-
Splitting and joining parts of the buffers: into what the transfers take, and back into whole buffers at the end.
-/
module

public import proofs.«01_k».proof.Proof.Rules

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Option (X × Bool) → ℕ)

set_option backward.proofsInPublic true

/-! ## Sets of elements -/

theorem mem_blk {p : Fin 8} {i : S1024x1024.Idx} : i ∈ (blkR p).set ↔ 128 * p.val ≤ (i 0).val ∧ (i 0).val < 128 * p.val + 128 := by
  rw [Rect.mem_set_unit]
  refine ⟨fun h => ⟨(h 0).1, (h 0).2⟩, fun h a => ?_⟩
  have h1 : (i 1).val < 1024 := (i 1).isLt
  match a with
  | ⟨0, _⟩ => exact h
  | ⟨1, _⟩ => exact ⟨Nat.zero_le _, by show (i 1).val < 0 + 1024; omega⟩

theorem mem_sl {k : Fin 3} {i : S3x32x1024.Idx} : i ∈ (slR k).set ↔ (i 0).val = k.val := by
  rw [Rect.mem_set_unit]
  have h1 : (i 1).val < 32 := (i 1).isLt
  have h2 : (i 2).val < 1024 := (i 2).isLt
  refine ⟨fun h => ?_, fun h a => ?_⟩
  · have h3 : k.val ≤ (i 0).val ∧ (i 0).val < k.val + 1 := h 0
    omega
  · match a with
    | ⟨0, _⟩ => exact ⟨by show k.val ≤ (i 0).val; omega, by show (i 0).val < k.val + 1; omega⟩
    | ⟨1, _⟩ => exact ⟨Nat.zero_le _, by show (i 1).val < 0 + 32; omega⟩
    | ⟨2, _⟩ => exact ⟨Nat.zero_le _, by show (i 2).val < 0 + 1024; omega⟩

/-- A box of a ring buffer: `n` rows from row `b` of slot `h`. -/
theorem mem_box {h b n : ℕ} {inb} {i : S4x128x1024.Idx} :
    i ∈ (Rect.unit (s := S4x128x1024) ![h, b, 0] ![1, n, 1024] inb).set ↔ (i 0).val = h ∧ b ≤ (i 1).val ∧ (i 1).val < b + n := by
  rw [Rect.mem_set_unit]
  have h2 : (i 2).val < 1024 := (i 2).isLt
  refine ⟨fun hh => ?_, fun hh a => ?_⟩
  · have h3 : h ≤ (i 0).val ∧ (i 0).val < h + 1 := hh 0
    have h4 : b ≤ (i 1).val ∧ (i 1).val < b + n := hh 1
    omega
  · match a with
    | ⟨0, _⟩ => exact ⟨by show h ≤ (i 0).val; omega, by show (i 0).val < h + 1; omega⟩
    | ⟨1, _⟩ => exact ⟨by show b ≤ (i 1).val; omega, by show (i 1).val < b + n; omega⟩
    | ⟨2, _⟩ => exact ⟨Nat.zero_le _, by show (i 2).val < 0 + 1024; omega⟩
theorem mem_pc {h k : Fin 4} {i : S4x128x1024.Idx} : i ∈ (pcR h k).set ↔ (i 0).val = h.val ∧ 32 * k.val ≤ (i 1).val ∧ (i 1).val < 32 * k.val + 32 := mem_box
theorem mem_st {h : Fin 4} {i : S4x128x1024.Idx} : i ∈ (stR h).set ↔ (i 0).val = h.val ∧ 0 ≤ (i 1).val ∧ (i 1).val < 0 + 128 := mem_box
theorem mem_hf {h : Fin 4} {b : Bool} {i : S4x128x1024.Idx} :
    i ∈ (hfR h b).set ↔ (i 0).val = h.val ∧ (if b then 64 else 0) ≤ (i 1).val ∧ (i 1).val < (if b then 64 else 0) + 64 := mem_box

theorem pc_hfF (k : Fin 4) (hk : k.val < 2) : (pcR 3 k).set ⊆ (hfR 3 false).set := by
  intro i hi
  rw [mem_pc] at hi
  rw [mem_hf]
  exact ⟨hi.1, Nat.zero_le _, by show (i 1).val < 0 + 64; omega⟩
theorem pc_hfT (k : Fin 4) (hk : 2 ≤ k.val) : (pcR 3 k).set ⊆ (hfR 3 true).set := by
  intro i hi
  rw [mem_pc] at hi
  rw [mem_hf]
  have := k.isLt
  exact ⟨hi.1, by show 64 ≤ (i 1).val; omega, by show (i 1).val < 64 + 64; omega⟩

/-! ## Splitting a part -/

theorem halve {ℓ : Loc nD τ sig} {S : Finset (Idx ℓ)} (q : PosShare TreeShare) (f : Buf (Elt F) ℓ) :
    (ℓ ↦[S]{q} f : sProp 𝕄) = iprop((ℓ ↦[S]{q.left} f) ∗ ℓ ↦[S]{q.right} f) := by
  have h : (ℓ ↦[S]{q} f : sProp 𝕄) ⊣⊢ iprop((ℓ ↦[S]{q.left} f) ∗ ℓ ↦[S]{q.right} f) := pointsTo_share (PosShare.mem_left_op_right q)
  exact BI.equiv_iff.mp ⟨h.1, h.2⟩
theorem cut {ℓ : Loc nD τ sig} {I J S : Finset (Idx ℓ)} {q : PosShare TreeShare} {f : Buf (Elt F) ℓ} (hS : S = I ∪ J) (h : Disjoint I J) :
    (ℓ ↦[S]{q} f : sProp 𝕄) = iprop((ℓ ↦[I]{q} f) ∗ ℓ ↦[J]{q} f) := by
  subst hS
  have h : (ℓ ↦[I ∪ J]{q} f : sProp 𝕄) ⊣⊢ iprop((ℓ ↦[I]{q} f) ∗ ℓ ↦[J]{q} f) := pointsTo_union h
  exact BI.equiv_iff.mp ⟨h.1, h.2⟩
/-- Two parts, at whatever contents. -/
theorem glue {ℓ : Loc nD τ sig} {I J S : Finset (Idx ℓ)} {q : PosShare TreeShare} (hS : S = I ∪ J) (h : Disjoint I J) :
    iprop((∃ f, ℓ ↦[I]{q} f) ∗ ∃ f, ℓ ↦[J]{q} f) ⊢ (iprop(∃ f, ℓ ↦[S]{q} f) : sProp 𝕄) := by
  subst hS
  iintro ⟨⟨%f, H1⟩, ⟨%g, H2⟩⟩
  iexists _
  iapply (pointsTo_join h)
  isplitl [H1] <;> iassumption

/-! ## The device's own rows -/

theorem own_split (c : Dev nD) : outP c (rowR c).set fullShare (FIN m)
    ⊢ iprop((X.w false 0).spts m c ∗ (X.w true 0).spts m c ∗ (X.g 0).spts m c ∗ (X.g 1).spts m c ∗ (X.g 2).spts m c) := by
  show _ ⊢ iprop(outP c (rowR c).set fullShare.left.left (FIN m) ∗ outP c (rowR c).set fullShare.left.right (FIN m) ∗ outP c (rowR c).set fullShare.right.left (FIN m)
    ∗ outP c (rowR c).set fullShare.right.right.left (FIN m) ∗ outP c (rowR c).set fullShare.right.right.right (FIN m))
  unfold outP
  rw [halve fullShare, halve fullShare.left, halve fullShare.right, halve fullShare.right.right]
  iintro ⟨⟨H1, H2⟩, H3, H4, H5⟩
  isplitl [H1]; · iexact H1
  isplitl [H2]; · iexact H2
  isplitl [H3]; · iexact H3
  isplitl [H4] <;> iassumption
theorem own_join (c : Dev nD) : iprop((X.w false 0).spts m c ∗ (X.w true 0).spts m c ∗ (X.g 0).spts m c ∗ (X.g 1).spts m c ∗ (X.g 2).spts m c)
    ⊢ outP c (rowR c).set fullShare (FIN m) := by
  show iprop(outP c (rowR c).set fullShare.left.left (FIN m) ∗ outP c (rowR c).set fullShare.left.right (FIN m) ∗ outP c (rowR c).set fullShare.right.left (FIN m)
    ∗ outP c (rowR c).set fullShare.right.right.left (FIN m) ∗ outP c (rowR c).set fullShare.right.right.right (FIN m)) ⊢ _
  unfold outP
  rw [halve fullShare, halve fullShare.left, halve fullShare.right, halve fullShare.right.right]
  iintro ⟨H1, H2, H3, H4, H5⟩
  isplitl [H1 H2]; · isplitl [H1] <;> iassumption
  isplitl [H3]; · iexact H3
  isplitl [H4] <;> iassumption

/-! ## The gathered slots -/

theorem gsplit (c : Dev nD) (k : Fin 3) : gP c (slR k).set fullShare (GC m c)
    ⊢ iprop(gP c (slR k).set fullShare.left (GC m c) ∗ gP c (slR k).set fullShare.right.left (GC m c) ∗ gP c (slR k).set fullShare.right.right (GC m c)) := by
  unfold gP
  rw [halve fullShare, halve fullShare.right]
theorem gjoin (c : Dev nD) (k : Fin 3) : iprop(gP c (slR k).set fullShare.left (GC m c) ∗ gP c (slR k).set fullShare.right.left (GC m c) ∗ gP c (slR k).set fullShare.right.right (GC m c))
    ⊢ iprop(∃ f, gP c (slR k).set fullShare f) := by
  iintro H
  iexists (GC m c)
  unfold gP
  rw [halve fullShare, halve fullShare.right]
  iexact H
/-- What is kept of a gathered slot, to load from. -/
abbrev gk (c : Dev nD) (k : Fin 3) : sProp 𝕄 := gP c (slR k).set fullShare.right.right (GC m c)
theorem gsplit0 (c : Dev nD) : (X.g 2).dpts m c ⊢ iprop((X.w false 1).spts m c ∗ (X.w true 1).spts m c ∗ gk m c 0) := gsplit m c 0
theorem gsplit1 (c : Dev nD) : (X.g 1).dpts m c ⊢ iprop((X.w false 2).spts m c ∗ (X.w true 2).spts m c ∗ gk m c 1) := gsplit m c 1
theorem gsplit2 (c : Dev nD) : (X.g 0).dpts m c ⊢ iprop((X.w false 3).spts m c ∗ (X.w true 3).spts m c ∗ gk m c 2) := gsplit m c 2

/-! ## The three-slot buffers -/

theorem sl_univ : (Finset.univ : Finset S3x32x1024.Idx) = (slR 0).set ∪ ((slR 1).set ∪ (slR 2).set) := by
  ext i
  simp only [Finset.mem_univ, Finset.mem_union, mem_sl, true_iff]
  have h : (i 0).val < 3 := (i 0).isLt
  show (i 0).val = 0 ∨ (i 0).val = 1 ∨ (i 0).val = 2
  omega
theorem sl_disj {j k : Fin 3} (h : j ≠ k) : Disjoint (slR j).set (slR k).set := by
  rw [Finset.disjoint_left]
  intro i h1 h2
  rw [mem_sl] at h1 h2
  exact h (Fin.ext (h1.symm.trans h2))
theorem sl_disj' : Disjoint (slR 0).set ((slR 1).set ∪ (slR 2).set) := by
  rw [Finset.disjoint_union_right]; exact ⟨sl_disj (by decide), sl_disj (by decide)⟩

theorem sl_disj12 : Disjoint (slR 1).set (slR 2).set := sl_disj (by decide)

theorem three_split {ℓ : Loc nD τ sig} {I J K S : Finset (Idx ℓ)} {f : Buf (Elt F) ℓ} (hS : S = I ∪ (J ∪ K)) (h : Disjoint I (J ∪ K)) (h' : Disjoint J K) :
    (ℓ ↦[S]{fullShare} f : sProp 𝕄) ⊢ iprop((∃ f, ℓ ↦[I]{fullShare} f) ∗ (∃ f, ℓ ↦[J]{fullShare} f) ∗ ∃ f, ℓ ↦[K]{fullShare} f) := by
  rw [cut hS h, cut rfl h']
  iintro ⟨H1, H2, H3⟩
  isplitl [H1]; · iexists f; iexact H1
  isplitl [H2]; · iexists f; iexact H2
  iexists f; iexact H3
theorem three_glue {ℓ : Loc nD τ sig} {I J K S : Finset (Idx ℓ)} (hS : S = I ∪ (J ∪ K)) (h : Disjoint I (J ∪ K)) (h' : Disjoint J K) :
    iprop((∃ f, ℓ ↦[I]{fullShare} f) ∗ (∃ f, ℓ ↦[J]{fullShare} f) ∗ ∃ f, ℓ ↦[K]{fullShare} f) ⊢ (iprop(∃ f, ℓ ↦[S]{fullShare} f) : sProp 𝕄) := by
  have h1 := glue (F := F) (ℓ := ℓ) (q := fullShare) hS h
  have h2 := glue (F := F) (ℓ := ℓ) (q := fullShare) rfl h'
  iintro ⟨H1, H2, H3⟩
  iapply h1
  isplitl [H1]; · iexact H1
  iapply h2
  isplitl [H2] <;> iassumption

theorem z_start (c : Dev nD) (f) : zP (F := F) c Finset.univ fullShare f ⊢ iprop((X.z 2).dany c ∗ (X.z 1).dany c ∗ (X.z 0).dany c) :=
  three_split (ℓ := (c : Thread nD τ).loc cc0_scratch0) sl_univ sl_disj' sl_disj12
theorem g_start (c : Dev nD) (f) : gP (F := F) c Finset.univ fullShare f ⊢ iprop((X.g 2).dany c ∗ (X.g 1).dany c ∗ (X.g 0).dany c) :=
  three_split (ℓ := (c : Thread nD τ).loc cc0_scratch3) sl_univ sl_disj' sl_disj12
theorem z_end (c : Dev nD) : iprop((∃ f, zP (F := F) c (slR 0).set fullShare f) ∗ (∃ f, zP (F := F) c (slR 1).set fullShare f) ∗ ∃ f, zP (F := F) c (slR 2).set fullShare f)
    ⊢ iprop(∃ f, zP (F := F) c Finset.univ fullShare f) :=
  three_glue (ℓ := (c : Thread nD τ).loc cc0_scratch0) sl_univ sl_disj' sl_disj12
theorem g_end (c : Dev nD) : iprop((∃ f, gP (F := F) c (slR 0).set fullShare f) ∗ (∃ f, gP (F := F) c (slR 1).set fullShare f) ∗ ∃ f, gP (F := F) c (slR 2).set fullShare f)
    ⊢ iprop(∃ f, gP (F := F) c Finset.univ fullShare f) :=
  three_glue (ℓ := (c : Thread nD τ).loc cc0_scratch3) sl_univ sl_disj' sl_disj12

/-! ## The ring buffers -/

/-- What is kept of a ring slot, to load from. -/
abbrev rk (d : Bool) (c : Dev nD) (h : Fin 4) : sProp 𝕄 := rP d c (stR h).set fullShare.right (RC m d c)
/-- The half of slot 2 that does not go on. -/
abbrev hk (d : Bool) (c : Dev nD) : sProp 𝕄 := rP d c (hfR 2 (!d)).set fullShare.left (RC m d c)
/-- The half of slot 3 that is not used. -/
abbrev h3 (d : Bool) (c : Dev nD) : sProp 𝕄 := iprop(∃ f, rP (F := F) d c (hfR 3 (!d)).set fullShare f)

theorem rhalve (d : Bool) (c : Dev nD) (S) (q : PosShare TreeShare) (f) : rP (F := F) d c S q f = iprop(rP d c S q.left f ∗ rP d c S q.right f) := by
  cases d
  · exact halve (ℓ := (c : Thread nD τ).loc cc0_scratch6) q f
  · exact halve (ℓ := (c : Thread nD τ).loc cc0_scratch11) q f
theorem rcut (d : Bool) (c : Dev nD) {I J S : Finset S4x128x1024.Idx} (q : PosShare TreeShare) (f) (hS : S = I ∪ J) (h : Disjoint I J) :
    rP (F := F) d c S q f = iprop(rP d c I q f ∗ rP d c J q f) := by
  cases d
  · exact cut (ℓ := (c : Thread nD τ).loc cc0_scratch6) hS h
  · exact cut (ℓ := (c : Thread nD τ).loc cc0_scratch11) hS h
theorem rglue (d : Bool) (c : Dev nD) {I J S : Finset S4x128x1024.Idx} (hS : S = I ∪ J) (h : Disjoint I J) :
    iprop((∃ f, rP (F := F) d c I fullShare f) ∗ ∃ f, rP (F := F) d c J fullShare f) ⊢ iprop(∃ f, rP (F := F) d c S fullShare f) := by
  cases d
  · exact glue (ℓ := (c : Thread nD τ).loc cc0_scratch6) hS h
  · exact glue (ℓ := (c : Thread nD τ).loc cc0_scratch11) hS h

theorem pc_disj {h k : Fin 4} (hk : k ≠ h) (a : Fin 4) : Disjoint (pcR a h).set (pcR a k).set := by
  rw [Finset.disjoint_left]
  intro i h1 h2
  rw [mem_pc] at h1 h2
  exact hk (Fin.ext (by omega))
theorem st_disj {h k : Fin 4} (hk : h ≠ k) : Disjoint (stR h).set (stR k).set := by
  rw [Finset.disjoint_left]
  intro i h1 h2
  rw [mem_st] at h1 h2
  exact hk (Fin.ext (h1.1.symm.trans h2.1))
theorem hf_disj (h : Fin 4) (d : Bool) : Disjoint (hfR h d).set (hfR h (!d)).set := by
  rw [Finset.disjoint_left]
  intro i h1 h2
  rw [mem_hf] at h1 h2
  cases d
  · have h3 : (i 1).val < 0 + 64 := h1.2.2
    have h4 : 64 ≤ (i 1).val := h2.2.1
    omega
  · have h3 : (i 1).val < 0 + 64 := h2.2.2
    have h4 : 64 ≤ (i 1).val := h1.2.1
    omega
theorem hf_union (h : Fin 4) (d : Bool) : (stR h).set = (hfR h d).set ∪ (hfR h (!d)).set := by
  ext i
  rw [Finset.mem_union, mem_st, mem_hf, mem_hf]
  have h1 : (i 1).val < 128 := (i 1).isLt
  cases d
  · show _ ↔ (_ ∧ 0 ≤ (i 1).val ∧ (i 1).val < 0 + 64) ∨ (_ ∧ 64 ≤ (i 1).val ∧ (i 1).val < 64 + 64)
    omega
  · show _ ↔ (_ ∧ 64 ≤ (i 1).val ∧ (i 1).val < 64 + 64) ∨ (_ ∧ 0 ≤ (i 1).val ∧ (i 1).val < 0 + 64)
    omega
theorem pc_union : (stR 0).set = (pcR 0 0).set ∪ ((pcR 0 1).set ∪ ((pcR 0 2).set ∪ (pcR 0 3).set)) := by
  ext i
  rw [Finset.mem_union, Finset.mem_union, Finset.mem_union, mem_st, mem_pc, mem_pc, mem_pc, mem_pc]
  have h1 : (i 1).val < 128 := (i 1).isLt
  show ((i 0).val = 0 ∧ _) ↔ ((i 0).val = 0 ∧ 32 * 0 ≤ (i 1).val ∧ (i 1).val < 32 * 0 + 32) ∨ ((i 0).val = 0 ∧ 32 * 1 ≤ (i 1).val ∧ (i 1).val < 32 * 1 + 32)
    ∨ ((i 0).val = 0 ∧ 32 * 2 ≤ (i 1).val ∧ (i 1).val < 32 * 2 + 32) ∨ ((i 0).val = 0 ∧ 32 * 3 ≤ (i 1).val ∧ (i 1).val < 32 * 3 + 32)
  omega
theorem pd1 : Disjoint (pcR 0 0).set ((pcR 0 1).set ∪ ((pcR 0 2).set ∪ (pcR 0 3).set)) := by
  rw [Finset.disjoint_union_right, Finset.disjoint_union_right]
  exact ⟨pc_disj (by decide) 0, pc_disj (by decide) 0, pc_disj (by decide) 0⟩
theorem pd2 : Disjoint (pcR 0 1).set ((pcR 0 2).set ∪ (pcR 0 3).set) := by
  rw [Finset.disjoint_union_right]
  exact ⟨pc_disj (by decide) 0, pc_disj (by decide) 0⟩
theorem pd3 : Disjoint (pcR 0 2).set (pcR 0 3).set := pc_disj (by decide) 0
theorem st_union : (Finset.univ : Finset S4x128x1024.Idx) = (stR 0).set ∪ ((stR 1).set ∪ ((stR 2).set ∪ (stR 3).set)) := by
  ext i
  rw [Finset.mem_union, Finset.mem_union, Finset.mem_union, mem_st, mem_st, mem_st, mem_st]
  have h1 : (i 1).val < 128 := (i 1).isLt
  have h0 : (i 0).val < 4 := (i 0).isLt
  have h2 := Finset.mem_univ i
  show _ ↔ ((i 0).val = 0 ∧ _) ∨ ((i 0).val = 1 ∧ _) ∨ ((i 0).val = 2 ∧ _) ∨ ((i 0).val = 3 ∧ _)
  refine ⟨fun _ => ?_, fun _ => h2⟩
  omega
theorem sd1 : Disjoint (stR 0).set ((stR 1).set ∪ ((stR 2).set ∪ (stR 3).set)) := by
  rw [Finset.disjoint_union_right, Finset.disjoint_union_right]
  exact ⟨st_disj (by decide), st_disj (by decide), st_disj (by decide)⟩
theorem sd2 : Disjoint (stR 1).set ((stR 2).set ∪ (stR 3).set) := by
  rw [Finset.disjoint_union_right]
  exact ⟨st_disj (by decide), st_disj (by decide)⟩
theorem sd3 : Disjoint (stR 2).set (stR 3).set := st_disj (by decide)

/-- The first slot, its four pieces arrived. -/
theorem slot0 (d : Bool) (c : Dev nD) : iprop((X.w d 0).dpts m c ∗ (X.w d 1).dpts m c ∗ (X.w d 2).dpts m c ∗ (X.w d 3).dpts m c)
    ⊢ iprop((X.s d 0).spts m c ∗ rk m d c 0) := by
  show iprop(rP d c (pcR 0 0).set fullShare (RC m d c) ∗ rP d c (pcR 0 1).set fullShare (RC m d c) ∗ rP d c (pcR 0 2).set fullShare (RC m d c) ∗ rP d c (pcR 0 3).set fullShare (RC m d c))
    ⊢ iprop(rP d c (stR 0).set fullShare.left (RC m d c) ∗ rP d c (stR 0).set fullShare.right (RC m d c))
  rw [← rhalve d c _ fullShare, rcut d c _ _ pc_union pd1, rcut d c _ _ rfl pd2, rcut d c _ _ rfl pd3]
theorem slot1 (d : Bool) (c : Dev nD) : (X.s d 0).dpts m c ⊢ iprop((X.s d 1).spts m c ∗ rk m d c 1) := by
  show rP d c (stR 1).set fullShare (RC m d c) ⊢ iprop(rP d c (stR 1).set fullShare.left (RC m d c) ∗ rP d c (stR 1).set fullShare.right (RC m d c))
  rw [← rhalve d c _ fullShare]
theorem slot2 (d : Bool) (c : Dev nD) : (X.s d 1).dpts m c ⊢ iprop((X.s d 2).spts m c ∗ hk m d c ∗ rk m d c 2) := by
  show rP d c (stR 2).set fullShare (RC m d c) ⊢ iprop(rP d c (hfR 2 d).set fullShare.left (RC m d c) ∗ rP d c (hfR 2 (!d)).set fullShare.left (RC m d c) ∗ rP d c (stR 2).set fullShare.right (RC m d c))
  rw [rhalve d c _ fullShare, rcut d c fullShare.left _ (hf_union 2 d) (hf_disj 2 d)]
  iintro ⟨⟨H1, H2⟩, H3⟩
  isplitl [H1]; · iexact H1
  isplitl [H2] <;> iassumption

theorem slot3 (d : Bool) (c : Dev nD) : (X.s d 2).dpts m c ⊢ rP d c (hfR 3 d).set fullShare (RC m d c) := Entails.refl _
theorem zslot0 (c : Dev nD) : (X.z 2).dpts m c ⊢ zP c (slR 0).set fullShare (ZC m c) := Entails.refl _
theorem zslot1 (c : Dev nD) : (X.z 1).dpts m c ⊢ zP c (slR 1).set fullShare (ZC m c) := Entails.refl _
theorem zslot2 (c : Dev nD) : (X.z 0).dpts m c ⊢ zP c (slR 2).set fullShare (ZC m c) := Entails.refl _

theorem r_start (d : Bool) (c : Dev nD) (f) : rP (F := F) d c Finset.univ fullShare f
    ⊢ iprop((X.w d 0).dany c ∗ (X.w d 1).dany c ∗ (X.w d 2).dany c ∗ (X.w d 3).dany c ∗ (X.s d 0).dany c ∗ (X.s d 1).dany c ∗ (X.s d 2).dany c ∗ h3 d c) := by
  show _ ⊢ iprop((∃ f, rP (F := F) d c (pcR 0 0).set fullShare f) ∗ (∃ f, rP (F := F) d c (pcR 0 1).set fullShare f) ∗ (∃ f, rP (F := F) d c (pcR 0 2).set fullShare f) ∗ (∃ f, rP (F := F) d c (pcR 0 3).set fullShare f)
      ∗ (∃ f, rP (F := F) d c (stR 1).set fullShare f) ∗ (∃ f, rP (F := F) d c (stR 2).set fullShare f) ∗ (∃ f, rP (F := F) d c (hfR 3 d).set fullShare f) ∗ ∃ f, rP (F := F) d c (hfR 3 (!d)).set fullShare f)
  rw [rcut d c _ _ st_union sd1, rcut d c _ _ rfl sd2, rcut d c _ _ rfl sd3, rcut d c _ _ (hf_union 3 d) (hf_disj 3 d),
    rcut d c _ _ pc_union pd1, rcut d c _ _ rfl pd2, rcut d c _ _ rfl pd3]
  iintro ⟨⟨H1, H2, H3, H4⟩, H5, H6, H7, H8⟩
  isplitl [H1]; · iexists f; iexact H1
  isplitl [H2]; · iexists f; iexact H2
  isplitl [H3]; · iexists f; iexact H3
  isplitl [H4]; · iexists f; iexact H4
  isplitl [H5]; · iexists f; iexact H5
  isplitl [H6]; · iexists f; iexact H6
  isplitl [H7]; · iexists f; iexact H7
  iexists f; iexact H8

theorem r_end (d : Bool) (c : Dev nD) : iprop((X.s d 0).spts m c ∗ rk m d c 0 ∗ (X.s d 1).spts m c ∗ rk m d c 1 ∗ (X.s d 2).spts m c ∗ hk m d c ∗ rk m d c 2
      ∗ rP d c (hfR 3 d).set fullShare (RC m d c) ∗ h3 d c) ⊢ iprop(∃ f, rP (F := F) d c Finset.univ fullShare f) := by
  have e0 : iprop(rP d c (stR 0).set fullShare.left (RC m d c) ∗ rP d c (stR 0).set fullShare.right (RC m d c)) ⊢ iprop(∃ f, rP d c (stR 0).set fullShare f) := by
    rw [← rhalve d c _ fullShare]; iintro H; iexists _; iexact H
  have e1 : iprop(rP d c (stR 1).set fullShare.left (RC m d c) ∗ rP d c (stR 1).set fullShare.right (RC m d c)) ⊢ iprop(∃ f, rP d c (stR 1).set fullShare f) := by
    rw [← rhalve d c _ fullShare]; iintro H; iexists _; iexact H
  have e2 : iprop((rP d c (hfR 2 d).set fullShare.left (RC m d c) ∗ rP d c (hfR 2 (!d)).set fullShare.left (RC m d c)) ∗ rP d c (stR 2).set fullShare.right (RC m d c))
      ⊢ iprop(∃ f, rP d c (stR 2).set fullShare f) := by
    rw [← rcut d c fullShare.left _ (hf_union 2 d) (hf_disj 2 d), ← rhalve d c _ fullShare]; iintro H; iexists _; iexact H
  have e3 := rglue (F := F) d c (hf_union 3 d) (hf_disj 3 d)
  have e4 := rglue (F := F) d c (S := (stR 2).set ∪ (stR 3).set) rfl sd3
  have e5 := rglue (F := F) d c (S := (stR 1).set ∪ ((stR 2).set ∪ (stR 3).set)) rfl sd2
  have e6 := rglue (F := F) d c st_union sd1
  show iprop(rP d c (stR 0).set fullShare.left (RC m d c) ∗ rP d c (stR 0).set fullShare.right (RC m d c) ∗ rP d c (stR 1).set fullShare.left (RC m d c)
    ∗ rP d c (stR 1).set fullShare.right (RC m d c) ∗ rP d c (hfR 2 d).set fullShare.left (RC m d c) ∗ rP d c (hfR 2 (!d)).set fullShare.left (RC m d c)
    ∗ rP d c (stR 2).set fullShare.right (RC m d c) ∗ rP d c (hfR 3 d).set fullShare (RC m d c) ∗ ∃ f, rP (F := F) d c (hfR 3 (!d)).set fullShare f) ⊢ _
  iintro ⟨A0, B0, A1, B1, A2, C2, B2, A3, B3⟩
  iapply e6
  isplitl [A0 B0]; · iapply e0; isplitl [A0] <;> iassumption
  iapply e5
  isplitl [A1 B1]; · iapply e1; isplitl [A1] <;> iassumption
  iapply e4
  isplitl [A2 C2 B2]
  · iapply e2
    isplitl [A2 C2]; · isplitl [A2] <;> iassumption
    iexact B2
  iapply e3
  isplitl [A3]; · iexists _; iexact A3
  iexact B3

end Cert.Ring

end
-- ==== Proof.Begin.lean ====
/-
The rules of the first section of the body: the signals, the product, and the reduction of the device's own rows.
-/
module

public import proofs.«01_k».proof.Proof.Splits

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Option (X × Bool) → ℕ)

set_option backward.proofsInPublic true

/-! ## Signals -/

theorem sig_step (c : Dev nD) (i : Fin 5) (n n' : ℕ) (hn : i.val = n ∧ n + 1 = n') {e : Dev nD} {sem : Sem sig} {k' : ℕ} {α : Type} {Q : α → sProp 𝕄}
    {k : PUnit → Prog (TpuEff nD τ sig (Elt F) Λ₀ .tc) α} (he : e = peer i c) (hs : sem = barS) (hk : 1 = k') :
    ctx m K ⊢ iprop(Bar c n -∗ (Bar c n' -∗ WP c (k ⟨⟩) Q) -∗ WP c (.op (.semSignal (Dev.tc e : Thread nD τ) sem k') k) Q) := by
  obtain ⟨rfl, rfl⟩ := hn
  iintro #Hx H Hk
  iapply (step_signal m K c i he hs hk) $$ [H]
  · isplitl []; · iexact Hx
    iexact H
  iexact Hk

theorem bar_step (c : Dev nD) {sem : Sem sig} {k' : ℕ} {α : Type} {Q : α → sProp 𝕄} {k : PUnit → Prog (TpuEff nD τ sig (Elt F) Λ₀ .tc) α}
    (hs : sem = barS) (hk : 5 = k') :
    ctx m K ⊢ iprop(Bar c 5 -∗ atPos ER (barCell c) 0 ∅ 0 -∗ cred (tallyAt (barCell c) () 5)
      -∗ ((∃ W, owes (c : Thread nD τ) (Ow c 0) W) -∗ semVal (barCell c) 0 -∗ (bigSep Finset.univ fun t : X => t.dany (F := F) (t.tgt c)) -∗ WP c (k ⟨⟩) Q)
      -∗ WP c (.op (.semWait sem k') k) Q) := by
  iintro #Hx H1 H2 H3 Hk
  iapply (step_barrier m K c hs hk) $$ [H1 H2 H3]
  · isplitl []; · iexact Hx
    isplitl [H1]; · iexact H1
    isplitl [H2] <;> iassumption
  iintro ⟨H1, H2, H3⟩
  iapply Hk $$ H1 H2 H3

/-! ## The product -/

abbrev dyP (c : Dev nD) : sProp 𝕄 := ((c : Thread nD τ).loc cc0_stg0_0) ↦[Finset.univ]{fullShare} dyS m c
abbrev wP (c : Dev nD) : sProp 𝕄 := ((c : Thread nD τ).loc cc0_stg1_0) ↦[Finset.univ]{fullShare} wS m c
/-- The result buffer beyond the device's own 128 rows. -/
def restP (c : Dev nD) : sProp 𝕄 := iprop(∃ f, outP (F := F) c (Finset.univ \ (blkR (pf c)).set) fullShare f)

theorem dy_load (c : Dev nD) {off : Fin 2 → ℕ} {inb} {hl} (h : off = ![128 * (pf c).val, 0]) {α : Type} {Q : α → sProp 𝕄}
    {k : (S128x4096.Idx → Elt F .f32) → Prog (TpuEff nD τ sig (Elt F) Λ₀ .tc) α} :
    dyP m c ⊢ iprop((dyP m c -∗ WP c (k ((dyM.access (dyR (pf c))).read (Elt F) (dyS m c))) Q)
      -∗ WP c (.op (.load dyM (Rect.unit (s := S1024x4096) off S128x4096.size inb).toLoadRect hl) k) Q) := by
  subst h
  have hS : (dyM.access (Rect.unit (s := S1024x4096) ![128 * (pf c).val, 0] S128x4096.size inb)).set ⊆ (Finset.univ : Finset S1024x4096.Idx) := Finset.subset_univ _
  iintro H Hk
  iapply (wp_load_rect 𝒱₀ (c : Thread nD τ) none Set.univ (m := dyM) hS) $$ H
  iintro H
  iapply Hk $$ H
theorem w_load (c : Dev nD) {hl} {α : Type} {Q : α → sProp 𝕄} {k : (S1024x4096.Idx → Elt F .f32) → Prog (TpuEff nD τ sig (Elt F) Λ₀ .tc) α} :
    wP m c ⊢ iprop((wP m c -∗ WP c (k ((wM.access wR).read (Elt F) (wS m c))) Q) -∗ WP c (.op (.load wM wR.toLoadRect hl) k) Q) := by
  have hS : (wM.access wR).set ⊆ (Finset.univ : Finset S1024x4096.Idx) := Finset.subset_univ _
  iintro H Hk
  iapply (wp_load_rect 𝒱₀ (c : Thread nD τ) none Set.univ (m := wM) hS) $$ H
  iintro H
  iapply Hk $$ H

theorem blk_set (p : Fin 8) : (outM.access (blkR p)).set = (blkR p).set := by
  show ((View.whole cc0_stg2_0).slice _).set = _
  rw [View.set_slice_whole]
theorem read_blk (c : Dev nD) (j : S128x1024.Idx) : (outM.access (blkR (pf c))).read (Elt F) (OUT1 m c) j = PROD m c j := by
  show OUT1 m c ((blkR (pf c)).emb j) = _
  unfold OUT1
  have h0 : ((blkR (pf c)).emb j 0).val = 128 * (pf c).val + (j 0).val := emb_flat ![128 * (pf c).val, 0] (inb_blk (pf c)) j 0
  have h1 : ((blkR (pf c)).emb j 1).val = 0 + (j 1).val := emb_flat ![128 * (pf c).val, 0] (inb_blk (pf c)) j 1
  rw [h0, h1, show (pf c).val = pos c from rfl, Nat.add_sub_cancel_left, Nat.zero_add, prodN_idx]
theorem write_blk (c : Dev nD) (f : S1024x1024.Idx → Elt F .f32) (w : S128x1024.Idx → Elt F .f32) (hw : w = PROD m c) (i : S1024x1024.Idx) :
    (outM.access (blkR (pf c))).write (Elt F) f w Finset.univ i = if i ∈ (blkR (pf c)).set then OUT1 m c i else f i := by
  have h := write_eq (F := F) (outM.access (blkR (pf c))) f (OUT1 m c) w (fun j => (congrFun hw j).trans (read_blk m c j).symm) i
  rw [h, blk_set (pf c)]

theorem nb_ne {a b : ℕ} (h : a % 4 ≠ b % 4) (c : Dev nD) : nb 0 a c ≠ nb 0 b c := by
  intro e
  have := congrArg zc e
  rw [zc_nb, zc_nb] at this
  omega
theorem blk_rows (c : Dev nD) : (blkR (pf c)).set = (rowR (nb 0 0 c)).set ∪ ((rowR (nb 0 1 c)).set ∪ ((rowR (nb 0 2 c)).set ∪ (rowR (nb 0 3 c)).set)) := by
  ext i
  rw [Finset.mem_union, Finset.mem_union, Finset.mem_union, mem_blk, mem_row, mem_row, mem_row, mem_row]
  simp only [pos_nb, zc_nb]
  have h1 := zc_lt c; have h2 := pos_lt c
  rw [show (pf c).val = pos c from rfl]
  omega
theorem rd1 (c : Dev nD) : Disjoint (rowR (nb 0 0 c)).set ((rowR (nb 0 1 c)).set ∪ ((rowR (nb 0 2 c)).set ∪ (rowR (nb 0 3 c)).set)) := by
  rw [Finset.disjoint_union_right, Finset.disjoint_union_right]
  exact ⟨row_disj (nb_ne (by decide) c), row_disj (nb_ne (by decide) c), row_disj (nb_ne (by decide) c)⟩
theorem rd2 (c : Dev nD) : Disjoint (rowR (nb 0 1 c)).set ((rowR (nb 0 2 c)).set ∪ (rowR (nb 0 3 c)).set) := by
  rw [Finset.disjoint_union_right]
  exact ⟨row_disj (nb_ne (by decide) c), row_disj (nb_ne (by decide) c)⟩
theorem rd3 (c : Dev nD) : Disjoint (rowR (nb 0 2 c)).set (rowR (nb 0 3 c)).set := row_disj (nb_ne (by decide) c)

theorem blk_load (c : Dev nD) {off : Fin 2 → ℕ} {inb} {hl} {f} {α : Type} {Q : α → sProp 𝕄}
    {k : (S128x1024.Idx → Elt F .f32) → Prog (TpuEff nD τ sig (Elt F) Λ₀ .tc) α} :
    outP (F := F) c Finset.univ fullShare f ⊢ iprop((∀ v, outP (F := F) c Finset.univ fullShare f -∗ WP c (k v) Q)
      -∗ WP c (.op (.load outM (Rect.unit (s := S1024x1024) off S128x1024.size inb).toLoadRect hl) k) Q) := by
  have hS : (outM.access (Rect.unit (s := S1024x1024) off S128x1024.size inb)).set ⊆ (Finset.univ : Finset S1024x1024.Idx) := Finset.subset_univ _
  iintro H Hk
  iapply (wp_load_rect 𝒱₀ (c : Thread nD τ) none Set.univ (m := outM) hS) $$ H
  iintro H
  iapply Hk $$ %_ H

theorem blk_parts (c : Dev nD) (f : S1024x1024.Idx → Elt F .f32) (hf : ∀ i ∈ (blkR (pf c)).set, f i = OUT1 m c i) :
    outP c Finset.univ fullShare f
      ⊢ iprop((X.z 0).spts m c ∗ (X.z 1).spts m c ∗ (X.z 2).spts m c ∗ outP c (rowR c).set fullShare (OUT1 m c) ∗ restP c) := by
  have hu : (Finset.univ : Finset S1024x1024.Idx) = (blkR (pf c)).set ∪ (Finset.univ \ (blkR (pf c)).set) := (Finset.union_sdiff_of_subset (Finset.subset_univ _)).symm
  have hc : outP c (blkR (pf c)).set fullShare f = outP c (blkR (pf c)).set fullShare (OUT1 m c) := pointsTo_congr hf
  have h1 := cut (F := F) (ℓ := (c : Thread nD τ).loc cc0_stg2_0) (q := fullShare) (f := f) hu Finset.disjoint_sdiff
  have h2 := cut (F := F) (ℓ := (c : Thread nD τ).loc cc0_stg2_0) (q := fullShare) (f := OUT1 m c) (blk_rows c) (rd1 c)
  have h3 := cut (F := F) (ℓ := (c : Thread nD τ).loc cc0_stg2_0) (q := fullShare) (f := OUT1 m c) rfl (rd2 c)
  have h4 := cut (F := F) (ℓ := (c : Thread nD τ).loc cc0_stg2_0) (q := fullShare) (f := OUT1 m c) rfl (rd3 c)
  rw [h3, h4, nb_zero] at h2
  dsimp only [outP] at hc ⊢
  rw [h1, hc, h2]
  show _ ⊢ iprop(outP c (rowR (nb 0 1 c)).set fullShare (OUT1 m c) ∗ outP c (rowR (nb 0 2 c)).set fullShare (OUT1 m c) ∗ outP c (rowR (nb 0 3 c)).set fullShare (OUT1 m c)
    ∗ outP c (rowR c).set fullShare (OUT1 m c) ∗ restP c)
  iintro ⟨⟨H0, H1, H2, H3⟩, H4⟩
  isplitl [H1]; · iexact H1
  isplitl [H2]; · iexact H2
  isplitl [H3]; · iexact H3
  isplitl [H0]; · iexact H0
  unfold restP
  iexists f
  iexact H4

/-- Storing the product. -/
theorem blk_store (c : Dev nD) {off : Fin 2 → ℕ} {inb} {w : S128x1024.Idx → Elt F .f32} {hx hm} {f} (h : off = ![128 * (pf c).val, 0]) (hw : w = PROD m c)
    {α : Type} {Q : α → sProp 𝕄} {k : PUnit → Prog (TpuEff nD τ sig (Elt F) Λ₀ .tc) α} :
    outP (F := F) c Finset.univ fullShare f ⊢ iprop(((X.z 0).spts m c -∗ (X.z 1).spts m c -∗ (X.z 2).spts m c -∗ outP c (rowR c).set fullShare (OUT1 m c) -∗ restP c -∗ WP c (k ⟨⟩) Q)
      -∗ WP c (.op (.store outM (Rect.unit (s := S1024x1024) off S128x1024.size inb) w Finset.univ hx hm) k) Q) := by
  subst h hw
  have hS : (outM.access (blkR (pf c))).setOn Finset.univ ⊆ (Finset.univ : Finset S1024x1024.Idx) :=
    Finset.subset_univ _
  iintro Ho Hk
  iapply (wp_store 𝒱₀ (c : Thread nD τ) none Set.univ (m := outM) hS) $$ Ho
  iintro Ho
  ihave ⟨H0, H1, H2, H3, H4⟩ := (blk_parts m c _ (fun i hi => (write_blk m c f _ rfl i).trans (if_pos hi))) $$ Ho
  iapply Hk $$ H0 H1 H2 H3 H4

/-- The three parts of the product back, the rest of the result can be filled in. -/
theorem out_base (c : Dev nD) : iprop((X.z 0).spts m c ∗ (X.z 1).spts m c ∗ (X.z 2).spts m c ∗ restP c) ⊢ OutR m c 0 := by
  have hs : offR c = ((rowR (nb 0 1 c)).set ∪ ((rowR (nb 0 2 c)).set ∪ (rowR (nb 0 3 c)).set)) ∪ (Finset.univ \ (blkR (pf c)).set) := by
    have e := blk_rows c
    have d := rd1 c
    rw [nb_zero] at e d
    unfold offR
    rw [e]
    ext i
    have h : i ∈ (rowR c).set → i ∉ (rowR (nb 0 1 c)).set ∪ ((rowR (nb 0 2 c)).set ∪ (rowR (nb 0 3 c)).set) := fun h => Finset.disjoint_left.mp d h
    simp only [Finset.mem_union, Finset.mem_sdiff, Finset.mem_univ, true_and] at h ⊢
    tauto
  have hd : Disjoint ((rowR (nb 0 1 c)).set ∪ ((rowR (nb 0 2 c)).set ∪ (rowR (nb 0 3 c)).set)) (Finset.univ \ (blkR (pf c)).set) := by
    refine Finset.disjoint_sdiff.mono_left ?_
    rw [blk_rows c]
    exact Finset.subset_union_right
  have g1 := glue (F := F) (ℓ := (c : Thread nD τ).loc cc0_stg2_0) (q := fullShare) hs hd
  have h2 := cut (F := F) (ℓ := (c : Thread nD τ).loc cc0_stg2_0) (q := fullShare) (f := OUT1 m c) rfl (rd2 c)
  have h3 := cut (F := F) (ℓ := (c : Thread nD τ).loc cc0_stg2_0) (q := fullShare) (f := OUT1 m c) rfl (rd3 c)
  show iprop(outP c (rowR (nb 0 1 c)).set fullShare (OUT1 m c) ∗ outP c (rowR (nb 0 2 c)).set fullShare (OUT1 m c) ∗ outP c (rowR (nb 0 3 c)).set fullShare (OUT1 m c)
    ∗ restP c) ⊢ _
  unfold restP OutR
  iintro ⟨H1, H2, H3, H4⟩
  ihave ⟨%f, H⟩ := g1 $$ [H1 H2 H3 H4]
  · isplitl [H1 H2 H3]
    · iexists (OUT1 m c)
      rw [h2, h3]
      isplitl [H1]; · iexact H1
      isplitl [H2] <;> iassumption
    iexact H4
  iexists f
  isplitr; · ipureintro; intro k hk; exact absurd hk (Nat.not_lt_zero k)
  iexact H

/-! ## The reduction -/

theorem own_load (c : Dev nD) {off : Fin 2 → ℕ} {inb} {hl} {f} (h : off = rowO c) {α : Type} {Q : α → sProp 𝕄}
    {k : (S32x1024.Idx → Elt F .f32) → Prog (TpuEff nD τ sig (Elt F) Λ₀ .tc) α} :
    outP (F := F) c (rowR c).set fullShare f ⊢ iprop((outP (F := F) c (rowR c).set fullShare f -∗ WP c (k ((outM.access (rowR c)).read (Elt F) f)) Q)
      -∗ WP c (.op (.load outM (Rect.unit (s := S1024x1024) off S32x1024.size inb).toLoadRect hl) k) Q) := by
  subst h
  have hS : (outM.access (Rect.unit (s := S1024x1024) (rowO c) S32x1024.size inb)).set ⊆ (rowR c).set := (acc_set rfl).subset
  iintro H Hk
  iapply (wp_load_rect 𝒱₀ (c : Thread nD τ) none Set.univ (m := outM) hS) $$ H
  iintro H
  iapply Hk $$ H

theorem z_load (c : Dev nD) (k : Fin 3) {off : Fin 3 → ℕ} {inb} {hl} (h : off = ![k.val, 0, 0]) {α : Type} {Q : α → sProp 𝕄}
    {kk : (S1x32x1024.Idx → Elt F .f32) → Prog (TpuEff nD τ sig (Elt F) Λ₀ .tc) α} :
    zP c (slR k).set fullShare (ZC m c) ⊢ iprop((zP c (slR k).set fullShare (ZC m c) -∗ WP c (kk ((zM.access (slR k)).read (Elt F) (ZC m c))) Q)
      -∗ WP c (.op (.load zM (Rect.unit (s := S3x32x1024) off S1x32x1024.size inb).toLoadRect hl) kk) Q) := by
  subst h
  have hS : (zM.access (Rect.unit (s := S3x32x1024) ![k.val, 0, 0] S1x32x1024.size inb)).set ⊆ (slR k).set := by
    show ((View.whole cc0_scratch0).slice _).set ⊆ _
    rw [View.set_slice_whole]
  iintro H Hk
  iapply (wp_load_rect 𝒱₀ (c : Thread nD τ) none Set.univ (m := zM) hS) $$ H
  iintro H
  iapply Hk $$ H

theorem own_store (c : Dev nD) {off : Fin 2 → ℕ} {inb} {w : S32x1024.Idx → Elt F .f32} {hx hm} {f} (h : off = rowO c) (hw : w = RED m c)
    {α : Type} {Q : α → sProp 𝕄} {k : PUnit → Prog (TpuEff nD τ sig (Elt F) Λ₀ .tc) α} :
    outP (F := F) c (rowR c).set fullShare f ⊢ iprop(((X.w false 0).spts m c -∗ (X.w true 0).spts m c -∗ (X.g 0).spts m c -∗ (X.g 1).spts m c -∗ (X.g 2).spts m c -∗ WP c (k ⟨⟩) Q)
      -∗ WP c (.op (.store outM (Rect.unit (s := S1024x1024) off S32x1024.size inb) w Finset.univ hx hm) k) Q) := by
  subst h hw
  have hS : (outM.access (Rect.unit (s := S1024x1024) (rowO c) S32x1024.size inb)).setOn Finset.univ ⊆ (rowR c).set := by
    rw [View.setOn_univ]; exact (acc_set rfl).subset
  have hc : outP c (rowR c).set fullShare ((outM.access (Rect.unit (s := S1024x1024) (rowO c) S32x1024.size inb)).write (Elt F) f (RED m c) Finset.univ)
      = outP c (rowR c).set fullShare (FIN m) :=
    pointsTo_congr fun i hi => (write_row m inb f (RED m c) (fun j => (redN_idx m c j).symm) i).trans (if_pos hi)
  iintro Ho Hk
  iapply (wp_store 𝒱₀ (c : Thread nD τ) none Set.univ (m := outM) hS) $$ Ho
  iintro Ho
  ihave Ho := (Entails.of_eq hc) $$ Ho
  ihave ⟨H0, H1, H2, H3, H4⟩ := (own_split m c) $$ Ho
  iapply Hk $$ H0 H1 H2 H3 H4

end Cert.Ring

end
-- ==== Proof.PartsA.lean ====
/-
The body's parts, one rule each: signals, product, reduce-scatter among the layers, and the start of the gathers.
-/
module

public import proofs.«01_k».proof.Proof.Begin

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Option (X × Bool) → ℕ)

set_option backward.proofsInPublic true

theorem part1 (c : Dev nD)  {α : Type} {Q : α → sProp 𝕄}
    {k : (Σ' (d0 : Dev nD) (v2 : BitVec 32) (v5 : BitVec 32) (v8 : BitVec 32) (v11 : BitVec 32) (v12 : BitVec 32) (v25 : BitVec 32) (v28 : BitVec 32) (v31 : BitVec 32) (v32 : BitVec 32), BitVec 32) → Prog (TpuEff nD τ sig (Elt F) Λ₀ .tc) α} :
    ctx m K ⊢ iprop(
      (∀ (r1 : BitVec 32) (r2 : BitVec 32) (r3 : BitVec 32) (r4 : BitVec 32) (r5 : BitVec 32) (r6 : BitVec 32) (r7 : BitVec 32) (r8 : BitVec 32) (r9 : BitVec 32) (r10 : BitVec 32), WP c (k ⟨c, r1, r2, r3, r4, r5, r6, r7, r8, r9, r10⟩) Q)
      -∗ WP c (k0_part1 (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) cc0_scratch1 cc0_scratch2 (Memref.whole cc0_scratch3) (Memref.isWhole_whole _) cc0_scratch4 cc0_scratch5
      (Memref.whole cc0_scratch6) (Memref.isWhole_whole _) cc0_scratch7 cc0_scratch8 cc0_scratch9 cc0_scratch10 (Memref.whole cc0_scratch11) (Memref.isWhole_whole _)
      cc0_scratch12 cc0_scratch13 cc0_scratch14 cc0_scratch15  >>= k) Q) := by
  rw [k0_part1_eq_skeleton]; unfold k0_part1_skel
  simp only [semSignalWord, semWaitWord, Prog.lift, Prog.bind_op, Prog.bind_ret, Prog.pure_eq_ret, wp_deviceId]
  iintro #Hx Hk
  iapply Hk $$ %_ %_ %_ %_ %_ %_ %_ %_ %_ %_

theorem part2 (c : Dev nD) (v2 v5 v8 v31 v32 c0_i32_17 : BitVec 32)  {α : Type} {Q : α → sProp 𝕄}
    {k : (Σ' (v41 : BitVec 32) (v44 : BitVec 32) (v45 : Sems sig S_) (v65 : BitVec 32) (v66 : BitVec 32), BitVec 1) → Prog (TpuEff nD τ sig (Elt F) Λ₀ .tc) α} :
    ctx m K ⊢ iprop(Bar c 0 -∗
      (∀ (r0 : BitVec 32) (r1 : BitVec 32) (r3 : BitVec 32) (r4 : BitVec 32) (r5 : BitVec 1), Bar c 1 -∗ WP c (k ⟨r0, r1, (SemArray.scalar (sig.barrier 0 rfl)), r3, r4, r5⟩) Q)
      -∗ WP c (k0_part2 (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) cc0_scratch1 cc0_scratch2 (Memref.whole cc0_scratch3) (Memref.isWhole_whole _) cc0_scratch4 cc0_scratch5
      (Memref.whole cc0_scratch6) (Memref.isWhole_whole _) cc0_scratch7 cc0_scratch8 cc0_scratch9 cc0_scratch10 (Memref.whole cc0_scratch11) (Memref.isWhole_whole _)
      cc0_scratch12 cc0_scratch13 cc0_scratch14 cc0_scratch15 c v2 v5 v8 v31 v32 c0_i32_17 >>= k) Q) := by
  rw [k0_part2_eq_skeleton]; unfold k0_part2_skel
  simp only [semSignalWord, semWaitWord, Prog.lift, Prog.bind_op, Prog.bind_ret, Prog.pure_eq_ret, wp_deviceId]
  iintro #Hx HB Hk
  iapply (sig_step m K c 0 0 1 (by decide) (dev1 c) rfl rfl) $$ Hx HB
  iintro HB
  iapply Hk $$ %_ %_ %_ %_ %_ HB

theorem part3 (c : Dev nD) (v2 v5 v8 v25 v28 v65 v66 : BitVec 32) (v67 : BitVec 1)  {α : Type} {Q : α → sProp 𝕄}
    {k : (Σ' (v100 : BitVec 32), BitVec 32) → Prog (TpuEff nD τ sig (Elt F) Λ₀ .tc) α} :
    ctx m K ⊢ iprop(Bar c 1 -∗
      (∀ (r0 : BitVec 32) (r1 : BitVec 32), Bar c 3 -∗ WP c (k ⟨r0, r1⟩) Q)
      -∗ WP c (k0_part3 (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) cc0_scratch1 cc0_scratch2 (Memref.whole cc0_scratch3) (Memref.isWhole_whole _) cc0_scratch4 cc0_scratch5
      (Memref.whole cc0_scratch6) (Memref.isWhole_whole _) cc0_scratch7 cc0_scratch8 cc0_scratch9 cc0_scratch10 (Memref.whole cc0_scratch11) (Memref.isWhole_whole _)
      cc0_scratch12 cc0_scratch13 cc0_scratch14 cc0_scratch15 c v2 v5 v8 v25 v28 (SemArray.scalar (sig.barrier 0 rfl)) v65 v66 v67 >>= k) Q) := by
  rw [k0_part3_eq_skeleton]; unfold k0_part3_skel
  simp only [semSignalWord, semWaitWord, Prog.lift, Prog.bind_op, Prog.bind_ret, Prog.pure_eq_ret, wp_deviceId]
  iintro #Hx HB Hk
  iapply (sig_step m K c 1 1 2 (by decide) (dev2 c) rfl rfl) $$ Hx HB
  iintro HB
  iapply (sig_step m K c 2 2 3 (by decide) (dev3 c) rfl rfl) $$ Hx HB
  iintro HB
  iapply Hk $$ %_ %_ HB

theorem part4 (c : Dev nD) (v8 v12 v41 v44 v100 v101 : BitVec 32)  {f} {α : Type} {Q : α → sProp 𝕄}
    {k : (Σ' (v127 : BitVec 32) (v131 : BitVec 32) (v132 : BitVec 32), BitVec 1) → Prog (TpuEff nD τ sig (Elt F) Λ₀ .tc) α} :
    ctx m K ⊢ iprop(Bar c 3 -∗ atPos ER (barCell c) 0 ∅ 0 -∗ cred (tallyAt (barCell c) () 5) -∗ dyP m c -∗ wP m c -∗ outP c Finset.univ fullShare f -∗
      (∀ (r0 : BitVec 32) (r1 : BitVec 32) (r2 : BitVec 32) (r3 : BitVec 1), (∃ W, owes (c : Thread nD τ) (Ow c 0) W) -∗ semVal (barCell c) 0 -∗ (bigSep Finset.univ fun t : X => t.dany (F := F) (t.tgt c)) -∗ dyP m c -∗ wP m c -∗ (X.z 0).spts m c -∗ (X.z 1).spts m c -∗ (X.z 2).spts m c -∗ outP c (rowR c).set fullShare (OUT1 m c) -∗ restP c -∗ WP c (k ⟨r0, r1, r2, r3⟩) Q)
      -∗ WP c (k0_part4 (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) cc0_scratch1 cc0_scratch2 (Memref.whole cc0_scratch3) (Memref.isWhole_whole _) cc0_scratch4 cc0_scratch5
      (Memref.whole cc0_scratch6) (Memref.isWhole_whole _) cc0_scratch7 cc0_scratch8 cc0_scratch9 cc0_scratch10 (Memref.whole cc0_scratch11) (Memref.isWhole_whole _)
      cc0_scratch12 cc0_scratch13 cc0_scratch14 cc0_scratch15 c v8 v12 v41 v44 (SemArray.scalar (sig.barrier 0 rfl)) v100 v101 >>= k) Q) := by
  rw [k0_part4_eq_skeleton]; unfold k0_part4_skel
  simp only [semSignalWord, semWaitWord, Prog.lift, Prog.bind_op, Prog.bind_ret, Prog.pure_eq_ret, wp_deviceId]
  iintro #Hx HB HAt HCr HDy HW HOut Hk
  iapply (sig_step m K c 3 3 4 (by decide) (dev4 c) rfl rfl) $$ Hx HB
  iintro HB
  iapply (sig_step m K c 4 4 5 (by decide) (dev5 c) rfl rfl) $$ Hx HB
  iintro HB
  iapply (bar_step m K c rfl rfl) $$ Hx HB HAt HCr
  iintro HOw HSv HAny
  iapply (dy_load m c (off1 c)) $$ HDy
  iintro HDy
  iapply (w_load m c) $$ HW
  iintro HW
  iapply (blk_load c) $$ HOut
  iintro %_ HOut
  iapply (blk_store m c (off2 c) rfl) $$ HOut
  iintro HSz0 HSz1 HSz2 HOwn HRest
  iapply Hk $$ %_ %_ %_ %_ HOw HSv HAny HDy HW HSz0 HSz1 HSz2 HOwn HRest

theorem part5 (c : Dev nD) (v2 v5 v8 v12 v127 v131 v132 : BitVec 32) (v133 : BitVec 1)  {α : Type} {Q : α → sProp 𝕄}
    {k : (Σ' (v165 : BitVec 32) (v169 : BitVec 32), BitVec 32) → Prog (TpuEff nD τ sig (Elt F) Λ₀ .tc) α} :
    ctx m K ⊢ iprop(Run m c 0 0 -∗ (X.z 0).spts m c -∗
      (∀ (r0 : BitVec 32) (r1 : BitVec 32) (r2 : BitVec 32), Run m c 1 0 -∗ WP c (k ⟨r0, r1, r2⟩) Q)
      -∗ WP c (k0_part5 (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) cc0_scratch1 cc0_scratch2 (Memref.whole cc0_scratch3) (Memref.isWhole_whole _) cc0_scratch4 cc0_scratch5
      (Memref.whole cc0_scratch6) (Memref.isWhole_whole _) cc0_scratch7 cc0_scratch8 cc0_scratch9 cc0_scratch10 (Memref.whole cc0_scratch11) (Memref.isWhole_whole _)
      cc0_scratch12 cc0_scratch13 cc0_scratch14 cc0_scratch15 c v2 v5 v8 v12 v127 v131 v132 v133 >>= k) Q) := by
  rw [k0_part5_eq_skeleton]; unfold k0_part5_skel
  simp only [semSignalWord, semWaitWord, Prog.lift, Prog.bind_op, Prog.bind_ret, Prog.pure_eq_ret, wp_deviceId]
  iintro #Hx HR HSz0 Hk
  iapply (snd_step m K (.z 0) c 0 1 0 (by decide) (dev6 c) (slice_row (off5 c 0)) (slice_sq zM (off4 c 0)) rfl (sem3 cc0_scratch2 (inb_S3_S1_2) (off3 c 0))) $$ Hx HR HSz0
  iintro HR
  iapply Hk $$ %_ %_ %_ HR

theorem part6 (c : Dev nD) (v2 v5 v8 v12 v165 v169 v170 : BitVec 32)  {α : Type} {Q : α → sProp 𝕄}
    {k : (Σ' (v203 : BitVec 32) (v205 : BitVec 32) (c4_i32_126 : BitVec 32) (v206 : BitVec 1), BitVec 32) → Prog (TpuEff nD τ sig (Elt F) Λ₀ .tc) α} :
    ctx m K ⊢ iprop(Run m c 1 0 -∗ (X.z 1).spts m c -∗
      (∀ (r0 : BitVec 32) (r1 : BitVec 32) (r2 : BitVec 32) (r3 : BitVec 1) (r4 : BitVec 32), Run m c 2 0 -∗ WP c (k ⟨r0, r1, r2, r3, r4⟩) Q)
      -∗ WP c (k0_part6 (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) cc0_scratch1 cc0_scratch2 (Memref.whole cc0_scratch3) (Memref.isWhole_whole _) cc0_scratch4 cc0_scratch5
      (Memref.whole cc0_scratch6) (Memref.isWhole_whole _) cc0_scratch7 cc0_scratch8 cc0_scratch9 cc0_scratch10 (Memref.whole cc0_scratch11) (Memref.isWhole_whole _)
      cc0_scratch12 cc0_scratch13 cc0_scratch14 cc0_scratch15 c v2 v5 v8 v12 v165 v169 v170 >>= k) Q) := by
  rw [k0_part6_eq_skeleton]; unfold k0_part6_skel
  simp only [semSignalWord, semWaitWord, Prog.lift, Prog.bind_op, Prog.bind_ret, Prog.pure_eq_ret, wp_deviceId]
  iintro #Hx HR HSz1 Hk
  iapply (snd_step m K (.z 1) c 1 2 0 (by decide) (dev7 c) (slice_row (off5 c 1)) (slice_sq zM (off4 c 1)) rfl (sem3 cc0_scratch2 (inb_S3_S1_1) (off3 c 1))) $$ Hx HR HSz1
  iintro HR
  iapply Hk $$ %_ %_ %_ %_ %_ HR

theorem part7 (c : Dev nD) (v2 v5 v12 v127 v203 v205 c4_i32_126 : BitVec 32) (v206 : BitVec 1) (c1_i32_128 : BitVec 32)  {α : Type} {Q : α → sProp 𝕄}
    {k : (BitVec 32) → Prog (TpuEff nD τ sig (Elt F) Λ₀ .tc) α} :
    ctx m K ⊢ iprop(Run m c 2 0 -∗ (X.z 2).spts m c -∗
      (∀ (r0 : BitVec 32), Run m c 3 1 -∗ (X.z 0).dpts m c -∗ WP c (k r0) Q)
      -∗ WP c (k0_part7 (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) cc0_scratch1 cc0_scratch2 (Memref.whole cc0_scratch3) (Memref.isWhole_whole _) cc0_scratch4 cc0_scratch5
      (Memref.whole cc0_scratch6) (Memref.isWhole_whole _) cc0_scratch7 cc0_scratch8 cc0_scratch9 cc0_scratch10 (Memref.whole cc0_scratch11) (Memref.isWhole_whole _)
      cc0_scratch12 cc0_scratch13 cc0_scratch14 cc0_scratch15 c v2 v5 v12 v127 v203 v205 c4_i32_126 v206 c1_i32_128 >>= k) Q) := by
  rw [k0_part7_eq_skeleton]; unfold k0_part7_skel
  simp only [semSignalWord, semWaitWord, Prog.lift, Prog.bind_op, Prog.bind_ret, Prog.pure_eq_ret, wp_deviceId]
  iintro #Hx HR HSz2 Hk
  iapply (snd_step m K (.z 2) c 2 3 0 (by decide) (dev8 c) (slice_row (off5 c 2)) (slice_sq zM (off4 c 2)) rfl (sem3 cc0_scratch2 (inb_S3_S1_0) (off3 c 2))) $$ Hx HR HSz2
  iintro HR
  iapply (wt_in m K (.z 0) c 3 0 1 (by decide) rfl (sem3 cc0_scratch2 (inb_S3_S1_2) (off3 c 0))) $$ Hx HR
  iintro HR HDz0
  iapply Hk $$ %_ HR HDz0

theorem part8 (c : Dev nD) (v2 v5 v8 v12 v165 v203 v242 : BitVec 32)  {α : Type} {Q : α → sProp 𝕄}
    {k : (Σ' (v265 : BitVec 32) (v268 : FVec F S32x1024 .f32) (v273 : FVec F S32x1024 .f32), FVec F S32x1024 .f32) → Prog (TpuEff nD τ sig (Elt F) Λ₀ .tc) α} :
    ctx m K ⊢ iprop(Run m c 3 1 -∗ outP c (rowR c).set fullShare (OUT1 m c) -∗ (X.z 0).dpts m c -∗
      (∀ (r0 : BitVec 32) (r1 : FVec F S32x1024 .f32) (r2 : FVec F S32x1024 .f32) (r3 : FVec F S32x1024 .f32), ⌜k0_pay5 r1 r2 r3 = RED m c⌝ -∗ Run m c 3 3 -∗ outP c (rowR c).set fullShare (OUT1 m c) -∗ zP c (slR 0).set fullShare (ZC m c) -∗ zP c (slR 1).set fullShare (ZC m c) -∗ zP c (slR 2).set fullShare (ZC m c) -∗ WP c (k ⟨r0, r1, r2, r3⟩) Q)
      -∗ WP c (k0_part8 (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) cc0_scratch1 cc0_scratch2 (Memref.whole cc0_scratch3) (Memref.isWhole_whole _) cc0_scratch4 cc0_scratch5
      (Memref.whole cc0_scratch6) (Memref.isWhole_whole _) cc0_scratch7 cc0_scratch8 cc0_scratch9 cc0_scratch10 (Memref.whole cc0_scratch11) (Memref.isWhole_whole _)
      cc0_scratch12 cc0_scratch13 cc0_scratch14 cc0_scratch15 c v2 v5 v8 v12 v165 v203 v242 >>= k) Q) := by
  rw [k0_part8_eq_skeleton]; unfold k0_part8_skel
  simp only [semSignalWord, semWaitWord, Prog.lift, Prog.bind_op, Prog.bind_ret, Prog.pure_eq_ret, wp_deviceId]
  iintro #Hx HR HOwn HDz0 Hk
  iapply (wt_in m K (.z 1) c 3 1 2 (by decide) rfl (sem3 cc0_scratch2 (inb_S3_S1_1) (off3 c 1))) $$ Hx HR
  iintro HR HDz1
  iapply (wt_in m K (.z 2) c 3 2 3 (by decide) rfl (sem3 cc0_scratch2 (inb_S3_S1_0) (off3 c 2))) $$ Hx HR
  iintro HR HDz2
  iapply (own_load c (off6 c)) $$ HOwn
  iintro HOwn
  ihave HZ0 := (zslot0 m c) $$ HDz2
  iapply (z_load m c 0 rfl) $$ HZ0
  iintro HZ0
  ihave HZ1 := (zslot1 m c) $$ HDz1
  iapply (z_load m c 1 rfl) $$ HZ1
  iintro HZ1
  ihave HZ2 := (zslot2 m c) $$ HDz0
  iapply (z_load m c 2 rfl) $$ HZ2
  iintro HZ2
  iapply Hk $$ %_ %_ %_ %_ %rfl HR HOwn HZ0 HZ1 HZ2

theorem part9 (c : Dev nD) (v8 v12 v25 v28 v41 v44 v265 : BitVec 32) (v268 v273 v275 : FVec F S32x1024 .f32) (hred : k0_pay5 v268 v273 v275 = RED m c) {α : Type} {Q : α → sProp 𝕄}
    {k : (Σ' (v308 : BitVec 32), BitVec 32) → Prog (TpuEff nD τ sig (Elt F) Λ₀ .tc) α} :
    ctx m K ⊢ iprop(Run m c 3 3 -∗ outP c (rowR c).set fullShare (OUT1 m c) -∗
      (∀ (r0 : BitVec 32) (r1 : BitVec 32), Run m c 5 3 -∗ (X.g 0).spts m c -∗ (X.g 1).spts m c -∗ (X.g 2).spts m c -∗ WP c (k ⟨r0, r1⟩) Q)
      -∗ WP c (k0_part9 (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) cc0_scratch1 cc0_scratch2 (Memref.whole cc0_scratch3) (Memref.isWhole_whole _) cc0_scratch4 cc0_scratch5
      (Memref.whole cc0_scratch6) (Memref.isWhole_whole _) cc0_scratch7 cc0_scratch8 cc0_scratch9 cc0_scratch10 (Memref.whole cc0_scratch11) (Memref.isWhole_whole _)
      cc0_scratch12 cc0_scratch13 cc0_scratch14 cc0_scratch15 c v8 v12 v25 v28 v41 v44 v265 v268 v273 v275 >>= k) Q) := by
  rw [k0_part9_eq_skeleton]; unfold k0_part9_skel
  simp only [semSignalWord, semWaitWord, Prog.lift, Prog.bind_op, Prog.bind_ret, Prog.pure_eq_ret, wp_deviceId]
  iintro #Hx HR HOwn Hk
  iapply (own_load c (off6 c)) $$ HOwn
  iintro HOwn
  iapply (own_store m c (off6 c) hred) $$ HOwn
  iintro HSwF0 HSwT0 HSg0 HSg1 HSg2
  iapply (snd_step m K (.w false 0) c 3 4 3 (by decide) (dev9 c) (slice_row (off7 c)) rfl rfl rfl) $$ Hx HR HSwF0
  iintro HR
  iapply (snd_step m K (.w true 0) c 4 5 3 (by decide) (dev10 c) (slice_row (off7 c)) rfl rfl rfl) $$ Hx HR HSwT0
  iintro HR
  iapply Hk $$ %_ %_ HR HSg0 HSg1 HSg2

theorem part10 (c : Dev nD) (v2 v5 v8 v12 v308 c4_i32_197 : BitVec 32)  {α : Type} {Q : α → sProp 𝕄}
    {k : (BitVec 32) → Prog (TpuEff nD τ sig (Elt F) Λ₀ .tc) α} :
    ctx m K ⊢ iprop(Run m c 5 3 -∗ (X.g 0).spts m c -∗
      (∀ (r0 : BitVec 32), Run m c 6 3 -∗ WP c (k r0) Q)
      -∗ WP c (k0_part10 (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) cc0_scratch1 cc0_scratch2 (Memref.whole cc0_scratch3) (Memref.isWhole_whole _) cc0_scratch4 cc0_scratch5
      (Memref.whole cc0_scratch6) (Memref.isWhole_whole _) cc0_scratch7 cc0_scratch8 cc0_scratch9 cc0_scratch10 (Memref.whole cc0_scratch11) (Memref.isWhole_whole _)
      cc0_scratch12 cc0_scratch13 cc0_scratch14 cc0_scratch15 c v2 v5 v8 v12 v308 c4_i32_197 >>= k) Q) := by
  rw [k0_part10_eq_skeleton]; unfold k0_part10_skel
  simp only [semSignalWord, semWaitWord, Prog.lift, Prog.bind_op, Prog.bind_ret, Prog.pure_eq_ret, wp_deviceId]
  iintro #Hx HR HSg0 Hk
  iapply (snd_step m K (.g 0) c 5 6 3 (by decide) (dev11 c) (slice_row (off7 c)) (slice_sq gM (off4 c 0)) rfl (sem3 cc0_scratch5 (inb_S3_S1_2) (off3 c 0))) $$ Hx HR HSg0
  iintro HR
  iapply Hk $$ %_ HR

theorem part11 (c : Dev nD) (v2 v5 v8 v12 c2_i32_219 : BitVec 32)  {α : Type} {Q : α → sProp 𝕄}
    {k : (PUnit) → Prog (TpuEff nD τ sig (Elt F) Λ₀ .tc) α} :
    ctx m K ⊢ iprop(
      (WP c (k ⟨⟩) Q)
      -∗ WP c (k0_part11 (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) cc0_scratch1 cc0_scratch2 (Memref.whole cc0_scratch3) (Memref.isWhole_whole _) cc0_scratch4 cc0_scratch5
      (Memref.whole cc0_scratch6) (Memref.isWhole_whole _) cc0_scratch7 cc0_scratch8 cc0_scratch9 cc0_scratch10 (Memref.whole cc0_scratch11) (Memref.isWhole_whole _)
      cc0_scratch12 cc0_scratch13 cc0_scratch14 cc0_scratch15 c v2 v5 v8 v12 c2_i32_219 >>= k) Q) := by
  rw [k0_part11_eq_skeleton]; unfold k0_part11_skel
  simp only [semSignalWord, semWaitWord, Prog.lift, Prog.bind_op, Prog.bind_ret, Prog.pure_eq_ret, wp_deviceId]
  iintro #Hx Hk
  iapply Hk

theorem part12 (c : Dev nD) (v2 v5 v8 v12 : BitVec 32)  {α : Type} {Q : α → sProp 𝕄}
    {k : (PUnit) → Prog (TpuEff nD τ sig (Elt F) Λ₀ .tc) α} :
    ctx m K ⊢ iprop(Run m c 6 3 -∗ (X.g 1).spts m c -∗
      (Run m c 7 3 -∗ WP c (k ⟨⟩) Q)
      -∗ WP c (k0_part12 (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) cc0_scratch1 cc0_scratch2 (Memref.whole cc0_scratch3) (Memref.isWhole_whole _) cc0_scratch4 cc0_scratch5
      (Memref.whole cc0_scratch6) (Memref.isWhole_whole _) cc0_scratch7 cc0_scratch8 cc0_scratch9 cc0_scratch10 (Memref.whole cc0_scratch11) (Memref.isWhole_whole _)
      cc0_scratch12 cc0_scratch13 cc0_scratch14 cc0_scratch15 c v2 v5 v8 v12 >>= k) Q) := by
  rw [k0_part12_eq_skeleton]; unfold k0_part12_skel
  simp only [semSignalWord, semWaitWord, Prog.lift, Prog.bind_op, Prog.bind_ret, Prog.pure_eq_ret, wp_deviceId]
  iintro #Hx HR HSg1 Hk
  iapply (snd_step m K (.g 1) c 6 7 3 (by decide) (dev12 c) (slice_row (off7 c)) (slice_sq gM (off4 c 1)) rfl (sem3 cc0_scratch5 (inb_S3_S1_1) (off3 c 1))) $$ Hx HR HSg1
  iintro HR
  iapply Hk $$ HR

theorem part13 (c : Dev nD) (v2 v5 v8 v12 : BitVec 32)  {α : Type} {Q : α → sProp 𝕄}
    {k : (PUnit) → Prog (TpuEff nD τ sig (Elt F) Λ₀ .tc) α} :
    ctx m K ⊢ iprop(Run m c 7 3 -∗ (X.g 2).spts m c -∗
      (Run m c 8 6 -∗ (X.z 0).spts m c -∗ (X.z 1).spts m c -∗ (X.z 2).spts m c -∗ WP c (k ⟨⟩) Q)
      -∗ WP c (k0_part13 (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) cc0_scratch1 cc0_scratch2 (Memref.whole cc0_scratch3) (Memref.isWhole_whole _) cc0_scratch4 cc0_scratch5
      (Memref.whole cc0_scratch6) (Memref.isWhole_whole _) cc0_scratch7 cc0_scratch8 cc0_scratch9 cc0_scratch10 (Memref.whole cc0_scratch11) (Memref.isWhole_whole _)
      cc0_scratch12 cc0_scratch13 cc0_scratch14 cc0_scratch15 c v2 v5 v8 v12 >>= k) Q) := by
  rw [k0_part13_eq_skeleton]; unfold k0_part13_skel
  simp only [semSignalWord, semWaitWord, Prog.lift, Prog.bind_op, Prog.bind_ret, Prog.pure_eq_ret, wp_deviceId]
  iintro #Hx HR HSg2 Hk
  iapply (snd_step m K (.g 2) c 7 8 3 (by decide) (dev13 c) (slice_row (off7 c)) (slice_sq gM (off4 c 2)) rfl (sem3 cc0_scratch5 (inb_S3_S1_0) (off3 c 2))) $$ Hx HR HSg2
  iintro HR
  iapply (wt_z m K 0 c 8 3 4 (by decide) rfl rfl) $$ Hx HR
  iintro HR HSz0
  iapply (wt_z m K 1 c 8 4 5 (by decide) rfl rfl) $$ Hx HR
  iintro HR HSz1
  iapply (wt_z m K 2 c 8 5 6 (by decide) rfl rfl) $$ Hx HR
  iintro HR HSz2
  iapply Hk $$ HR HSz0 HSz1 HSz2

end Cert.Ring

end
-- ==== Proof.PartsB.lean ====
/-
The body's parts, one rule each: gathering among the layers, and the first hop of the rings.
-/
module

public import proofs.«01_k».proof.Proof.Begin

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Option (X × Bool) → ℕ)

set_option backward.proofsInPublic true

theorem part14 (c : Dev nD) (v8 v25 v28 v41 v44 : BitVec 32)  {α : Type} {Q : α → sProp 𝕄}
    {k : (Σ' (v478 : BitVec 32) (c4_i32_316 : BitVec 32), BitVec 1) → Prog (TpuEff nD τ sig (Elt F) Λ₀ .tc) α} :
    ctx m K ⊢ iprop(Run m c 8 6 -∗
      (∀ (r0 : BitVec 32) (r1 : BitVec 32) (r2 : BitVec 1), Run m c 10 7 -∗ gk m c 0 -∗ WP c (k ⟨r0, r1, r2⟩) Q)
      -∗ WP c (k0_part14 (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) cc0_scratch1 cc0_scratch2 (Memref.whole cc0_scratch3) (Memref.isWhole_whole _) cc0_scratch4 cc0_scratch5
      (Memref.whole cc0_scratch6) (Memref.isWhole_whole _) cc0_scratch7 cc0_scratch8 cc0_scratch9 cc0_scratch10 (Memref.whole cc0_scratch11) (Memref.isWhole_whole _)
      cc0_scratch12 cc0_scratch13 cc0_scratch14 cc0_scratch15 c v8 v25 v28 v41 v44 >>= k) Q) := by
  rw [k0_part14_eq_skeleton]; unfold k0_part14_skel
  simp only [semSignalWord, semWaitWord, Prog.lift, Prog.bind_op, Prog.bind_ret, Prog.pure_eq_ret, wp_deviceId]
  iintro #Hx HR Hk
  iapply (wt_in m K (.g 2) c 8 6 7 (by decide) rfl rfl) $$ Hx HR
  iintro HR HDg2
  ihave ⟨HSwF1, HSwT1, HG0⟩ := (gsplit0 m c) $$ HDg2
  iapply (snd_step m K (.w false 1) c 8 9 7 (by decide) (dev14 c) rfl rfl rfl rfl) $$ Hx HR HSwF1
  iintro HR
  iapply (snd_step m K (.w true 1) c 9 10 7 (by decide) (dev15 c) rfl rfl rfl rfl) $$ Hx HR HSwT1
  iintro HR
  iapply Hk $$ %_ %_ %_ HR HG0

theorem part15 (c : Dev nD) (v2 v5 v8 v12 v25 v28 v478 c4_i32_316 : BitVec 32) (v479 : BitVec 1)  {α : Type} {Q : α → sProp 𝕄}
    {k : (Σ' (v509 : BitVec 32), BitVec 32) → Prog (TpuEff nD τ sig (Elt F) Λ₀ .tc) α} :
    ctx m K ⊢ iprop(Run m c 10 7 -∗ gk m c 0 -∗ (X.z 0).spts m c -∗ (X.z 1).spts m c -∗ (X.z 2).spts m c -∗ restP c -∗
      (∀ (r0 : BitVec 32) (r1 : BitVec 32), Run m c 10 8 -∗ OutR m c 1 -∗ gk m c 0 -∗ (X.g 1).dpts m c -∗ WP c (k ⟨r0, r1⟩) Q)
      -∗ WP c (k0_part15 (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) cc0_scratch1 cc0_scratch2 (Memref.whole cc0_scratch3) (Memref.isWhole_whole _) cc0_scratch4 cc0_scratch5
      (Memref.whole cc0_scratch6) (Memref.isWhole_whole _) cc0_scratch7 cc0_scratch8 cc0_scratch9 cc0_scratch10 (Memref.whole cc0_scratch11) (Memref.isWhole_whole _)
      cc0_scratch12 cc0_scratch13 cc0_scratch14 cc0_scratch15 c v2 v5 v8 v12 v25 v28 v478 c4_i32_316 v479 >>= k) Q) := by
  rw [k0_part15_eq_skeleton]; unfold k0_part15_skel
  simp only [semSignalWord, semWaitWord, Prog.lift, Prog.bind_op, Prog.bind_ret, Prog.pure_eq_ret, wp_deviceId]
  iintro #Hx HR HG0 HSz0 HSz1 HSz2 HRest Hk
  iapply (g_load m c 0 rfl) $$ HG0
  iintro %v489 %hv489 HG0
  ihave HO := (out_base m c) $$ [HSz0 HSz1 HSz2 HRest]
  · isplitl [HSz0]; · iexact HSz0
    isplitl [HSz1]; · iexact HSz1
    isplitl [HSz2] <;> iassumption
  iapply (ld m c 0 (by decide) (off8 c 0)) $$ HO
  iintro %_ HO
  iapply (st m c 0 1 (by decide) (off8 c 0) hv489) $$ HO
  iintro HO
  iapply (wt_in m K (.g 1) c 10 7 8 (by decide) rfl rfl) $$ Hx HR
  iintro HR HDg1
  iapply Hk $$ %_ %_ HR HO HG0 HDg1

theorem part16 (c : Dev nD) (v8 v41 v44 v509 v510 : BitVec 32)  {α : Type} {Q : α → sProp 𝕄}
    {k : (Σ' (v538 : BitVec 32) (v539 : BitVec 32), BitVec 1) → Prog (TpuEff nD τ sig (Elt F) Λ₀ .tc) α} :
    ctx m K ⊢ iprop(Run m c 10 8 -∗ (X.g 1).dpts m c -∗
      (∀ (r0 : BitVec 32) (r1 : BitVec 32) (r2 : BitVec 1), Run m c 12 8 -∗ gk m c 1 -∗ WP c (k ⟨r0, r1, r2⟩) Q)
      -∗ WP c (k0_part16 (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) cc0_scratch1 cc0_scratch2 (Memref.whole cc0_scratch3) (Memref.isWhole_whole _) cc0_scratch4 cc0_scratch5
      (Memref.whole cc0_scratch6) (Memref.isWhole_whole _) cc0_scratch7 cc0_scratch8 cc0_scratch9 cc0_scratch10 (Memref.whole cc0_scratch11) (Memref.isWhole_whole _)
      cc0_scratch12 cc0_scratch13 cc0_scratch14 cc0_scratch15 c v8 v41 v44 v509 v510 >>= k) Q) := by
  rw [k0_part16_eq_skeleton]; unfold k0_part16_skel
  simp only [semSignalWord, semWaitWord, Prog.lift, Prog.bind_op, Prog.bind_ret, Prog.pure_eq_ret, wp_deviceId]
  iintro #Hx HR HDg1 Hk
  ihave ⟨HSwF2, HSwT2, HG1⟩ := (gsplit1 m c) $$ HDg1
  iapply (snd_step m K (.w false 2) c 10 11 8 (by decide) (dev16 c) rfl rfl rfl rfl) $$ Hx HR HSwF2
  iintro HR
  iapply (snd_step m K (.w true 2) c 11 12 8 (by decide) (dev17 c) rfl rfl rfl rfl) $$ Hx HR HSwT2
  iintro HR
  iapply Hk $$ %_ %_ %_ HR HG1

theorem part17 (c : Dev nD) (v2 v5 v8 v12 v25 v28 v538 v539 : BitVec 32) (v544 : BitVec 1)  {α : Type} {Q : α → sProp 𝕄}
    {k : (PUnit) → Prog (TpuEff nD τ sig (Elt F) Λ₀ .tc) α} :
    ctx m K ⊢ iprop(Run m c 12 8 -∗ OutR m c 1 -∗ gk m c 1 -∗
      (Run m c 12 9 -∗ OutR m c 2 -∗ gk m c 1 -∗ (X.g 0).dpts m c -∗ WP c (k ⟨⟩) Q)
      -∗ WP c (k0_part17 (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) cc0_scratch1 cc0_scratch2 (Memref.whole cc0_scratch3) (Memref.isWhole_whole _) cc0_scratch4 cc0_scratch5
      (Memref.whole cc0_scratch6) (Memref.isWhole_whole _) cc0_scratch7 cc0_scratch8 cc0_scratch9 cc0_scratch10 (Memref.whole cc0_scratch11) (Memref.isWhole_whole _)
      cc0_scratch12 cc0_scratch13 cc0_scratch14 cc0_scratch15 c v2 v5 v8 v12 v25 v28 v538 v539 v544 >>= k) Q) := by
  rw [k0_part17_eq_skeleton]; unfold k0_part17_skel
  simp only [semSignalWord, semWaitWord, Prog.lift, Prog.bind_op, Prog.bind_ret, Prog.pure_eq_ret, wp_deviceId]
  iintro #Hx HR HO HG1 Hk
  iapply (g_load m c 1 rfl) $$ HG1
  iintro %v547 %hv547 HG1
  iapply (ld m c 1 (by decide) (off8 c 1)) $$ HO
  iintro %_ HO
  iapply (st m c 1 2 (by decide) (off8 c 1) hv547) $$ HO
  iintro HO
  iapply (wt_in m K (.g 0) c 12 8 9 (by decide) rfl rfl) $$ Hx HR
  iintro HR HDg0
  iapply Hk $$ HR HO HG1 HDg0

theorem part18 (c : Dev nD) (v8 v12 v41 v44 : BitVec 32)  {α : Type} {Q : α → sProp 𝕄}
    {k : (FVec F S32x1024 .f32) → Prog (TpuEff nD τ sig (Elt F) Λ₀ .tc) α} :
    ctx m K ⊢ iprop(Run m c 12 9 -∗ (X.g 0).dpts m c -∗
      (∀ (r0 : FVec F S32x1024 .f32), ⌜IsRed m (sd c 2) r0⌝ -∗ Run m c 14 9 -∗ gk m c 2 -∗ WP c (k r0) Q)
      -∗ WP c (k0_part18 (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) cc0_scratch1 cc0_scratch2 (Memref.whole cc0_scratch3) (Memref.isWhole_whole _) cc0_scratch4 cc0_scratch5
      (Memref.whole cc0_scratch6) (Memref.isWhole_whole _) cc0_scratch7 cc0_scratch8 cc0_scratch9 cc0_scratch10 (Memref.whole cc0_scratch11) (Memref.isWhole_whole _)
      cc0_scratch12 cc0_scratch13 cc0_scratch14 cc0_scratch15 c v8 v12 v41 v44 >>= k) Q) := by
  rw [k0_part18_eq_skeleton]; unfold k0_part18_skel
  simp only [semSignalWord, semWaitWord, Prog.lift, Prog.bind_op, Prog.bind_ret, Prog.pure_eq_ret, wp_deviceId]
  iintro #Hx HR HDg0 Hk
  ihave ⟨HSwF3, HSwT3, HG2⟩ := (gsplit2 m c) $$ HDg0
  iapply (snd_step m K (.w false 3) c 12 13 9 (by decide) (dev18 c) rfl rfl rfl rfl) $$ Hx HR HSwF3
  iintro HR
  iapply (snd_step m K (.w true 3) c 13 14 9 (by decide) (dev19 c) rfl rfl rfl rfl) $$ Hx HR HSwT3
  iintro HR
  iapply (g_load m c 2 rfl) $$ HG2
  iintro %v605 %hv605 HG2
  iapply Hk $$ %_ %hv605 HR HG2

theorem part19 (c : Dev nD) (v8 v25 v28 : BitVec 32) (v606 : FVec F S32x1024 .f32) (hv606 : IsRed m (sd c 2) v606) {α : Type} {Q : α → sProp 𝕄}
    {k : (Σ' (v635 : BitVec 32), BitVec 32) → Prog (TpuEff nD τ sig (Elt F) Λ₀ .tc) α} :
    ctx m K ⊢ iprop(Run m c 14 9 -∗ OutR m c 2 -∗
      (∀ (r0 : BitVec 32) (r1 : BitVec 32), Run m c 14 11 -∗ OutR m c 3 -∗ (X.w false 0).dpts m c -∗ (X.w false 1).dpts m c -∗ WP c (k ⟨r0, r1⟩) Q)
      -∗ WP c (k0_part19 (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) cc0_scratch1 cc0_scratch2 (Memref.whole cc0_scratch3) (Memref.isWhole_whole _) cc0_scratch4 cc0_scratch5
      (Memref.whole cc0_scratch6) (Memref.isWhole_whole _) cc0_scratch7 cc0_scratch8 cc0_scratch9 cc0_scratch10 (Memref.whole cc0_scratch11) (Memref.isWhole_whole _)
      cc0_scratch12 cc0_scratch13 cc0_scratch14 cc0_scratch15 c v8 v25 v28 v606 >>= k) Q) := by
  rw [k0_part19_eq_skeleton]; unfold k0_part19_skel
  simp only [semSignalWord, semWaitWord, Prog.lift, Prog.bind_op, Prog.bind_ret, Prog.pure_eq_ret, wp_deviceId]
  iintro #Hx HR HO Hk
  iapply (ld m c 2 (by decide) (off8 c 2)) $$ HO
  iintro %_ HO
  iapply (st m c 2 3 (by decide) (off8 c 2) hv606) $$ HO
  iintro HO
  iapply (wt_in m K (.w false 0) c 14 9 10 (by decide) rfl rfl) $$ Hx HR
  iintro HR HDwF0
  iapply (wt_in m K (.w false 1) c 14 10 11 (by decide) rfl rfl) $$ Hx HR
  iintro HR HDwF1
  iapply Hk $$ %_ %_ HR HO HDwF0 HDwF1

theorem part20 (c : Dev nD) (v8 v25 v28 v635 v636 : BitVec 32)  {α : Type} {Q : α → sProp 𝕄}
    {k : (PUnit) → Prog (TpuEff nD τ sig (Elt F) Λ₀ .tc) α} :
    ctx m K ⊢ iprop(Run m c 14 11 -∗
      (Run m c 14 13 -∗ (X.w false 2).dpts m c -∗ (X.w false 3).dpts m c -∗ WP c (k ⟨⟩) Q)
      -∗ WP c (k0_part20 (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) cc0_scratch1 cc0_scratch2 (Memref.whole cc0_scratch3) (Memref.isWhole_whole _) cc0_scratch4 cc0_scratch5
      (Memref.whole cc0_scratch6) (Memref.isWhole_whole _) cc0_scratch7 cc0_scratch8 cc0_scratch9 cc0_scratch10 (Memref.whole cc0_scratch11) (Memref.isWhole_whole _)
      cc0_scratch12 cc0_scratch13 cc0_scratch14 cc0_scratch15 v8 v25 v28 v635 v636 >>= k) Q) := by
  rw [k0_part20_eq_skeleton]; unfold k0_part20_skel
  simp only [semSignalWord, semWaitWord, Prog.lift, Prog.bind_op, Prog.bind_ret, Prog.pure_eq_ret, wp_deviceId]
  iintro #Hx HR Hk
  iapply (wt_in m K (.w false 2) c 14 11 12 (by decide) rfl rfl) $$ Hx HR
  iintro HR HDwF2
  iapply (wt_in m K (.w false 3) c 14 12 13 (by decide) rfl rfl) $$ Hx HR
  iintro HR HDwF3
  iapply Hk $$ HR HDwF2 HDwF3

theorem part21 (c : Dev nD) (v8 v41 v44 : BitVec 32)  {α : Type} {Q : α → sProp 𝕄}
    {k : (BitVec 32) → Prog (TpuEff nD τ sig (Elt F) Λ₀ .tc) α} :
    ctx m K ⊢ iprop(Run m c 14 13 -∗ (X.w false 0).dpts m c -∗ (X.w false 1).dpts m c -∗ (X.w false 2).dpts m c -∗ (X.w false 3).dpts m c -∗
      (∀ (r0 : BitVec 32), Run m c 15 15 -∗ rk m false c 0 -∗ (X.w true 0).dpts m c -∗ (X.w true 1).dpts m c -∗ WP c (k r0) Q)
      -∗ WP c (k0_part21 (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) cc0_scratch1 cc0_scratch2 (Memref.whole cc0_scratch3) (Memref.isWhole_whole _) cc0_scratch4 cc0_scratch5
      (Memref.whole cc0_scratch6) (Memref.isWhole_whole _) cc0_scratch7 cc0_scratch8 cc0_scratch9 cc0_scratch10 (Memref.whole cc0_scratch11) (Memref.isWhole_whole _)
      cc0_scratch12 cc0_scratch13 cc0_scratch14 cc0_scratch15 c v8 v41 v44 >>= k) Q) := by
  rw [k0_part21_eq_skeleton]; unfold k0_part21_skel
  simp only [semSignalWord, semWaitWord, Prog.lift, Prog.bind_op, Prog.bind_ret, Prog.pure_eq_ret, wp_deviceId]
  iintro #Hx HR HDwF0 HDwF1 HDwF2 HDwF3 Hk
  ihave ⟨HSsF0, HRF0⟩ := (slot0 m false c) $$ [HDwF0 HDwF1 HDwF2 HDwF3]
  · isplitl [HDwF0]; · iexact HDwF0
    isplitl [HDwF1]; · iexact HDwF1
    isplitl [HDwF2] <;> iassumption
  iapply (snd_step m K (.s false 0) c 14 15 13 (by decide) (dev20 c) rfl rfl rfl rfl) $$ Hx HR HSsF0
  iintro HR
  iapply (wt_in m K (.w true 0) c 15 13 14 (by decide) rfl rfl) $$ Hx HR
  iintro HR HDwT0
  iapply (wt_in m K (.w true 1) c 15 14 15 (by decide) rfl rfl) $$ Hx HR
  iintro HR HDwT1
  iapply Hk $$ %_ HR HRF0 HDwT0 HDwT1

theorem part22 (c : Dev nD) (v8 v41 v44 v695 : BitVec 32)  {α : Type} {Q : α → sProp 𝕄}
    {k : (PUnit) → Prog (TpuEff nD τ sig (Elt F) Λ₀ .tc) α} :
    ctx m K ⊢ iprop(Run m c 15 15 -∗
      (Run m c 15 17 -∗ (X.w true 2).dpts m c -∗ (X.w true 3).dpts m c -∗ WP c (k ⟨⟩) Q)
      -∗ WP c (k0_part22 (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) cc0_scratch1 cc0_scratch2 (Memref.whole cc0_scratch3) (Memref.isWhole_whole _) cc0_scratch4 cc0_scratch5
      (Memref.whole cc0_scratch6) (Memref.isWhole_whole _) cc0_scratch7 cc0_scratch8 cc0_scratch9 cc0_scratch10 (Memref.whole cc0_scratch11) (Memref.isWhole_whole _)
      cc0_scratch12 cc0_scratch13 cc0_scratch14 cc0_scratch15 v8 v41 v44 v695 >>= k) Q) := by
  rw [k0_part22_eq_skeleton]; unfold k0_part22_skel
  simp only [semSignalWord, semWaitWord, Prog.lift, Prog.bind_op, Prog.bind_ret, Prog.pure_eq_ret, wp_deviceId]
  iintro #Hx HR Hk
  iapply (wt_in m K (.w true 2) c 15 15 16 (by decide) rfl rfl) $$ Hx HR
  iintro HR HDwT2
  iapply (wt_in m K (.w true 3) c 15 16 17 (by decide) rfl rfl) $$ Hx HR
  iintro HR HDwT3
  iapply Hk $$ HR HDwT2 HDwT3

end Cert.Ring

end
-- ==== Proof.PartsC.lean ====
/-
The body's parts, one rule each: the rings' first two hops.
-/
module

public import proofs.«01_k».proof.Proof.Begin

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Option (X × Bool) → ℕ)

set_option backward.proofsInPublic true

theorem part23 (c : Dev nD) (v8 v11 : BitVec 32)  {α : Type} {Q : α → sProp 𝕄}
    {k : (Σ' (v744 : BitVec 32), FVec F S32x1024 .f32) → Prog (TpuEff nD τ sig (Elt F) Λ₀ .tc) α} :
    ctx m K ⊢ iprop(Run m c 15 17 -∗ OutR m c 3 -∗ (X.w true 0).dpts m c -∗ (X.w true 1).dpts m c -∗ (X.w true 2).dpts m c -∗ (X.w true 3).dpts m c -∗ rk m false c 0 -∗
      (∀ (r0 : BitVec 32) (r1 : FVec F S32x1024 .f32), ⌜IsRed m (sd c 3) r1⌝ -∗ Run m c 16 17 -∗ OutR m c 3 -∗ rk m true c 0 -∗ rk m false c 0 -∗ WP c (k ⟨r0, r1⟩) Q)
      -∗ WP c (k0_part23 (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) cc0_scratch1 cc0_scratch2 (Memref.whole cc0_scratch3) (Memref.isWhole_whole _) cc0_scratch4 cc0_scratch5
      (Memref.whole cc0_scratch6) (Memref.isWhole_whole _) cc0_scratch7 cc0_scratch8 cc0_scratch9 cc0_scratch10 (Memref.whole cc0_scratch11) (Memref.isWhole_whole _)
      cc0_scratch12 cc0_scratch13 cc0_scratch14 cc0_scratch15 c v8 v11 >>= k) Q) := by
  rw [k0_part23_eq_skeleton]; unfold k0_part23_skel
  simp only [semSignalWord, semWaitWord, Prog.lift, Prog.bind_op, Prog.bind_ret, Prog.pure_eq_ret, wp_deviceId]
  iintro #Hx HR HO HDwT0 HDwT1 HDwT2 HDwT3 HRF0 Hk
  ihave ⟨HSsT0, HRT0⟩ := (slot0 m true c) $$ [HDwT0 HDwT1 HDwT2 HDwT3]
  · isplitl [HDwT0]; · iexact HDwT0
    isplitl [HDwT1]; · iexact HDwT1
    isplitl [HDwT2] <;> iassumption
  iapply (snd_step m K (.s true 0) c 15 16 17 (by decide) (dev21 c) rfl rfl rfl rfl) $$ Hx HR HSsT0
  iintro HR
  iapply (r_loadF m c 0 0 (pc_st 0 0) rfl) $$ HRF0
  iintro %v745 %hv745 HRF0
  iapply (ld m c 3 (by decide) (off9a c 0)) $$ HO
  iintro %_ HO
  iapply Hk $$ %_ %_ %hv745 HR HO HRT0 HRF0

theorem part24 (c : Dev nD) (v8 v744 : BitVec 32) (v746 : FVec F S32x1024 .f32) (hv746 : IsRed m (sd c 3) v746) {α : Type} {Q : α → sProp 𝕄}
    {k : (FVec F S32x1024 .f32) → Prog (TpuEff nD τ sig (Elt F) Λ₀ .tc) α} :
    ctx m K ⊢ iprop(OutR m c 3 -∗ rk m false c 0 -∗
      (∀ (r0 : FVec F S32x1024 .f32), ⌜IsRed m (sd c 5) r0⌝ -∗ OutR m c 5 -∗ rk m false c 0 -∗ WP c (k r0) Q)
      -∗ WP c (k0_part24 (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) cc0_scratch1 cc0_scratch2 (Memref.whole cc0_scratch3) (Memref.isWhole_whole _) cc0_scratch4 cc0_scratch5
      (Memref.whole cc0_scratch6) (Memref.isWhole_whole _) cc0_scratch7 cc0_scratch8 cc0_scratch9 cc0_scratch10 (Memref.whole cc0_scratch11) (Memref.isWhole_whole _)
      cc0_scratch12 cc0_scratch13 cc0_scratch14 cc0_scratch15 c v8 v744 v746 >>= k) Q) := by
  rw [k0_part24_eq_skeleton]; unfold k0_part24_skel
  simp only [semSignalWord, semWaitWord, Prog.lift, Prog.bind_op, Prog.bind_ret, Prog.pure_eq_ret, wp_deviceId]
  iintro #Hx HO HRF0 Hk
  iapply (st m c 3 4 (by decide) (off9a c 0) hv746) $$ HO
  iintro HO
  iapply (r_loadF m c 0 1 (pc_st 0 1) rfl) $$ HRF0
  iintro %v762 %hv762 HRF0
  iapply (ld m c 4 (by decide) (off9a c 1)) $$ HO
  iintro %_ HO
  iapply (st m c 4 5 (by decide) (off9a c 1) hv762) $$ HO
  iintro HO
  iapply (r_loadF m c 0 2 (pc_st 0 2) rfl) $$ HRF0
  iintro %v779 %hv779 HRF0
  iapply (ld m c 5 (by decide) (off9a c 2)) $$ HO
  iintro %_ HO
  iapply Hk $$ %_ %hv779 HO HRF0

theorem part25 (c : Dev nD) (v8 v11 v744 : BitVec 32) (v780 : FVec F S32x1024 .f32) (hv780 : IsRed m (sd c 5) v780) {α : Type} {Q : α → sProp 𝕄}
    {k : (Σ' (v824 : BitVec 32) (v826 : FVec F S32x1024 .f32) (v827 : BitVec 32) (c4_i32_600 : BitVec 32), BitVec 32) → Prog (TpuEff nD τ sig (Elt F) Λ₀ .tc) α} :
    ctx m K ⊢ iprop(OutR m c 5 -∗ rk m false c 0 -∗ rk m true c 0 -∗
      (∀ (r0 : BitVec 32) (r1 : FVec F S32x1024 .f32) (r2 : BitVec 32) (r3 : BitVec 32) (r4 : BitVec 32), ⌜IsRed m (sd c 7) r1⌝ -∗ OutR m c 7 -∗ rk m false c 0 -∗ rk m true c 0 -∗ WP c (k ⟨r0, r1, r2, r3, r4⟩) Q)
      -∗ WP c (k0_part25 (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) cc0_scratch1 cc0_scratch2 (Memref.whole cc0_scratch3) (Memref.isWhole_whole _) cc0_scratch4 cc0_scratch5
      (Memref.whole cc0_scratch6) (Memref.isWhole_whole _) cc0_scratch7 cc0_scratch8 cc0_scratch9 cc0_scratch10 (Memref.whole cc0_scratch11) (Memref.isWhole_whole _)
      cc0_scratch12 cc0_scratch13 cc0_scratch14 cc0_scratch15 c v8 v11 v744 v780 >>= k) Q) := by
  rw [k0_part25_eq_skeleton]; unfold k0_part25_skel
  simp only [semSignalWord, semWaitWord, Prog.lift, Prog.bind_op, Prog.bind_ret, Prog.pure_eq_ret, wp_deviceId]
  iintro #Hx HO HRF0 HRT0 Hk
  iapply (st m c 5 6 (by decide) (off9a c 2) hv780) $$ HO
  iintro HO
  iapply (r_loadF m c 0 3 (pc_st 0 3) rfl) $$ HRF0
  iintro %v796 %hv796 HRF0
  iapply (ld m c 6 (by decide) (off9a c 3)) $$ HO
  iintro %_ HO
  iapply (st m c 6 7 (by decide) (off9a c 3) hv796) $$ HO
  iintro HO
  iapply (r_loadT m c 0 0 (pc_st 0 0) rfl) $$ HRT0
  iintro %v825 %hv825 HRT0
  iapply Hk $$ %_ %_ %_ %_ %_ %hv825 HO HRF0 HRT0

theorem part26 (c : Dev nD) (v8 v824 : BitVec 32) (v826 : FVec F S32x1024 .f32) (v827 c4_i32_600 c0_i32_601 : BitVec 32) (hv826 : IsRed m (sd c 7) v826) {α : Type} {Q : α → sProp 𝕄}
    {k : (Σ' (v860 : FVec F S32x1024 .f32) (v861 : BitVec 32) (c4_i32_624 : BitVec 32), BitVec 32) → Prog (TpuEff nD τ sig (Elt F) Λ₀ .tc) α} :
    ctx m K ⊢ iprop(OutR m c 7 -∗ rk m true c 0 -∗
      (∀ (r0 : FVec F S32x1024 .f32) (r1 : BitVec 32) (r2 : BitVec 32) (r3 : BitVec 32), ⌜IsRed m (sd c 9) r0⌝ -∗ OutR m c 9 -∗ rk m true c 0 -∗ WP c (k ⟨r0, r1, r2, r3⟩) Q)
      -∗ WP c (k0_part26 (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) cc0_scratch1 cc0_scratch2 (Memref.whole cc0_scratch3) (Memref.isWhole_whole _) cc0_scratch4 cc0_scratch5
      (Memref.whole cc0_scratch6) (Memref.isWhole_whole _) cc0_scratch7 cc0_scratch8 cc0_scratch9 cc0_scratch10 (Memref.whole cc0_scratch11) (Memref.isWhole_whole _)
      cc0_scratch12 cc0_scratch13 cc0_scratch14 cc0_scratch15 c v8 v824 v826 v827 c4_i32_600 c0_i32_601 >>= k) Q) := by
  rw [k0_part26_eq_skeleton]; unfold k0_part26_skel
  simp only [semSignalWord, semWaitWord, Prog.lift, Prog.bind_op, Prog.bind_ret, Prog.pure_eq_ret, wp_deviceId]
  iintro #Hx HO HRT0 Hk
  iapply (ld m c 7 (by decide) (off10 c 0)) $$ HO
  iintro %_ HO
  iapply (st m c 7 8 (by decide) (off10 c 0) hv826) $$ HO
  iintro HO
  iapply (r_loadT m c 0 1 (pc_st 0 1) rfl) $$ HRT0
  iintro %v842 %hv842 HRT0
  iapply (ld m c 8 (by decide) (off10 c 1)) $$ HO
  iintro %_ HO
  iapply (st m c 8 9 (by decide) (off10 c 1) hv842) $$ HO
  iintro HO
  iapply (r_loadT m c 0 2 (pc_st 0 2) rfl) $$ HRT0
  iintro %v859 %hv859 HRT0
  iapply Hk $$ %_ %_ %_ %_ %hv859 HO HRT0

theorem part27 (c : Dev nD) (v8 v25 v824 : BitVec 32) (v860 : FVec F S32x1024 .f32) (v861 c4_i32_624 c0_i32_625 : BitVec 32) (hv860 : IsRed m (sd c 9) v860) {α : Type} {Q : α → sProp 𝕄}
    {k : (Σ' (v894 : BitVec 32), BitVec 32) → Prog (TpuEff nD τ sig (Elt F) Λ₀ .tc) α} :
    ctx m K ⊢ iprop(OutR m c 9 -∗ rk m true c 0 -∗
      (∀ (r0 : BitVec 32) (r1 : BitVec 32), OutR m c 11 -∗ rk m true c 0 -∗ WP c (k ⟨r0, r1⟩) Q)
      -∗ WP c (k0_part27 (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) cc0_scratch1 cc0_scratch2 (Memref.whole cc0_scratch3) (Memref.isWhole_whole _) cc0_scratch4 cc0_scratch5
      (Memref.whole cc0_scratch6) (Memref.isWhole_whole _) cc0_scratch7 cc0_scratch8 cc0_scratch9 cc0_scratch10 (Memref.whole cc0_scratch11) (Memref.isWhole_whole _)
      cc0_scratch12 cc0_scratch13 cc0_scratch14 cc0_scratch15 c v8 v25 v824 v860 v861 c4_i32_624 c0_i32_625 >>= k) Q) := by
  rw [k0_part27_eq_skeleton]; unfold k0_part27_skel
  simp only [semSignalWord, semWaitWord, Prog.lift, Prog.bind_op, Prog.bind_ret, Prog.pure_eq_ret, wp_deviceId]
  iintro #Hx HO HRT0 Hk
  iapply (ld m c 9 (by decide) (off10 c 2)) $$ HO
  iintro %_ HO
  iapply (st m c 9 10 (by decide) (off10 c 2) hv860) $$ HO
  iintro HO
  iapply (r_loadT m c 0 3 (pc_st 0 3) rfl) $$ HRT0
  iintro %v876 %hv876 HRT0
  iapply (ld m c 10 (by decide) (off10 c 3)) $$ HO
  iintro %_ HO
  iapply (st m c 10 11 (by decide) (off10 c 3) hv876) $$ HO
  iintro HO
  iapply Hk $$ %_ %_ HO HRT0

theorem part28 (c : Dev nD) (v8 v25 v28 v41 v44 v894 c4_i32_650 : BitVec 32)  {α : Type} {Q : α → sProp 𝕄}
    {k : (PUnit) → Prog (TpuEff nD τ sig (Elt F) Λ₀ .tc) α} :
    ctx m K ⊢ iprop(Run m c 16 17 -∗
      (Run m c 17 18 -∗ rk m false c 1 -∗ WP c (k ⟨⟩) Q)
      -∗ WP c (k0_part28 (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) cc0_scratch1 cc0_scratch2 (Memref.whole cc0_scratch3) (Memref.isWhole_whole _) cc0_scratch4 cc0_scratch5
      (Memref.whole cc0_scratch6) (Memref.isWhole_whole _) cc0_scratch7 cc0_scratch8 cc0_scratch9 cc0_scratch10 (Memref.whole cc0_scratch11) (Memref.isWhole_whole _)
      cc0_scratch12 cc0_scratch13 cc0_scratch14 cc0_scratch15 c v8 v25 v28 v41 v44 v894 c4_i32_650 >>= k) Q) := by
  rw [k0_part28_eq_skeleton]; unfold k0_part28_skel
  simp only [semSignalWord, semWaitWord, Prog.lift, Prog.bind_op, Prog.bind_ret, Prog.pure_eq_ret, wp_deviceId]
  iintro #Hx HR Hk
  iapply (wt_in m K (.s false 0) c 16 17 18 (by decide) rfl rfl) $$ Hx HR
  iintro HR HDsF0
  ihave ⟨HSsF1, HRF1⟩ := (slot1 m false c) $$ HDsF0
  iapply (snd_step m K (.s false 1) c 16 17 18 (by decide) (dev22 c) rfl rfl rfl rfl) $$ Hx HR HSsF1
  iintro HR
  iapply Hk $$ HR HRF1

theorem part29 (c : Dev nD) (v8 v11 v41 v44 : BitVec 32)  {α : Type} {Q : α → sProp 𝕄}
    {k : (BitVec 32) → Prog (TpuEff nD τ sig (Elt F) Λ₀ .tc) α} :
    ctx m K ⊢ iprop(Run m c 17 18 -∗
      (∀ (r0 : BitVec 32), Run m c 18 19 -∗ rk m true c 1 -∗ WP c (k r0) Q)
      -∗ WP c (k0_part29 (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) cc0_scratch1 cc0_scratch2 (Memref.whole cc0_scratch3) (Memref.isWhole_whole _) cc0_scratch4 cc0_scratch5
      (Memref.whole cc0_scratch6) (Memref.isWhole_whole _) cc0_scratch7 cc0_scratch8 cc0_scratch9 cc0_scratch10 (Memref.whole cc0_scratch11) (Memref.isWhole_whole _)
      cc0_scratch12 cc0_scratch13 cc0_scratch14 cc0_scratch15 c v8 v11 v41 v44 >>= k) Q) := by
  rw [k0_part29_eq_skeleton]; unfold k0_part29_skel
  simp only [semSignalWord, semWaitWord, Prog.lift, Prog.bind_op, Prog.bind_ret, Prog.pure_eq_ret, wp_deviceId]
  iintro #Hx HR Hk
  iapply (wt_in m K (.s true 0) c 17 18 19 (by decide) rfl rfl) $$ Hx HR
  iintro HR HDsT0
  ihave ⟨HSsT1, HRT1⟩ := (slot1 m true c) $$ HDsT0
  iapply (snd_step m K (.s true 1) c 17 18 19 (by decide) (dev23 c) rfl rfl rfl rfl) $$ Hx HR HSsT1
  iintro HR
  iapply Hk $$ %_ HR HRT1

theorem part30 (c : Dev nD) (v8 v957 : BitVec 32)  {α : Type} {Q : α → sProp 𝕄}
    {k : (PUnit) → Prog (TpuEff nD τ sig (Elt F) Λ₀ .tc) α} :
    ctx m K ⊢ iprop(OutR m c 11 -∗ rk m false c 1 -∗
      (OutR m c 13 -∗ rk m false c 1 -∗ WP c (k ⟨⟩) Q)
      -∗ WP c (k0_part30 (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) cc0_scratch1 cc0_scratch2 (Memref.whole cc0_scratch3) (Memref.isWhole_whole _) cc0_scratch4 cc0_scratch5
      (Memref.whole cc0_scratch6) (Memref.isWhole_whole _) cc0_scratch7 cc0_scratch8 cc0_scratch9 cc0_scratch10 (Memref.whole cc0_scratch11) (Memref.isWhole_whole _)
      cc0_scratch12 cc0_scratch13 cc0_scratch14 cc0_scratch15 c v8 v957 >>= k) Q) := by
  rw [k0_part30_eq_skeleton]; unfold k0_part30_skel
  simp only [semSignalWord, semWaitWord, Prog.lift, Prog.bind_op, Prog.bind_ret, Prog.pure_eq_ret, wp_deviceId]
  iintro #Hx HO HRF1 Hk
  iapply (r_loadF m c 1 0 (pc_st 1 0) rfl) $$ HRF1
  iintro %v958 %hv958 HRF1
  iapply (ld m c 11 (by decide) (off11 c 0 0)) $$ HO
  iintro %_ HO
  iapply (st m c 11 12 (by decide) (off11 c 0 0) hv958) $$ HO
  iintro HO
  iapply (r_loadF m c 1 1 (pc_st 1 1) rfl) $$ HRF1
  iintro %v975 %hv975 HRF1
  iapply (ld m c 12 (by decide) (off11 c 0 1)) $$ HO
  iintro %_ HO
  iapply (st m c 12 13 (by decide) (off11 c 0 1) hv975) $$ HO
  iintro HO
  iapply Hk $$ HO HRF1

theorem part31 (c : Dev nD) (v8 v11 v957 : BitVec 32)  {α : Type} {Q : α → sProp 𝕄}
    {k : (Σ' (v1026 : BitVec 32), BitVec 32) → Prog (TpuEff nD τ sig (Elt F) Λ₀ .tc) α} :
    ctx m K ⊢ iprop(OutR m c 13 -∗ rk m false c 1 -∗
      (∀ (r0 : BitVec 32) (r1 : BitVec 32), OutR m c 15 -∗ rk m false c 1 -∗ WP c (k ⟨r0, r1⟩) Q)
      -∗ WP c (k0_part31 (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) cc0_scratch1 cc0_scratch2 (Memref.whole cc0_scratch3) (Memref.isWhole_whole _) cc0_scratch4 cc0_scratch5
      (Memref.whole cc0_scratch6) (Memref.isWhole_whole _) cc0_scratch7 cc0_scratch8 cc0_scratch9 cc0_scratch10 (Memref.whole cc0_scratch11) (Memref.isWhole_whole _)
      cc0_scratch12 cc0_scratch13 cc0_scratch14 cc0_scratch15 c v8 v11 v957 >>= k) Q) := by
  rw [k0_part31_eq_skeleton]; unfold k0_part31_skel
  simp only [semSignalWord, semWaitWord, Prog.lift, Prog.bind_op, Prog.bind_ret, Prog.pure_eq_ret, wp_deviceId]
  iintro #Hx HO HRF1 Hk
  iapply (r_loadF m c 1 2 (pc_st 1 2) rfl) $$ HRF1
  iintro %v992 %hv992 HRF1
  iapply (ld m c 13 (by decide) (off11 c 0 2)) $$ HO
  iintro %_ HO
  iapply (st m c 13 14 (by decide) (off11 c 0 2) hv992) $$ HO
  iintro HO
  iapply (r_loadF m c 1 3 (pc_st 1 3) rfl) $$ HRF1
  iintro %v1009 %hv1009 HRF1
  iapply (ld m c 14 (by decide) (off11 c 0 3)) $$ HO
  iintro %_ HO
  iapply (st m c 14 15 (by decide) (off11 c 0 3) hv1009) $$ HO
  iintro HO
  iapply Hk $$ %_ %_ HO HRF1

theorem part32 (c : Dev nD) (v8 v1026 c1_i32_750 : BitVec 32)  {α : Type} {Q : α → sProp 𝕄}
    {k : (Σ' (v1038 : BitVec 32) (v1057 : FVec F S32x1024 .f32) (v1058 : BitVec 32) (c4_i32_774 : BitVec 32) (v1059 : BitVec 1), BitVec 32) → Prog (TpuEff nD τ sig (Elt F) Λ₀ .tc) α} :
    ctx m K ⊢ iprop(OutR m c 15 -∗ rk m true c 1 -∗
      (∀ (r0 : BitVec 32) (r1 : FVec F S32x1024 .f32) (r2 : BitVec 32) (r3 : BitVec 32) (r4 : BitVec 1) (r5 : BitVec 32), ⌜IsRed m (sd c 16) r1⌝ -∗ OutR m c 16 -∗ rk m true c 1 -∗ WP c (k ⟨r0, r1, r2, r3, r4, r5⟩) Q)
      -∗ WP c (k0_part32 (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) cc0_scratch1 cc0_scratch2 (Memref.whole cc0_scratch3) (Memref.isWhole_whole _) cc0_scratch4 cc0_scratch5
      (Memref.whole cc0_scratch6) (Memref.isWhole_whole _) cc0_scratch7 cc0_scratch8 cc0_scratch9 cc0_scratch10 (Memref.whole cc0_scratch11) (Memref.isWhole_whole _)
      cc0_scratch12 cc0_scratch13 cc0_scratch14 cc0_scratch15 c v8 v1026 c1_i32_750 >>= k) Q) := by
  rw [k0_part32_eq_skeleton]; unfold k0_part32_skel
  simp only [semSignalWord, semWaitWord, Prog.lift, Prog.bind_op, Prog.bind_ret, Prog.pure_eq_ret, wp_deviceId]
  iintro #Hx HO HRT1 Hk
  iapply (r_loadT m c 1 0 (pc_st 1 0) rfl) $$ HRT1
  iintro %v1039 %hv1039 HRT1
  iapply (ld m c 15 (by decide) (off12 c 0 0)) $$ HO
  iintro %_ HO
  iapply (st m c 15 16 (by decide) (off12 c 0 0) hv1039) $$ HO
  iintro HO
  iapply (r_loadT m c 1 1 (pc_st 1 1) rfl) $$ HRT1
  iintro %v1056 %hv1056 HRT1
  iapply Hk $$ %_ %_ %_ %_ %_ %_ %hv1056 HO HRT1

theorem part33 (c : Dev nD) (v8 v1038 : BitVec 32) (v1057 : FVec F S32x1024 .f32) (v1058 c4_i32_774 : BitVec 32) (v1059 : BitVec 1) (c1_i32_776 : BitVec 32) (hv1057 : IsRed m (sd c 16) v1057) {α : Type} {Q : α → sProp 𝕄}
    {k : (Σ' (v1091 : FVec F S32x1024 .f32) (v1092 : BitVec 32) (c4_i32_798 : BitVec 32) (v1093 : BitVec 1), BitVec 32) → Prog (TpuEff nD τ sig (Elt F) Λ₀ .tc) α} :
    ctx m K ⊢ iprop(OutR m c 16 -∗ rk m true c 1 -∗
      (∀ (r0 : FVec F S32x1024 .f32) (r1 : BitVec 32) (r2 : BitVec 32) (r3 : BitVec 1) (r4 : BitVec 32), ⌜IsRed m (sd c 18) r0⌝ -∗ OutR m c 18 -∗ rk m true c 1 -∗ WP c (k ⟨r0, r1, r2, r3, r4⟩) Q)
      -∗ WP c (k0_part33 (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) cc0_scratch1 cc0_scratch2 (Memref.whole cc0_scratch3) (Memref.isWhole_whole _) cc0_scratch4 cc0_scratch5
      (Memref.whole cc0_scratch6) (Memref.isWhole_whole _) cc0_scratch7 cc0_scratch8 cc0_scratch9 cc0_scratch10 (Memref.whole cc0_scratch11) (Memref.isWhole_whole _)
      cc0_scratch12 cc0_scratch13 cc0_scratch14 cc0_scratch15 c v8 v1038 v1057 v1058 c4_i32_774 v1059 c1_i32_776 >>= k) Q) := by
  rw [k0_part33_eq_skeleton]; unfold k0_part33_skel
  simp only [semSignalWord, semWaitWord, Prog.lift, Prog.bind_op, Prog.bind_ret, Prog.pure_eq_ret, wp_deviceId]
  iintro #Hx HO HRT1 Hk
  iapply (ld m c 16 (by decide) (off12 c 0 1)) $$ HO
  iintro %_ HO
  iapply (st m c 16 17 (by decide) (off12 c 0 1) hv1057) $$ HO
  iintro HO
  iapply (r_loadT m c 1 2 (pc_st 1 2) rfl) $$ HRT1
  iintro %v1073 %hv1073 HRT1
  iapply (ld m c 17 (by decide) (off12 c 0 2)) $$ HO
  iintro %_ HO
  iapply (st m c 17 18 (by decide) (off12 c 0 2) hv1073) $$ HO
  iintro HO
  iapply (r_loadT m c 1 3 (pc_st 1 3) rfl) $$ HRT1
  iintro %v1090 %hv1090 HRT1
  iapply Hk $$ %_ %_ %_ %_ %_ %hv1090 HO HRT1

theorem part34 (c : Dev nD) (v8 v25 v28 v1038 : BitVec 32) (v1091 : FVec F S32x1024 .f32) (v1092 c4_i32_798 : BitVec 32) (v1093 : BitVec 1) (c1_i32_800 : BitVec 32) (hv1091 : IsRed m (sd c 18) v1091) {α : Type} {Q : α → sProp 𝕄}
    {k : (PUnit) → Prog (TpuEff nD τ sig (Elt F) Λ₀ .tc) α} :
    ctx m K ⊢ iprop(Run m c 18 19 -∗ OutR m c 18 -∗
      (Run m c 18 20 -∗ OutR m c 19 -∗ (X.s false 1).dpts m c -∗ WP c (k ⟨⟩) Q)
      -∗ WP c (k0_part34 (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) cc0_scratch1 cc0_scratch2 (Memref.whole cc0_scratch3) (Memref.isWhole_whole _) cc0_scratch4 cc0_scratch5
      (Memref.whole cc0_scratch6) (Memref.isWhole_whole _) cc0_scratch7 cc0_scratch8 cc0_scratch9 cc0_scratch10 (Memref.whole cc0_scratch11) (Memref.isWhole_whole _)
      cc0_scratch12 cc0_scratch13 cc0_scratch14 cc0_scratch15 c v8 v25 v28 v1038 v1091 v1092 c4_i32_798 v1093 c1_i32_800 >>= k) Q) := by
  rw [k0_part34_eq_skeleton]; unfold k0_part34_skel
  simp only [semSignalWord, semWaitWord, Prog.lift, Prog.bind_op, Prog.bind_ret, Prog.pure_eq_ret, wp_deviceId]
  iintro #Hx HR HO Hk
  iapply (ld m c 18 (by decide) (off12 c 0 3)) $$ HO
  iintro %_ HO
  iapply (st m c 18 19 (by decide) (off12 c 0 3) hv1091) $$ HO
  iintro HO
  iapply (wt_in m K (.s false 1) c 18 19 20 (by decide) rfl rfl) $$ Hx HR
  iintro HR HDsF1
  iapply Hk $$ HR HO HDsF1

end Cert.Ring

end
-- ==== Proof.PartsD.lean ====
/-
The body's parts, one rule each: the rings' last hop, and the waits for what was sent.
-/
module

public import proofs.«01_k».proof.Proof.Begin

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Option (X × Bool) → ℕ)

set_option backward.proofsInPublic true

theorem part35 (c : Dev nD) (v8 v41 v44 : BitVec 32)  {α : Type} {Q : α → sProp 𝕄}
    {k : (PUnit) → Prog (TpuEff nD τ sig (Elt F) Λ₀ .tc) α} :
    ctx m K ⊢ iprop(Run m c 18 20 -∗ (X.s false 1).dpts m c -∗
      (Run m c 19 21 -∗ hk m false c -∗ rk m false c 2 -∗ (X.s true 1).dpts m c -∗ WP c (k ⟨⟩) Q)
      -∗ WP c (k0_part35 (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) cc0_scratch1 cc0_scratch2 (Memref.whole cc0_scratch3) (Memref.isWhole_whole _) cc0_scratch4 cc0_scratch5
      (Memref.whole cc0_scratch6) (Memref.isWhole_whole _) cc0_scratch7 cc0_scratch8 cc0_scratch9 cc0_scratch10 (Memref.whole cc0_scratch11) (Memref.isWhole_whole _)
      cc0_scratch12 cc0_scratch13 cc0_scratch14 cc0_scratch15 c v8 v41 v44 >>= k) Q) := by
  rw [k0_part35_eq_skeleton]; unfold k0_part35_skel
  simp only [semSignalWord, semWaitWord, Prog.lift, Prog.bind_op, Prog.bind_ret, Prog.pure_eq_ret, wp_deviceId]
  iintro #Hx HR HDsF1 Hk
  ihave ⟨HSsF2, HHF, HRF2⟩ := (slot2 m false c) $$ HDsF1
  iapply (snd_step m K (.s false 2) c 18 19 20 (by decide) (dev24 c) rfl rfl rfl rfl) $$ Hx HR HSsF2
  iintro HR
  iapply (wt_in m K (.s true 1) c 19 20 21 (by decide) rfl rfl) $$ Hx HR
  iintro HR HDsT1
  iapply Hk $$ HR HHF HRF2 HDsT1

theorem part36 (c : Dev nD) (v8 v11 : BitVec 32)  {α : Type} {Q : α → sProp 𝕄}
    {k : (Σ' (v1171 : BitVec 32), FVec F S32x1024 .f32) → Prog (TpuEff nD τ sig (Elt F) Λ₀ .tc) α} :
    ctx m K ⊢ iprop(Run m c 19 21 -∗ OutR m c 19 -∗ (X.s true 1).dpts m c -∗ rk m false c 2 -∗
      (∀ (r0 : BitVec 32) (r1 : FVec F S32x1024 .f32), ⌜IsRed m (sd c 20) r1⌝ -∗ Run m c 20 21 -∗ OutR m c 20 -∗ hk m true c -∗ rk m true c 2 -∗ rk m false c 2 -∗ WP c (k ⟨r0, r1⟩) Q)
      -∗ WP c (k0_part36 (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) cc0_scratch1 cc0_scratch2 (Memref.whole cc0_scratch3) (Memref.isWhole_whole _) cc0_scratch4 cc0_scratch5
      (Memref.whole cc0_scratch6) (Memref.isWhole_whole _) cc0_scratch7 cc0_scratch8 cc0_scratch9 cc0_scratch10 (Memref.whole cc0_scratch11) (Memref.isWhole_whole _)
      cc0_scratch12 cc0_scratch13 cc0_scratch14 cc0_scratch15 c v8 v11 >>= k) Q) := by
  rw [k0_part36_eq_skeleton]; unfold k0_part36_skel
  simp only [semSignalWord, semWaitWord, Prog.lift, Prog.bind_op, Prog.bind_ret, Prog.pure_eq_ret, wp_deviceId]
  iintro #Hx HR HO HDsT1 HRF2 Hk
  ihave ⟨HSsT2, HHT, HRT2⟩ := (slot2 m true c) $$ HDsT1
  iapply (snd_step m K (.s true 2) c 19 20 21 (by decide) (dev25 c) rfl rfl rfl rfl) $$ Hx HR HSsT2
  iintro HR
  iapply (r_loadF m c 2 0 (pc_st 2 0) rfl) $$ HRF2
  iintro %v1172 %hv1172 HRF2
  iapply (ld m c 19 (by decide) (off11 c 1 0)) $$ HO
  iintro %_ HO
  iapply (st m c 19 20 (by decide) (off11 c 1 0) hv1172) $$ HO
  iintro HO
  iapply (r_loadF m c 2 1 (pc_st 2 1) rfl) $$ HRF2
  iintro %v1189 %hv1189 HRF2
  iapply Hk $$ %_ %_ %hv1189 HR HO HHT HRT2 HRF2

theorem part37 (c : Dev nD) (v8 v1171 : BitVec 32) (v1190 : FVec F S32x1024 .f32) (hv1190 : IsRed m (sd c 20) v1190) {α : Type} {Q : α → sProp 𝕄}
    {k : (FVec F S32x1024 .f32) → Prog (TpuEff nD τ sig (Elt F) Λ₀ .tc) α} :
    ctx m K ⊢ iprop(OutR m c 20 -∗ rk m false c 2 -∗
      (∀ (r0 : FVec F S32x1024 .f32), ⌜IsRed m (sd c 22) r0⌝ -∗ OutR m c 22 -∗ rk m false c 2 -∗ WP c (k r0) Q)
      -∗ WP c (k0_part37 (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) cc0_scratch1 cc0_scratch2 (Memref.whole cc0_scratch3) (Memref.isWhole_whole _) cc0_scratch4 cc0_scratch5
      (Memref.whole cc0_scratch6) (Memref.isWhole_whole _) cc0_scratch7 cc0_scratch8 cc0_scratch9 cc0_scratch10 (Memref.whole cc0_scratch11) (Memref.isWhole_whole _)
      cc0_scratch12 cc0_scratch13 cc0_scratch14 cc0_scratch15 c v8 v1171 v1190 >>= k) Q) := by
  rw [k0_part37_eq_skeleton]; unfold k0_part37_skel
  simp only [semSignalWord, semWaitWord, Prog.lift, Prog.bind_op, Prog.bind_ret, Prog.pure_eq_ret, wp_deviceId]
  iintro #Hx HO HRF2 Hk
  iapply (ld m c 20 (by decide) (off11 c 1 1)) $$ HO
  iintro %_ HO
  iapply (st m c 20 21 (by decide) (off11 c 1 1) hv1190) $$ HO
  iintro HO
  iapply (r_loadF m c 2 2 (pc_st 2 2) rfl) $$ HRF2
  iintro %v1206 %hv1206 HRF2
  iapply (ld m c 21 (by decide) (off11 c 1 2)) $$ HO
  iintro %_ HO
  iapply (st m c 21 22 (by decide) (off11 c 1 2) hv1206) $$ HO
  iintro HO
  iapply (r_loadF m c 2 3 (pc_st 2 3) rfl) $$ HRF2
  iintro %v1223 %hv1223 HRF2
  iapply Hk $$ %_ %hv1223 HO HRF2

theorem part38 (c : Dev nD) (v8 v11 v1171 : BitVec 32) (v1224 : FVec F S32x1024 .f32) (hv1224 : IsRed m (sd c 22) v1224) {α : Type} {Q : α → sProp 𝕄}
    {k : (Σ' (v1252 : BitVec 32) (v1254 : FVec F S32x1024 .f32) (v1257 : BitVec 32), BitVec 32) → Prog (TpuEff nD τ sig (Elt F) Λ₀ .tc) α} :
    ctx m K ⊢ iprop(OutR m c 22 -∗ rk m true c 2 -∗
      (∀ (r0 : BitVec 32) (r1 : FVec F S32x1024 .f32) (r2 : BitVec 32) (r3 : BitVec 32), ⌜IsRed m (sd c 23) r1⌝ -∗ OutR m c 23 -∗ rk m true c 2 -∗ WP c (k ⟨r0, r1, r2, r3⟩) Q)
      -∗ WP c (k0_part38 (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) cc0_scratch1 cc0_scratch2 (Memref.whole cc0_scratch3) (Memref.isWhole_whole _) cc0_scratch4 cc0_scratch5
      (Memref.whole cc0_scratch6) (Memref.isWhole_whole _) cc0_scratch7 cc0_scratch8 cc0_scratch9 cc0_scratch10 (Memref.whole cc0_scratch11) (Memref.isWhole_whole _)
      cc0_scratch12 cc0_scratch13 cc0_scratch14 cc0_scratch15 c v8 v11 v1171 v1224 >>= k) Q) := by
  rw [k0_part38_eq_skeleton]; unfold k0_part38_skel
  simp only [semSignalWord, semWaitWord, Prog.lift, Prog.bind_op, Prog.bind_ret, Prog.pure_eq_ret, wp_deviceId]
  iintro #Hx HO HRT2 Hk
  iapply (ld m c 22 (by decide) (off11 c 1 3)) $$ HO
  iintro %_ HO
  iapply (st m c 22 23 (by decide) (off11 c 1 3) hv1224) $$ HO
  iintro HO
  iapply (r_loadT m c 2 0 (pc_st 2 0) rfl) $$ HRT2
  iintro %v1253 %hv1253 HRT2
  iapply Hk $$ %_ %_ %_ %_ %hv1253 HO HRT2

theorem part39 (c : Dev nD) (v8 v1252 : BitVec 32) (v1254 : FVec F S32x1024 .f32) (v1257 v1258 : BitVec 32) (hv1254 : IsRed m (sd c 23) v1254) {α : Type} {Q : α → sProp 𝕄}
    {k : (Σ' (v1288 : FVec F S32x1024 .f32) (v1291 : BitVec 32), BitVec 32) → Prog (TpuEff nD τ sig (Elt F) Λ₀ .tc) α} :
    ctx m K ⊢ iprop(OutR m c 23 -∗ rk m true c 2 -∗
      (∀ (r0 : FVec F S32x1024 .f32) (r1 : BitVec 32) (r2 : BitVec 32), ⌜IsRed m (sd c 25) r0⌝ -∗ OutR m c 25 -∗ rk m true c 2 -∗ WP c (k ⟨r0, r1, r2⟩) Q)
      -∗ WP c (k0_part39 (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) cc0_scratch1 cc0_scratch2 (Memref.whole cc0_scratch3) (Memref.isWhole_whole _) cc0_scratch4 cc0_scratch5
      (Memref.whole cc0_scratch6) (Memref.isWhole_whole _) cc0_scratch7 cc0_scratch8 cc0_scratch9 cc0_scratch10 (Memref.whole cc0_scratch11) (Memref.isWhole_whole _)
      cc0_scratch12 cc0_scratch13 cc0_scratch14 cc0_scratch15 c v8 v1252 v1254 v1257 v1258 >>= k) Q) := by
  rw [k0_part39_eq_skeleton]; unfold k0_part39_skel
  simp only [semSignalWord, semWaitWord, Prog.lift, Prog.bind_op, Prog.bind_ret, Prog.pure_eq_ret, wp_deviceId]
  iintro #Hx HO HRT2 Hk
  iapply (ld m c 23 (by decide) (off12 c 1 0)) $$ HO
  iintro %_ HO
  iapply (st m c 23 24 (by decide) (off12 c 1 0) hv1254) $$ HO
  iintro HO
  iapply (r_loadT m c 2 1 (pc_st 2 1) rfl) $$ HRT2
  iintro %v1270 %hv1270 HRT2
  iapply (ld m c 24 (by decide) (off12 c 1 1)) $$ HO
  iintro %_ HO
  iapply (st m c 24 25 (by decide) (off12 c 1 1) hv1270) $$ HO
  iintro HO
  iapply (r_loadT m c 2 2 (pc_st 2 2) rfl) $$ HRT2
  iintro %v1287 %hv1287 HRT2
  iapply Hk $$ %_ %_ %_ %hv1287 HO HRT2

theorem part40 (c : Dev nD) (v8 v25 v28 v1252 : BitVec 32) (v1288 : FVec F S32x1024 .f32) (v1291 v1292 : BitVec 32) (hv1288 : IsRed m (sd c 25) v1288) {α : Type} {Q : α → sProp 𝕄}
    {k : (Σ' (v1324 : BitVec 32), BitVec 32) → Prog (TpuEff nD τ sig (Elt F) Λ₀ .tc) α} :
    ctx m K ⊢ iprop(OutR m c 25 -∗ rk m true c 2 -∗
      (∀ (r0 : BitVec 32) (r1 : BitVec 32), OutR m c 27 -∗ rk m true c 2 -∗ WP c (k ⟨r0, r1⟩) Q)
      -∗ WP c (k0_part40 (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) cc0_scratch1 cc0_scratch2 (Memref.whole cc0_scratch3) (Memref.isWhole_whole _) cc0_scratch4 cc0_scratch5
      (Memref.whole cc0_scratch6) (Memref.isWhole_whole _) cc0_scratch7 cc0_scratch8 cc0_scratch9 cc0_scratch10 (Memref.whole cc0_scratch11) (Memref.isWhole_whole _)
      cc0_scratch12 cc0_scratch13 cc0_scratch14 cc0_scratch15 c v8 v25 v28 v1252 v1288 v1291 v1292 >>= k) Q) := by
  rw [k0_part40_eq_skeleton]; unfold k0_part40_skel
  simp only [semSignalWord, semWaitWord, Prog.lift, Prog.bind_op, Prog.bind_ret, Prog.pure_eq_ret, wp_deviceId]
  iintro #Hx HO HRT2 Hk
  iapply (ld m c 25 (by decide) (off12 c 1 2)) $$ HO
  iintro %_ HO
  iapply (st m c 25 26 (by decide) (off12 c 1 2) hv1288) $$ HO
  iintro HO
  iapply (r_loadT m c 2 3 (pc_st 2 3) rfl) $$ HRT2
  iintro %v1304 %hv1304 HRT2
  iapply (ld m c 26 (by decide) (off12 c 1 3)) $$ HO
  iintro %_ HO
  iapply (st m c 26 27 (by decide) (off12 c 1 3) hv1304) $$ HO
  iintro HO
  iapply Hk $$ %_ %_ HO HRT2

theorem part41 (c : Dev nD) (v8 v11 v1324 v1325 : BitVec 32)  {α : Type} {Q : α → sProp 𝕄}
    {k : (Σ' (v1344 : BitVec 32), FVec F S32x1024 .f32) → Prog (TpuEff nD τ sig (Elt F) Λ₀ .tc) α} :
    ctx m K ⊢ iprop(Run m c 20 21 -∗
      (∀ (r0 : BitVec 32) (r1 : FVec F S32x1024 .f32), ⌜IsRed m (sd c 27) r1⌝ -∗ Run m c 20 22 -∗ rP false c (hfR 3 false).set fullShare (RC m false c) -∗ WP c (k ⟨r0, r1⟩) Q)
      -∗ WP c (k0_part41 (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) cc0_scratch1 cc0_scratch2 (Memref.whole cc0_scratch3) (Memref.isWhole_whole _) cc0_scratch4 cc0_scratch5
      (Memref.whole cc0_scratch6) (Memref.isWhole_whole _) cc0_scratch7 cc0_scratch8 cc0_scratch9 cc0_scratch10 (Memref.whole cc0_scratch11) (Memref.isWhole_whole _)
      cc0_scratch12 cc0_scratch13 cc0_scratch14 cc0_scratch15 v8 v11 v1324 v1325 >>= k) Q) := by
  rw [k0_part41_eq_skeleton]; unfold k0_part41_skel
  simp only [semSignalWord, semWaitWord, Prog.lift, Prog.bind_op, Prog.bind_ret, Prog.pure_eq_ret, wp_deviceId]
  iintro #Hx HR Hk
  iapply (wt_in m K (.s false 2) c 20 21 22 (by decide) rfl rfl) $$ Hx HR
  iintro HR HDsF2
  ihave HQF := (slot3 m false c) $$ HDsF2
  iapply (r_loadF m c 3 0 (pc_hfF 0 (by decide)) rfl) $$ HQF
  iintro %v1345 %hv1345 HQF
  iapply Hk $$ %_ %_ %hv1345 HR HQF

theorem part42 (c : Dev nD) (v8 v11 v41 v44 v1344 : BitVec 32) (v1346 : FVec F S32x1024 .f32) (hv1346 : IsRed m (sd c 27) v1346) {α : Type} {Q : α → sProp 𝕄}
    {k : (Σ' (v1391 : BitVec 32), BitVec 32) → Prog (TpuEff nD τ sig (Elt F) Λ₀ .tc) α} :
    ctx m K ⊢ iprop(Run m c 20 22 -∗ OutR m c 27 -∗ rP false c (hfR 3 false).set fullShare (RC m false c) -∗
      (∀ (r0 : BitVec 32) (r1 : BitVec 32), Run m c 20 23 -∗ OutR m c 29 -∗ rP false c (hfR 3 false).set fullShare (RC m false c) -∗ (X.s true 2).dpts m c -∗ WP c (k ⟨r0, r1⟩) Q)
      -∗ WP c (k0_part42 (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) cc0_scratch1 cc0_scratch2 (Memref.whole cc0_scratch3) (Memref.isWhole_whole _) cc0_scratch4 cc0_scratch5
      (Memref.whole cc0_scratch6) (Memref.isWhole_whole _) cc0_scratch7 cc0_scratch8 cc0_scratch9 cc0_scratch10 (Memref.whole cc0_scratch11) (Memref.isWhole_whole _)
      cc0_scratch12 cc0_scratch13 cc0_scratch14 cc0_scratch15 c v8 v11 v41 v44 v1344 v1346 >>= k) Q) := by
  rw [k0_part42_eq_skeleton]; unfold k0_part42_skel
  simp only [semSignalWord, semWaitWord, Prog.lift, Prog.bind_op, Prog.bind_ret, Prog.pure_eq_ret, wp_deviceId]
  iintro #Hx HR HO HQF Hk
  iapply (ld m c 27 (by decide) (off9b c 0)) $$ HO
  iintro %_ HO
  iapply (st m c 27 28 (by decide) (off9b c 0) hv1346) $$ HO
  iintro HO
  iapply (r_loadF m c 3 1 (pc_hfF 1 (by decide)) rfl) $$ HQF
  iintro %v1362 %hv1362 HQF
  iapply (ld m c 28 (by decide) (off9b c 1)) $$ HO
  iintro %_ HO
  iapply (st m c 28 29 (by decide) (off9b c 1) hv1362) $$ HO
  iintro HO
  iapply (wt_in m K (.s true 2) c 20 22 23 (by decide) rfl rfl) $$ Hx HR
  iintro HR HDsT2
  iapply Hk $$ %_ %_ HR HO HQF HDsT2

theorem part43 (c : Dev nD) (v8 v1391 c8_i32_1024 : BitVec 32)  {α : Type} {Q : α → sProp 𝕄}
    {k : (Σ' (v1402 : BitVec 32) (v1421 : FVec F S32x1024 .f32) (v1424 : BitVec 32), BitVec 32) → Prog (TpuEff nD τ sig (Elt F) Λ₀ .tc) α} :
    ctx m K ⊢ iprop(OutR m c 29 -∗ (X.s true 2).dpts m c -∗
      (∀ (r0 : BitVec 32) (r1 : FVec F S32x1024 .f32) (r2 : BitVec 32) (r3 : BitVec 32), ⌜IsRed m (sd c 30) r1⌝ -∗ OutR m c 30 -∗ rP true c (hfR 3 true).set fullShare (RC m true c) -∗ WP c (k ⟨r0, r1, r2, r3⟩) Q)
      -∗ WP c (k0_part43 (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) cc0_scratch1 cc0_scratch2 (Memref.whole cc0_scratch3) (Memref.isWhole_whole _) cc0_scratch4 cc0_scratch5
      (Memref.whole cc0_scratch6) (Memref.isWhole_whole _) cc0_scratch7 cc0_scratch8 cc0_scratch9 cc0_scratch10 (Memref.whole cc0_scratch11) (Memref.isWhole_whole _)
      cc0_scratch12 cc0_scratch13 cc0_scratch14 cc0_scratch15 c v8 v1391 c8_i32_1024 >>= k) Q) := by
  rw [k0_part43_eq_skeleton]; unfold k0_part43_skel
  simp only [semSignalWord, semWaitWord, Prog.lift, Prog.bind_op, Prog.bind_ret, Prog.pure_eq_ret, wp_deviceId]
  iintro #Hx HO HDsT2 Hk
  ihave HQT := (slot3 m true c) $$ HDsT2
  iapply (r_loadT m c 3 2 (pc_hfT 2 (by decide)) rfl) $$ HQT
  iintro %v1403 %hv1403 HQT
  iapply (ld m c 29 (by decide) (off9b c 2)) $$ HO
  iintro %_ HO
  iapply (st m c 29 30 (by decide) (off9b c 2) hv1403) $$ HO
  iintro HO
  iapply (r_loadT m c 3 3 (pc_hfT 3 (by decide)) rfl) $$ HQT
  iintro %v1420 %hv1420 HQT
  iapply Hk $$ %_ %_ %_ %_ %hv1420 HO HQT

theorem part44 (c : Dev nD) (v1402 : BitVec 32) (v1421 : FVec F S32x1024 .f32) (v1424 v1425 : BitVec 32) (hv1421 : IsRed m (sd c 30) v1421) {α : Type} {Q : α → sProp 𝕄}
    {k : (PUnit) → Prog (TpuEff nD τ sig (Elt F) Λ₀ .tc) α} :
    ctx m K ⊢ iprop(Run m c 20 23 -∗ OutR m c 30 -∗
      (Run m c 20 26 -∗ OutR m c 31 -∗ WP c (k ⟨⟩) Q)
      -∗ WP c (k0_part44 (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) cc0_scratch1 cc0_scratch2 (Memref.whole cc0_scratch3) (Memref.isWhole_whole _) cc0_scratch4 cc0_scratch5
      (Memref.whole cc0_scratch6) (Memref.isWhole_whole _) cc0_scratch7 cc0_scratch8 cc0_scratch9 cc0_scratch10 (Memref.whole cc0_scratch11) (Memref.isWhole_whole _)
      cc0_scratch12 cc0_scratch13 cc0_scratch14 cc0_scratch15 c v1402 v1421 v1424 v1425 >>= k) Q) := by
  rw [k0_part44_eq_skeleton]; unfold k0_part44_skel
  simp only [semSignalWord, semWaitWord, Prog.lift, Prog.bind_op, Prog.bind_ret, Prog.pure_eq_ret, wp_deviceId]
  iintro #Hx HR HO Hk
  iapply (ld m c 30 (by decide) (off9b c 3)) $$ HO
  iintro %_ HO
  iapply (st m c 30 31 (by decide) (off9b c 3) hv1421) $$ HO
  iintro HO
  iapply (wt_out m K (.g 0) c 23 24 (by decide) rfl rfl) $$ Hx HR
  iintro HR
  iapply (wt_out m K (.g 1) c 24 25 (by decide) rfl rfl) $$ Hx HR
  iintro HR
  iapply (wt_out m K (.g 2) c 25 26 (by decide) rfl rfl) $$ Hx HR
  iintro HR
  iapply Hk $$ HR HO

theorem part45 (c : Dev nD)  {α : Type} {Q : α → sProp 𝕄}
    {k : (PUnit) → Prog (TpuEff nD τ sig (Elt F) Λ₀ .tc) α} :
    ctx m K ⊢ iprop(Run m c 20 26 -∗
      (Run m c 20 30 -∗ WP c (k ⟨⟩) Q)
      -∗ WP c (k0_part45 (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) cc0_scratch1 cc0_scratch2 (Memref.whole cc0_scratch3) (Memref.isWhole_whole _) cc0_scratch4 cc0_scratch5
      (Memref.whole cc0_scratch6) (Memref.isWhole_whole _) cc0_scratch7 cc0_scratch8 cc0_scratch9 cc0_scratch10 (Memref.whole cc0_scratch11) (Memref.isWhole_whole _)
      cc0_scratch12 cc0_scratch13 cc0_scratch14 cc0_scratch15 c >>= k) Q) := by
  rw [k0_part45_eq_skeleton]; unfold k0_part45_skel
  simp only [semSignalWord, semWaitWord, Prog.lift, Prog.bind_op, Prog.bind_ret, Prog.pure_eq_ret, wp_deviceId]
  iintro #Hx HR Hk
  iapply (wt_out m K (.w false 0) c 26 27 (by decide) rfl rfl) $$ Hx HR
  iintro HR
  iapply (wt_out m K (.w false 1) c 27 28 (by decide) rfl rfl) $$ Hx HR
  iintro HR
  iapply (wt_out m K (.w false 2) c 28 29 (by decide) rfl rfl) $$ Hx HR
  iintro HR
  iapply (wt_out m K (.w false 3) c 29 30 (by decide) rfl rfl) $$ Hx HR
  iintro HR
  iapply Hk $$ HR

theorem part46 (c : Dev nD)  {α : Type} {Q : α → sProp 𝕄}
    {k : (PUnit) → Prog (TpuEff nD τ sig (Elt F) Λ₀ .tc) α} :
    ctx m K ⊢ iprop(Run m c 20 30 -∗
      (Run m c 20 34 -∗ WP c (k ⟨⟩) Q)
      -∗ WP c (k0_part46 (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) cc0_scratch1 cc0_scratch2 (Memref.whole cc0_scratch3) (Memref.isWhole_whole _) cc0_scratch4 cc0_scratch5
      (Memref.whole cc0_scratch6) (Memref.isWhole_whole _) cc0_scratch7 cc0_scratch8 cc0_scratch9 cc0_scratch10 (Memref.whole cc0_scratch11) (Memref.isWhole_whole _)
      cc0_scratch12 cc0_scratch13 cc0_scratch14 cc0_scratch15 c >>= k) Q) := by
  rw [k0_part46_eq_skeleton]; unfold k0_part46_skel
  simp only [semSignalWord, semWaitWord, Prog.lift, Prog.bind_op, Prog.bind_ret, Prog.pure_eq_ret, wp_deviceId]
  iintro #Hx HR Hk
  iapply (wt_out m K (.w true 0) c 30 31 (by decide) rfl rfl) $$ Hx HR
  iintro HR
  iapply (wt_out m K (.w true 1) c 31 32 (by decide) rfl rfl) $$ Hx HR
  iintro HR
  iapply (wt_out m K (.w true 2) c 32 33 (by decide) rfl rfl) $$ Hx HR
  iintro HR
  iapply (wt_out m K (.w true 3) c 33 34 (by decide) rfl rfl) $$ Hx HR
  iintro HR
  iapply Hk $$ HR

theorem part47 (c : Dev nD)  {α : Type} {Q : α → sProp 𝕄}
    {k : (PUnit) → Prog (TpuEff nD τ sig (Elt F) Λ₀ .tc) α} :
    ctx m K ⊢ iprop(Run m c 20 34 -∗
      (Run m c 20 38 -∗ WP c (k ⟨⟩) Q)
      -∗ WP c (k0_part47 (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) cc0_scratch1 cc0_scratch2 (Memref.whole cc0_scratch3) (Memref.isWhole_whole _) cc0_scratch4 cc0_scratch5
      (Memref.whole cc0_scratch6) (Memref.isWhole_whole _) cc0_scratch7 cc0_scratch8 cc0_scratch9 cc0_scratch10 (Memref.whole cc0_scratch11) (Memref.isWhole_whole _)
      cc0_scratch12 cc0_scratch13 cc0_scratch14 cc0_scratch15  >>= k) Q) := by
  rw [k0_part47_eq_skeleton]; unfold k0_part47_skel
  simp only [semSignalWord, semWaitWord, Prog.lift, Prog.bind_op, Prog.bind_ret, Prog.pure_eq_ret, wp_deviceId]
  iintro #Hx HR Hk
  iapply (wt_out m K (.s false 0) c 34 35 (by decide) rfl rfl) $$ Hx HR
  iintro HR
  iapply (wt_out m K (.s true 0) c 35 36 (by decide) rfl rfl) $$ Hx HR
  iintro HR
  iapply (wt_out m K (.s false 1) c 36 37 (by decide) rfl rfl) $$ Hx HR
  iintro HR
  iapply (wt_out m K (.s true 1) c 37 38 (by decide) rfl rfl) $$ Hx HR
  iintro HR
  iapply Hk $$ HR

end Cert.Ring

end
-- ==== Proof.Body.lean ====
/-
The body as a whole.
-/
module

public import proofs.«01_k».proof.Proof.PartsA
public import proofs.«01_k».proof.Proof.PartsB
public import proofs.«01_k».proof.Proof.PartsC
public import proofs.«01_k».proof.Proof.PartsD

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Option (X × Bool) → ℕ)

set_option backward.proofsInPublic true

theorem bigSep_bool (f : Bool → sProp 𝕄) : (bigSep Finset.univ f) = iprop(f false ∗ f true) := by
  rw [bigSep_eq_bigSepL_of_eq [false, true] (by decide) (by decide)]
  rfl

theorem assoc4 (P Q R S : sProp 𝕄) : iprop(P ∗ Q ∗ R ∗ S) = iprop((P ∗ Q ∗ R) ∗ S) := by
  have h1 : iprop(P ∗ Q ∗ R ∗ S) ⊢ iprop((P ∗ Q ∗ R) ∗ S) := by
    iintro ⟨H1, H2, H3, H4⟩
    isplitl [H1 H2 H3]
    · isplitl [H1]; · iexact H1
      isplitl [H2] <;> iassumption
    iexact H4
  have h2 : iprop((P ∗ Q ∗ R) ∗ S) ⊢ iprop(P ∗ Q ∗ R ∗ S) := by
    iintro ⟨⟨H1, H2, H3⟩, H4⟩
    isplitl [H1]; · iexact H1
    isplitl [H2]; · iexact H2
    isplitl [H3] <;> iassumption
  exact BI.equiv_iff.mp ⟨h1, h2⟩
theorem WP_bind {α β : Type} (c : Dev nD) (p : Prog (TpuEff nD τ sig (Elt F) Λ₀ .tc) α) (k : α → Prog (TpuEff nD τ sig (Elt F) Λ₀ .tc) β) (Q : β → sProp 𝕄) :
    WP c (p >>= k) Q = WP c p fun a => WP c (k a) Q := wp_bind _ _ _ _ _ _
theorem WP_ret {α : Type} (c : Dev nD) (a : α) (Q : α → sProp 𝕄) : Q a ⊢ WP c (.ret a) Q := by
  show Q a ⊢ iprop(|={Set.univ}[frame]=> Q a)
  iintro H
  imodintro
  iexact H

/-- What a device has to begin with, besides its debts and its peers' buffers. -/
def rest0 (c : Dev nD) : sProp 𝕄 :=
  iprop((bigSep Finset.univ fun t : X => iprop(dutyTok ER (cell c t false) 0 (0 : Fin 5) ∗ dutyTok ER (cell (t.tgt c) t true) 0 (0 : Fin 5) ∗ atPos ER (cell c t false) 0 ∅ 0))
    ∗ bigSep Finset.univ fun t : X => wt (F := F) c (t, true))

theorem run_start (c : Dev nD) : iprop((∃ W, owes (c : Thread nD τ) (Ow c 0) W) ∗ rest0 c ∗ (bigSep Finset.univ fun t : X => t.dany (F := F) (t.tgt c))) ⊢ Run m c 0 0 := by
  have h1 : (bigSep Finset.univ fun t : X => if 0 ≤ t.ord then snd (F := F) c t else iprop(emp))
      = iprop((bigSep Finset.univ fun t : X => iprop(dutyTok ER (cell c t false) 0 (0 : Fin 5) ∗ dutyTok ER (cell (t.tgt c) t true) 0 (0 : Fin 5) ∗ atPos ER (cell c t false) 0 ∅ 0))
        ∗ bigSep Finset.univ fun t : X => t.dany (F := F) (t.tgt c)) := by
    rw [← bigSep_sep']
    refine bigSep_congr fun t _ => ?_
    rw [if_pos (Nat.zero_le _)]
    unfold snd
    exact assoc4 _ _ _ _
  have h2 : (bigSep Finset.univ fun x : X × Bool => wst m c 0 0 x) = bigSep Finset.univ fun t : X => wt (F := F) c (t, true) := by
    rw [bigSep_univ_prod]
    refine bigSep_congr fun t _ => ?_
    rw [bigSep_bool]
    unfold wst
    rw [if_neg (Nat.not_lt_zero _), if_neg (by simp), if_neg (Nat.not_lt_zero _), if_pos (Or.inl rfl)]
    exact emp_sep_eq _
  unfold Run rest0
  rw [h1, h2]
  iintro ⟨H1, ⟨H2, H3⟩, H4⟩
  isplitl [H1]; · iexact H1
  isplitl [H2 H4]
  · isplitl [H2] <;> iassumption
  iexact H3

/-- What a device holds once it has run the body. -/
def fin0 (c : Dev nD) : sProp 𝕄 :=
  iprop(semVal (barCell c) 0
    ∗ Run m c 20 40
    ∗ OutR m c 31
    ∗ dyP m c
    ∗ wP m c
    ∗ zP c (slR 0).set fullShare (ZC m c)
    ∗ zP c (slR 1).set fullShare (ZC m c)
    ∗ zP c (slR 2).set fullShare (ZC m c)
    ∗ gk m c 0
    ∗ gk m c 1
    ∗ gk m c 2
    ∗ rk m false c 0
    ∗ rk m false c 1
    ∗ hk m false c
    ∗ rk m false c 2
    ∗ rP false c (hfR 3 false).set fullShare (RC m false c)
    ∗ rk m true c 0
    ∗ rk m true c 1
    ∗ hk m true c
    ∗ rk m true c 2
    ∗ rP true c (hfR 3 true).set fullShare (RC m true c))

set_option maxHeartbeats 4000000 in
theorem body_run (c : Dev nD) {f} {Q : PUnit → sProp 𝕄} :
    ctx m K ⊢ iprop(Bar c 0 -∗ rest0 c -∗ atPos ER (barCell c) 0 ∅ 0 -∗ cred (tallyAt (barCell c) () 5) -∗ dyP m c -∗ wP m c -∗ outP c Finset.univ fullShare f -∗ (fin0 m c -∗ Q ⟨⟩)
      -∗ WP c (cc0_body (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) cc0_scratch1 cc0_scratch2 (Memref.whole cc0_scratch3) (Memref.isWhole_whole _) cc0_scratch4 cc0_scratch5
      (Memref.whole cc0_scratch6) (Memref.isWhole_whole _) cc0_scratch7 cc0_scratch8 cc0_scratch9 cc0_scratch10 (Memref.whole cc0_scratch11) (Memref.isWhole_whole _)
      cc0_scratch12 cc0_scratch13 cc0_scratch14 cc0_scratch15) Q) := by
  rw [cc0_body_eq_skeleton]; unfold cc0_body_skel
  rw [WP_bind, k0_part48_eq_skeleton]; unfold k0_part48_skel
  iintro #Hx HB HRest0 HAt HCr HDy HW HOut Hk
  iapply (part1 m K c) $$ Hx
  iintro %_ %_ %_ %_ %_ %_ %_ %_ %_ %_
  dsimp only
  iapply (part2 m K c _ _ _ _ _ _) $$ Hx HB
  iintro %_ %_ %_ %_ %_ HB
  dsimp only
  iapply (part3 m K c _ _ _ _ _ _ _ _) $$ Hx HB
  iintro %_ %_ HB
  dsimp only
  iapply (part4 m K c _ _ _ _ _ _) $$ Hx HB HAt HCr HDy HW HOut
  iintro %_ %_ %_ %_ HOw HSv HAny HDy HW HSz0 HSz1 HSz2 HOwn HRest
  dsimp only
  ihave HR := (run_start m c) $$ [HOw HRest0 HAny]
  · isplitl [HOw]; · iexact HOw
    isplitl [HRest0] <;> iassumption
  iapply (part5 m K c _ _ _ _ _ _ _ _) $$ Hx HR HSz0
  iintro %_ %_ %_ HR
  dsimp only
  iapply (part6 m K c _ _ _ _ _ _ _) $$ Hx HR HSz1
  iintro %_ %_ %_ %_ %_ HR
  dsimp only
  iapply (part7 m K c _ _ _ _ _ _ _ _ _) $$ Hx HR HSz2
  iintro %_ HR HDz0
  iapply (part8 m K c _ _ _ _ _ _ _) $$ Hx HR HOwn HDz0
  iintro %_ %_ %_ %_ %h8 HR HOwn HZ0 HZ1 HZ2
  dsimp only
  iapply (part9 m K c _ _ _ _ _ _ _ _ _ _ h8) $$ Hx HR HOwn
  iintro %_ %_ HR HSg0 HSg1 HSg2
  dsimp only
  iapply (part10 m K c _ _ _ _ _ _) $$ Hx HR HSg0
  iintro %_ HR
  iapply (part11 m K c _ _ _ _ _) $$ Hx
  iapply (part12 m K c _ _ _ _) $$ Hx HR HSg1
  iintro HR
  iapply (part13 m K c _ _ _ _) $$ Hx HR HSg2
  iintro HR HSz0 HSz1 HSz2
  iapply (part14 m K c _ _ _ _ _) $$ Hx HR
  iintro %_ %_ %_ HR HG0
  dsimp only
  iapply (part15 m K c _ _ _ _ _ _ _ _ _) $$ Hx HR HG0 HSz0 HSz1 HSz2 HRest
  iintro %_ %_ HR HO HG0 HDg1
  dsimp only
  iapply (part16 m K c _ _ _ _ _) $$ Hx HR HDg1
  iintro %_ %_ %_ HR HG1
  dsimp only
  iapply (part17 m K c _ _ _ _ _ _ _ _ _) $$ Hx HR HO HG1
  iintro HR HO HG1 HDg0
  iapply (part18 m K c _ _ _ _) $$ Hx HR HDg0
  iintro %a18 %h18 HR HG2
  iapply (part19 m K c _ _ _ _ h18) $$ Hx HR HO
  iintro %_ %_ HR HO HDwF0 HDwF1
  dsimp only
  iapply (part20 m K c _ _ _ _ _) $$ Hx HR
  iintro HR HDwF2 HDwF3
  iapply (part21 m K c _ _ _) $$ Hx HR HDwF0 HDwF1 HDwF2 HDwF3
  iintro %_ HR HRF0 HDwT0 HDwT1
  iapply (part22 m K c _ _ _ _) $$ Hx HR
  iintro HR HDwT2 HDwT3
  iapply (part23 m K c _ _) $$ Hx HR HO HDwT0 HDwT1 HDwT2 HDwT3 HRF0
  iintro %_ %a23 %h23 HR HO HRT0 HRF0
  dsimp only
  iapply (part24 m K c _ _ _ h23) $$ Hx HO HRF0
  iintro %a24 %h24 HO HRF0
  iapply (part25 m K c _ _ _ _ h24) $$ Hx HO HRF0 HRT0
  iintro %_ %a25 %_ %_ %_ %h25 HO HRF0 HRT0
  dsimp only
  iapply (part26 m K c _ _ _ _ _ _ h25) $$ Hx HO HRT0
  iintro %a26 %_ %_ %_ %h26 HO HRT0
  dsimp only
  iapply (part27 m K c _ _ _ _ _ _ _ h26) $$ Hx HO HRT0
  iintro %_ %_ HO HRT0
  dsimp only
  iapply (part28 m K c _ _ _ _ _ _ _) $$ Hx HR
  iintro HR HRF1
  iapply (part29 m K c _ _ _ _) $$ Hx HR
  iintro %_ HR HRT1
  iapply (part30 m K c _ _) $$ Hx HO HRF1
  iintro HO HRF1
  iapply (part31 m K c _ _ _) $$ Hx HO HRF1
  iintro %_ %_ HO HRF1
  dsimp only
  iapply (part32 m K c _ _ _) $$ Hx HO HRT1
  iintro %_ %a32 %_ %_ %_ %_ %h32 HO HRT1
  dsimp only
  iapply (part33 m K c _ _ _ _ _ _ _ h32) $$ Hx HO HRT1
  iintro %a33 %_ %_ %_ %_ %h33 HO HRT1
  dsimp only
  iapply (part34 m K c _ _ _ _ _ _ _ _ _ h33) $$ Hx HR HO
  iintro HR HO HDsF1
  iapply (part35 m K c _ _ _) $$ Hx HR HDsF1
  iintro HR HHF HRF2 HDsT1
  iapply (part36 m K c _ _) $$ Hx HR HO HDsT1 HRF2
  iintro %_ %a36 %h36 HR HO HHT HRT2 HRF2
  dsimp only
  iapply (part37 m K c _ _ _ h36) $$ Hx HO HRF2
  iintro %a37 %h37 HO HRF2
  iapply (part38 m K c _ _ _ _ h37) $$ Hx HO HRT2
  iintro %_ %a38 %_ %_ %h38 HO HRT2
  dsimp only
  iapply (part39 m K c _ _ _ _ _ h38) $$ Hx HO HRT2
  iintro %a39 %_ %_ %h39 HO HRT2
  dsimp only
  iapply (part40 m K c _ _ _ _ _ _ _ h39) $$ Hx HO HRT2
  iintro %_ %_ HO HRT2
  dsimp only
  iapply (part41 m K c _ _ _ _) $$ Hx HR
  iintro %_ %a41 %h41 HR HQF
  dsimp only
  iapply (part42 m K c _ _ _ _ _ _ h41) $$ Hx HR HO HQF
  iintro %_ %_ HR HO HQF HDsT2
  dsimp only
  iapply (part43 m K c _ _ _) $$ Hx HO HDsT2
  iintro %_ %a43 %_ %_ %h43 HO HQT
  dsimp only
  iapply (part44 m K c _ _ _ _ h43) $$ Hx HR HO
  iintro HR HO
  iapply (part45 m K c) $$ Hx HR
  iintro HR
  iapply (part46 m K c) $$ Hx HR
  iintro HR
  iapply (part47 m K c) $$ Hx HR
  iintro HR
  simp only [Prog.lift, Prog.bind_op, Prog.bind_ret, Prog.pure_eq_ret]
  iapply (wt_out m K (.s false 2) c 38 39 (by decide) rfl rfl) $$ Hx HR
  iintro HR
  iapply (WP_ret c)
  iapply (wt_out m K (.s true 2) c 39 40 (by decide) rfl rfl) $$ Hx HR
  iintro HR
  iapply (WP_ret c)
  iapply Hk
  unfold fin0
  isplitl [HSv]; · iexact HSv
  isplitl [HR]; · iexact HR
  isplitl [HO]; · iexact HO
  isplitl [HDy]; · iexact HDy
  isplitl [HW]; · iexact HW
  isplitl [HZ0]; · iexact HZ0
  isplitl [HZ1]; · iexact HZ1
  isplitl [HZ2]; · iexact HZ2
  isplitl [HG0]; · iexact HG0
  isplitl [HG1]; · iexact HG1
  isplitl [HG2]; · iexact HG2
  isplitl [HRF0]; · iexact HRF0
  isplitl [HRF1]; · iexact HRF1
  isplitl [HHF]; · iexact HHF
  isplitl [HRF2]; · iexact HRF2
  isplitl [HQF]; · iexact HQF
  isplitl [HRT0]; · iexact HRT0
  isplitl [HRT1]; · iexact HRT1
  isplitl [HHT]; · iexact HHT
  isplitl [HRT2]; · iexact HRT2
  iexact HQT

end Cert.Ring

end
-- ==== Proof.Ends.lean ====
/-
The two ends of a device's run: its scratch buffers taken apart into what its peers write, and put together again.
-/
module

public import proofs.«01_k».proof.Proof.Body

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Option (X × Bool) → ℕ)

set_option backward.proofsInPublic true

theorem bigSep_X (Φ : X → sProp 𝕄) : bigSep Finset.univ Φ
    = iprop(Φ (.z 0) ∗ Φ (.z 1) ∗ Φ (.z 2) ∗ Φ (.g 0) ∗ Φ (.g 1) ∗ Φ (.g 2)
      ∗ Φ (.w false 0) ∗ Φ (.w false 1) ∗ Φ (.w false 2) ∗ Φ (.w false 3) ∗ Φ (.s false 0) ∗ Φ (.s false 1) ∗ Φ (.s false 2)
      ∗ Φ (.w true 0) ∗ Φ (.w true 1) ∗ Φ (.w true 2) ∗ Φ (.w true 3) ∗ Φ (.s true 0) ∗ Φ (.s true 1) ∗ Φ (.s true 2)) :=
  bigSep_univ_eq_bigSepL (I := X) [.z 0, .z 1, .z 2, .g 0, .g 1, .g 2, .w false 0, .w false 1, .w false 2, .w false 3, .s false 0, .s false 1, .s false 2,
    .w true 0, .w true 1, .w true 2, .w true 3, .s true 0, .s true 1, .s true 2] (by decide) (by decide) Φ

/-- The scratch buffers, at any contents. -/
def scr (c : Dev nD) : sProp 𝕄 :=
  iprop((∃ f, zP (F := F) c Finset.univ fullShare f) ∗ (∃ f, gP (F := F) c Finset.univ fullShare f)
    ∗ (∃ f, rP (F := F) false c Finset.univ fullShare f) ∗ ∃ f, rP (F := F) true c Finset.univ fullShare f)

theorem scr_start (c : Dev nD) : scr (F := F) c ⊢ iprop((bigSep Finset.univ fun t : X => t.dany (F := F) c) ∗ h3 false c ∗ h3 true c) := by
  unfold scr
  rw [bigSep_X]
  iintro ⟨⟨%f0, H0⟩, ⟨%f1, H1⟩, ⟨%f2, H2⟩, ⟨%f3, H3⟩⟩
  ihave H0 := (z_start c f0) $$ H0
  ihave H1 := (g_start c f1) $$ H1
  ihave H2 := (r_start false c f2) $$ H2
  ihave H3 := (r_start true c f3) $$ H3
  icases H0 with ⟨Z2, Z1, Z0⟩
  icases H1 with ⟨G2, G1, G0⟩
  icases H2 with ⟨A0, A1, A2, A3, A4, A5, A6, A7⟩
  icases H3 with ⟨B0, B1, B2, B3, B4, B5, B6, B7⟩
  isplitl [Z0 Z1 Z2 G0 G1 G2 A0 A1 A2 A3 A4 A5 A6 B0 B1 B2 B3 B4 B5 B6]
  · isplitl [Z0]; · iexact Z0
    isplitl [Z1]; · iexact Z1
    isplitl [Z2]; · iexact Z2
    isplitl [G0]; · iexact G0
    isplitl [G1]; · iexact G1
    isplitl [G2]; · iexact G2
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [B0]; · iexact B0
    isplitl [B1]; · iexact B1
    isplitl [B2]; · iexact B2
    isplitl [B3]; · iexact B3
    isplitl [B4]; · iexact B4
    isplitl [B5] <;> iassumption
  isplitl [A7] <;> iassumption

/-- Dealt out by peer, the parts are those of the barrier duties it pays. -/
theorem pays (c : Dev nD) : (bigSep Finset.univ fun i : Fin 5 => barPay (F := F) (peer i c) (opp i)) = bigSep Finset.univ fun t : X => t.dany (F := F) c := by
  have h (i : Fin 5) : barPay (F := F) (peer i c) (opp i) = bigSep Finset.univ fun t : X => if t.grp = opp i then t.dany (F := F) c else iprop(emp) := by
    unfold barPay; rw [peer_opp]
  rw [bigSep_congr fun i _ => h i, bigSep_univ_comm]
  refine bigSep_congr fun t _ => ?_
  rw [bigSep_univ_at _ (opp t.grp), if_pos (opp_opp _).symm,
    bigSep_congr (Ψ := fun _ => iprop(emp)) fun i hi => if_neg fun h => (Finset.mem_erase.mp hi).1 (by rw [h, opp_opp])]
  exact (congrArg _ (bigSep_emp_const _)).trans (sep_emp_eq _)

theorem bar_start (c : Dev nD) : iprop((∃ W, owes (c : Thread nD τ) (O₀ c) W) ∗ (bigSep Finset.univ fun i : Fin 5 => dutyTok ER (barCell (peer i c)) 0 (opp i))
    ∗ bigSep Finset.univ fun t : X => t.dany (F := F) c) ⊢ Bar c 0 := by
  have h : (bigSep Finset.univ fun i : Fin 5 => if 0 ≤ i.val then sig1 (F := F) c i else iprop(emp))
      = iprop((bigSep Finset.univ fun i : Fin 5 => dutyTok ER (barCell (peer i c)) 0 (opp i)) ∗ bigSep Finset.univ fun t : X => t.dany (F := F) c) := by
    rw [← pays, ← bigSep_sep']
    exact bigSep_congr fun i _ => if_pos (Nat.zero_le _)
  unfold Bar
  rw [h]
  exact BI.Entails.refl _

/-- The kept shares, one by one. -/
theorem kept_all (c : Dev nD) : (bigSep Finset.univ fun x : X × Bool => kept m c x)
    ⊢ iprop((X.g 0).spts m c ∗ (X.g 1).spts m c ∗ (X.g 2).spts m c
      ∗ (X.w false 0).spts m c ∗ (X.w false 1).spts m c ∗ (X.w false 2).spts m c ∗ (X.w false 3).spts m c
      ∗ (X.s false 0).spts m c ∗ (X.s false 1).spts m c ∗ (X.s false 2).spts m c
      ∗ (X.w true 0).spts m c ∗ (X.w true 1).spts m c ∗ (X.w true 2).spts m c ∗ (X.w true 3).spts m c
      ∗ (X.s true 0).spts m c ∗ (X.s true 1).spts m c ∗ (X.s true 2).spts m c) := by
  rw [bigSep_univ_prod, bigSep_congr fun t _ => (bigSep_bool fun b => kept m c (t, b)).trans (sep_emp_eq (kept m c (t, false))), bigSep_X]
  have e (k : Fin 3) : kept m c (.z k, false) = iprop(emp) := rfl
  rw [e 0, e 1, e 2, emp_sep_eq'', emp_sep_eq'', emp_sep_eq'']
  exact BI.Entails.refl _

theorem out_join (c : Dev nD) : iprop(outP c (rowR c).set fullShare (FIN m) ∗ outP c (offR c) fullShare (FIN m)) ⊢ outP c Finset.univ fullShare (FIN m) := by
  have h := cut (F := F) (ℓ := (c : Thread nD τ).loc cc0_stg2_0) (I := (rowR c).set) (J := offR c) (S := Finset.univ) (q := fullShare) (f := FIN m)
    (Finset.union_sdiff_of_subset (Finset.subset_univ _)).symm Finset.disjoint_sdiff
  exact Entails.of_eq h.symm

/-- A device's holdings at the end: nothing owed, its semaphores at zero, its operands, the result, its scratch. -/
theorem finish (c : Dev nD) : iprop(fin0 m c ∗ h3 false c ∗ h3 true c)
    ⊢ iprop((∃ W, owes (c : Thread nD τ) 0 W) ∗ semVal (barCell c) 0 ∗ (bigSep Finset.univ fun x : X × Bool => semVal (cell c x.1 x.2) 0)
      ∗ dyP m c ∗ wP m c ∗ outP c Finset.univ fullShare (FIN m) ∗ scr c) := by
  have hd : (bigSep Finset.univ fun x : X × Bool => wst m c 20 40 x) = iprop((bigSep Finset.univ fun x : X × Bool => semVal (cell c x.1 x.2) 0)
      ∗ bigSep Finset.univ fun x : X × Bool => kept m c x) := by
    rw [← bigSep_sep']
    exact bigSep_congr fun x _ => if_pos (wo_lt x)
  have g0 : iprop((X.w false 1).spts m c ∗ (X.w true 1).spts m c ∗ gk m c 0) ⊢ iprop(∃ f, gP c (slR 0).set fullShare f) := gjoin m c 0
  have g1 : iprop((X.w false 2).spts m c ∗ (X.w true 2).spts m c ∗ gk m c 1) ⊢ iprop(∃ f, gP c (slR 1).set fullShare f) := gjoin m c 1
  have g2 : iprop((X.w false 3).spts m c ∗ (X.w true 3).spts m c ∗ gk m c 2) ⊢ iprop(∃ f, gP c (slR 2).set fullShare f) := gjoin m c 2
  unfold fin0 Run
  rw [hd, Ow_end]
  iintro ⟨⟨HB, ⟨HO, -, HS, HK⟩, HR, HDy, HW, Z0, Z1, Z2, G0, G1, G2, A0, A1, A2, A3, A4, B0, B1, B2, B3, B4⟩, A5, B5⟩
  ihave HK := (kept_all m c) $$ HK
  icases HK with ⟨Kg0, Kg1, Kg2, Ka0, Ka1, Ka2, Ka3, Ks0, Ks1, Ks2, Kb0, Kb1, Kb2, Kb3, Kt0, Kt1, Kt2⟩
  isplitl [HO]; · iexact HO
  isplitl [HB]; · iexact HB
  isplitl [HS]; · iexact HS
  isplitl [HDy]; · iexact HDy
  isplitl [HW]; · iexact HW
  isplitl [HR Kg0 Kg1 Kg2 Ka0 Kb0]
  · iapply (out_join m c)
    isplitl [Kg0 Kg1 Kg2 Ka0 Kb0]
    · iapply (own_join m c)
      isplitl [Ka0]; · iexact Ka0
      isplitl [Kb0]; · iexact Kb0
      isplitl [Kg0]; · iexact Kg0
      isplitl [Kg1] <;> iassumption
    iapply (OutR_end m c); iexact HR
  unfold scr
  isplitl [Z0 Z1 Z2]
  · iapply (z_end c)
    isplitl [Z0]; · iexists _; iexact Z0
    isplitl [Z1]; · iexists _; iexact Z1
    iexists _; iexact Z2
  isplitl [G0 G1 G2 Ka1 Ka2 Ka3 Kb1 Kb2 Kb3]
  · iapply (g_end c)
    isplitl [G0 Ka1 Kb1]
    · iapply g0
      isplitl [Ka1]; · iexact Ka1
      isplitl [Kb1] <;> iassumption
    isplitl [G1 Ka2 Kb2]
    · iapply g1
      isplitl [Ka2]; · iexact Ka2
      isplitl [Kb2] <;> iassumption
    iapply g2
    isplitl [Ka3]; · iexact Ka3
    isplitl [Kb3] <;> iassumption
  isplitl [A0 A1 A2 A3 A4 A5 Ks0 Ks1 Ks2]
  · iapply (r_end m false c)
    isplitl [Ks0]; · iexact Ks0
    isplitl [A0]; · iexact A0
    isplitl [Ks1]; · iexact Ks1
    isplitl [A1]; · iexact A1
    isplitl [Ks2]; · iexact Ks2
    isplitl [A2]; · iexact A2
    isplitl [A3]; · iexact A3
    isplitl [A4] <;> iassumption
  iapply (r_end m true c)
  isplitl [Kt0]; · iexact Kt0
  isplitl [B0]; · iexact B0
  isplitl [Kt1]; · iexact Kt1
  isplitl [B1]; · iexact B1
  isplitl [Kt2]; · iexact Kt2
  isplitl [B2]; · iexact B2
  isplitl [B3]; · iexact B3
  isplitl [B4] <;> iassumption

end Cert.Ring

end
-- ==== Proof.Start.lean ====
/-
The launch: each device's tokens, positions and credits dealt from the launch's, and the run of the program.
-/
module

public import proofs.«01_k».proof.Proof.Ends
public import proofs.«01_k».proof.Proof.Gen.KernelIdeal.Frame

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option backward.proofsInPublic true

/-- The memory at launch: any contents, every semaphore counter zero, any generator registers. -/
def s₀ : MemSt nD τ sig (Elt F) := ⟨m, fun _ => 0, ρ⟩

/-! ## The pipeline's data -/

/-- The tokens a device pays its duties with. -/
def payToks (c : Dev nD) : sProp 𝕄 :=
  iprop((bigSep Finset.univ fun i : Fin 5 => dutyTok ER (barCell (peer i c)) 0 (opp i))
    ∗ bigSep Finset.univ fun t : X => iprop(dutyTok ER (cell c t false) 0 (0 : Fin 5) ∗ dutyTok ER (cell (t.tgt c) t true) 0 (0 : Fin 5)))
/-- A device's places in its own cells, and those tokens. -/
def linear (c : Dev nD) : sProp 𝕄 :=
  iprop((bigSep Finset.univ fun x : Option (X × Bool) => atPos ER (kcell (c, x)) 0 ∅ 0) ∗ payToks c)
/-- The credit it waits with. -/
def credits (c : Dev nD) : sProp 𝕄 :=
  iprop(cred (tallyAt (barCell c) () 5) ∗ bigSep Finset.univ fun t : X => cred (tallyAt (cell c t true) () t.N))
def start (c : Dev nD) : sProp 𝕄 := iprop((∃ K, ctx m K) ∗ linear c ∗ credits c)

def Φ₀ (c : Dev nD) : sProp 𝕄 := iprop(start m c ∗ scr c)
def Φ₁ (c : Dev nD) : sProp 𝕄 :=
  iprop(semVal (barCell c) 0 ∗ (bigSep Finset.univ fun x : X × Bool => semVal (cell c x.1 x.2) 0) ∗ scr (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => dyS m c
    | ⟨1, _⟩ => wS m c
    | ⟨2, _⟩ => FIN m
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem before0 (c : Dev nD) (d) : (dats m ρ 0 c).before (0 : Fin 3) t0_0 d = dyS m c := by
  unfold Dat.before; rw [if_pos (fetch0_0 t0_0)]; rfl
theorem before1 (c : Dev nD) (d) : (dats m ρ 0 c).before (1 : Fin 3) t0_0 d = wS m c := by
  unfold Dat.before; rw [if_pos (fetch0_1 t0_0)]; rfl

theorem bigSep_opt (Φ : Option (X × Bool) → sProp 𝕄) : bigSep Finset.univ Φ = iprop(Φ none ∗ bigSep Finset.univ fun x : X × Bool => Φ (some x)) := by
  rw [bigSep_univ_equiv (Equiv.optionEquivSumPUnit.{0, 0} (X × Bool)).symm Φ, bigSep_univ_sum]
  have h : (bigSep Finset.univ fun b : PUnit.{1} => Φ ((Equiv.optionEquivSumPUnit.{0, 0} (X × Bool)).symm (Sum.inr b))) = Φ none := bigSep_singleton
  rw [h]
  exact BI.equiv_iff.mp ⟨Idealize.SL.BI.sep_comm, Idealize.SL.BI.sep_comm⟩

/-- What the body takes of a device's start. -/
theorem start_split (c : Dev nD) : iprop(linear (F := F) c ∗ credits c)
    ⊢ iprop((bigSep Finset.univ fun i : Fin 5 => dutyTok ER (barCell (peer i c)) 0 (opp i)) ∗ rest0 c ∗ atPos ER (barCell c) 0 ∅ 0 ∗ cred (tallyAt (barCell c) () 5)) := by
  have hw : (bigSep Finset.univ fun t : X => wt (F := F) c (t, true)) = iprop((bigSep Finset.univ fun t : X => atPos ER (cell c t true) 0 ∅ 0)
      ∗ bigSep Finset.univ fun t : X => cred (tallyAt (cell c t true) () t.N)) := by
    rw [← bigSep_sep']; rfl
  have ha : (bigSep Finset.univ fun x : X × Bool => (atPos ER (kcell (c, some x)) 0 ∅ 0 : sProp 𝕄)) = iprop((bigSep Finset.univ fun t : X => atPos ER (cell c t false) 0 ∅ 0)
      ∗ bigSep Finset.univ fun t : X => atPos ER (cell c t true) 0 ∅ 0) := by
    rw [bigSep_univ_prod, ← bigSep_sep']
    exact bigSep_congr fun t _ => bigSep_bool _
  unfold linear credits payToks rest0
  rw [hw, bigSep_opt, ha, bigSep_sep', bigSep_sep', bigSep_sep']
  iintro ⟨⟨⟨HB, HF, HT⟩, HD, HS, HV⟩, HC, HCs⟩
  isplitl [HD]; · iexact HD
  isplitl [HF HT HS HV HCs]
  · isplitl [HF HS HV]
    · isplitl [HS]; · iexact HS
      isplitl [HV] <;> iassumption
    isplitl [HT] <;> iassumption
  isplitl [HB] <;> iassumption

/-- The kernel as the program calls it. -/
abbrev call : Prog (TpuEff nD τ sig (Elt F) Λ₀ .tc) PUnit :=
  cc0_body (Memref.whole cc0_stg0_0) (Memref.isWhole_whole _) (Memref.whole cc0_stg1_0) (Memref.isWhole_whole _)
      (Memref.whole cc0_stg2_0) (Memref.isWhole_whole _)
      (Memref.whole cc0_scratch0) (Memref.isWhole_whole _) cc0_scratch1 cc0_scratch2 (Memref.whole cc0_scratch3) (Memref.isWhole_whole _) cc0_scratch4 cc0_scratch5
      (Memref.whole cc0_scratch6) (Memref.isWhole_whole _) cc0_scratch7 cc0_scratch8 cc0_scratch9 cc0_scratch10 (Memref.whole cc0_scratch11) (Memref.isWhole_whole _)
      cc0_scratch12 cc0_scratch13 cc0_scratch14 cc0_scratch15

def bodyPre (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(Φ₁ c ∗ (dats m ρ 0 c).owesAt () t0_0.succ ∗ stg c cc0_stg0_0 (dyS m c) ∗ stg c cc0_stg1_0 (wS m c) ∗ stg c cc0_stg2_0 (FIN m))

theorem sound_body (c : Dev nD) : bodyPre m ρ c ⊢ WP c (call (F := F)) (fun _ => bodyPost m ρ c) := by
  unfold bodyPre Φ₀ start Dat.owesAt Pipeline.owesWithin
  rw [show (dats m ρ 0 c).owed t0_0.castSucc = O₀ c from rfl]
  iintro ⟨⟨⟨⟨%K, #Hx⟩, HL, HC⟩, Hscr⟩, ⟨%W, %hW, HO⟩, ⟨%d0, %g0, %hg0, Hdy⟩, ⟨%d1, %g1, %hg1, Hw⟩, ⟨%d2, %g2, %hg2, Hout⟩⟩
  have h0 : g0 = dyS m c := hg0.trans (before0 m ρ c d0)
  have h1 : g1 = wS m c := hg1.trans (before1 m ρ c d1)
  subst h0 h1
  ihave HS := (start_split (F := F) c) $$ [HL HC]
  · isplitl [HL] <;> iassumption
  icases HS with ⟨HD, HR, HAt, HCr⟩
  ihave HScr := (scr_start (F := F) c) $$ Hscr
  icases HScr with ⟨HX, HA, HB⟩
  ihave HBar := (bar_start (F := F) c) $$ [HO HD HX]
  · isplitl [HO]; · iexists W; iexact HO
    isplitl [HD] <;> iassumption
  iapply (body_run m K c) $$ Hx HBar HR HAt HCr Hdy Hw Hout
  iintro HF
  ihave HF := (finish m c) $$ [HF HA HB]
  · isplitl [HF]; · iexact HF
    isplitl [HA] <;> iassumption
  icases HF with ⟨⟨%W', HO⟩, HSv, HSs, HDy, HW, HOut, Hscr⟩
  unfold bodyPost Φ₁ Dat.owesAt Pipeline.owesWithin
  rw [show (dats m ρ 0 c).owed t0_0.succ = 0 from rfl]
  isplitl [HSv HSs Hscr]
  · isplitl [HSv]; · iexact HSv
    isplitl [HSs] <;> iassumption
  isplitl [HO]
  · iexists W'
    isplitr; · ipureintro; exact fun _ _ => Or.inl trivial
    iexact HO
  isplitl [HDy]
  · iexists _; isplitr; · (ipureintro; rfl)
    iexact HDy
  isplitl [HW]
  · iexists _; isplitr; · (ipureintro; rfl)
    iexact HW
  iexists _; isplitr; · (ipureintro; rfl)
  iexact HOut

set_option maxRecDepth 20000 in
/-- The library's body obligation on device `c`. -/
theorem body_obligation (c : Dev nD) : BodyObligation (dats (F := F) m ρ 0 c) (defs₀ (F := F)) 𝒱₀ () Set.univ := fun t => by
  rw [show t = t0_0 from fin_N0 t]
  rw [show ∀ Φ : Fin cfg0.W → sProp 𝕄, bigSep Finset.univ Φ = iprop(Φ (0 : Fin 3) ∗ Φ (1 : Fin 3) ∗ Φ (2 : Fin 3)) from bigSep_W0,
    show ∀ Φ : Fin cfg0.W → sProp 𝕄, bigSep Finset.univ Φ = iprop(Φ (0 : Fin 3) ∗ Φ (1 : Fin 3) ∗ Φ (2 : Fin 3)) from bigSep_W0]
  simp only [owns_whole_eq]
  show bodyPre m ρ c ⊢ wp frame (wpE (defs₀ (F := F)) 𝒱₀ c none) Set.univ (call (F := F)) (fun _ => bodyPost m ρ c)
  exact sound_body m ρ c

end Cert.Ring

end
-- ==== Proof.Run.lean ====
/-
The run of the program: what the launch deals, the cells put under invariants for all devices at once, and the result.
-/
module

public import proofs.«01_k».proof.Proof.Start
public import Idealize.ShloMosaic.Lib.Pipeline.CollectiveSegs

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option backward.proofsInPublic true

/-! ## What the launch deals -/

abbrev osem (x : X × Bool) : SemLoc sig := .dma (x.1.ds x.2)

theorem ownSemFacts : Pipeline.OwnSemFacts cfg0.spec osem := by decide +kernel

theorem csem_injective : Function.Injective (csem : Option (X × Bool) → SemLoc sig) := by decide +kernel
theorem kcell_injective : Function.Injective (kcell : Dev nD × Option (X × Bool) → GSem nD τ sig) := by
  rintro ⟨c, k⟩ ⟨c', k'⟩ h
  have h1 : c = c' := congrArg (fun g : GSem nD τ sig => g.1.1) h
  subst h1
  exact congrArg (fun k => (c, k)) (csem_injective (congrArg Prod.snd h : csem k = csem k'))
def ringCells : Finset (GSem nD τ sig) := Finset.univ.map ⟨kcell, kcell_injective⟩

/-- A device's own cells' duties: the five of its barrier's, and one of each transfer's cells. -/
abbrev tokOf (x : Dev nD × (Fin 5 ⊕ X × Bool)) : GSem nD τ sig × ℕ × Fin 5 := match x.2 with
  | .inl i => (barCell x.1, 0, i)
  | .inr y => (cell x.1 y.1 y.2, 0, 0)
theorem tokOf_injective : Function.Injective tokOf := by
  rintro ⟨c, j⟩ ⟨c', j'⟩ h
  have h1 : c = c' := by
    have := congrArg (fun x : GSem nD τ sig × ℕ × Fin 5 => x.1.1.1) h
    cases j <;> cases j' <;> exact this
  subst h1
  have h2 := congrArg (fun x : GSem nD τ sig × ℕ × Fin 5 => x.1.2) h
  have h3 := congrArg (fun x : GSem nD τ sig × ℕ × Fin 5 => x.2.2) h
  cases j with
  | inl i => cases j' with
    | inl i' => exact congrArg (fun i => (c, Sum.inl i)) (h3 : i = i')
    | inr y => exact absurd (csem_injective (a₁ := none) (a₂ := some y) h2) (by simp)
  | inr y => cases j' with
    | inl i => exact absurd (csem_injective (a₁ := some y) (a₂ := none) h2) (by simp)
    | inr y' => rw [Option.some.inj (csem_injective (a₁ := some y) (a₂ := some y') h2)]
def ringToks : Finset (GSem nD τ sig × ℕ × Fin 5) := Finset.univ.map ⟨tokOf, tokOf_injective⟩

def u₀ : UU :=
  (initOf (Pipeline.cells cfgs cellOf_inj) (Pipeline.launchToks cfgs cellOf_inj), initOf ringCells ringToks)

/-- The tokens of a device's own cells. -/
def toks (c : Dev nD) : sProp 𝕄 :=
  iprop((bigSep Finset.univ fun i : Fin 5 => dutyTok ER (barCell c) 0 i) ∗ bigSep Finset.univ fun y : X × Bool => dutyTok ER (cell c y.1 y.2) 0 (0 : Fin 5))

def G (c : Dev nD) : sProp 𝕄 :=
  iprop((bigSep Finset.univ fun k : Option (X × Bool) => roundState ER (ringRd m) (kcell (c, k)) 0)
    ∗ (bigSep Finset.univ fun k : Option (X × Bool) => iprop(atPos ER (kcell (c, k)) 0 ∅ 0 ∗ reached ER (kcell (c, k)) 0)) ∗ toks c)

theorem fund_ring : BI.own (ER (initOf ringCells ringToks)) ⊢ (|==> bigSep Finset.univ (G m) : sProp 𝕄) := by
  have hX (Φ : GSem nD τ sig → sProp 𝕄) : bigSep ringCells Φ
      = bigSep Finset.univ fun c : Dev nD => bigSep Finset.univ fun k : Option (X × Bool) => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum]; rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = bigSep Finset.univ fun x : X × Bool => semVal (cell c x.1 x.2) 0 := rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c) := by
  have hv : iprop(Pipeline.ownSems0 (Ix := Unit) (Name := ℕ) (U := UU) (Lvl := ℕ) (Val := Elt F) (τ := τ) osem c ∗ unscopedSems0 c)
      ⊢ (bigSep Finset.univ fun k : Option (X × Bool) => semVal (kcell (c, k)) 0 : sProp 𝕄) := by
    rw [ownSems0_eq, unscopedSems0_eq, bigSep_opt]
    iintro ⟨H1, H2⟩
    isplitl [H2] <;> iassumption
  have ha : iprop((bigSep Finset.univ fun k : Option (X × Bool) => semVal (kcell (c, k)) 0)
      ∗ bigSep Finset.univ fun k : Option (X × Bool) => roundState ER (ringRd m) (kcell (c, k)) 0)
      ⊢ (|={Set.univ}=> bigSep Finset.univ fun k => iprop(∃ κ : ℕ, cellInv ER (ringRd m) κ (kcell (c, k))) : sProp 𝕄) := by
    rw [← bigSep_sep']
    exact (bigSep_mono fun k _ => (Rounds.body_intro ER (ringRd m) (kcell (c, k))).trans inv_alloc).trans (bigSep_fupd _ _)
  unfold G
  iintro ⟨Hos, Hus, Hst, Hat, Htok⟩
  ihave Hv := hv $$ [Hos Hus]
  · isplitl [Hos] <;> iassumption
  imod ha $$ [Hv Hst] with Hinv
  · isplitl [Hv] <;> iassumption
  imodintro
  isplitl [Hinv]; · iexact Hinv
  isplitl [Hat]; · iexact Hat
  iexact Htok

/-! ## The global step -/

def records (K : Dev nD × Option (X × Bool) → ℕ) : sProp 𝕄 :=
  iprop((bigSep Finset.univ fun x => cellInv ER (ringRd m) (K x) (kcell x)) ∗ bigSep Finset.univ fun x : Dev nD × Option (X × Bool) => reached ER (kcell x) 0)

instance records_persistent (K) : BI.Persistent (records m K) := by unfold records; infer_instance

def G' (c : Dev nD) : sProp 𝕄 := iprop(∃ K, records m K ∗ linear c)

/-- The tokens dealt to the devices that pay with them. -/
theorem toks_around : (bigSep Finset.univ fun c : Dev nD => (toks c : sProp 𝕄)) ⊢ bigSep Finset.univ fun c : Dev nD => payToks c := by
  have hb : (bigSep Finset.univ fun c : Dev nD => bigSep Finset.univ fun i : Fin 5 => (dutyTok ER (barCell c) 0 i : sProp 𝕄))
      = bigSep Finset.univ fun c : Dev nD => bigSep Finset.univ fun i : Fin 5 => (dutyTok ER (barCell (peer i c)) 0 (opp i) : sProp 𝕄) := by
    rw [bigSep_univ_comm, bigSep_univ_equiv (⟨opp, opp, opp_opp, opp_opp⟩ : Fin 5 ≃ Fin 5), bigSep_univ_comm (fun (c : Dev nD) (i : Fin 5) => (dutyTok ER (barCell (peer i c)) 0 (opp i) : sProp 𝕄))]
    exact bigSep_congr fun i _ => bigSep_univ_equiv (peer i) fun c : Dev nD => (dutyTok ER (barCell c) 0 (opp i) : sProp 𝕄)
  have hr : (bigSep Finset.univ fun c : Dev nD => bigSep Finset.univ fun t : X => (dutyTok ER (cell c t true) 0 (0 : Fin 5) : sProp 𝕄))
      = bigSep Finset.univ fun c : Dev nD => bigSep Finset.univ fun t : X => (dutyTok ER (cell (t.tgt c) t true) 0 (0 : Fin 5) : sProp 𝕄) := by
    rw [bigSep_univ_comm, bigSep_univ_comm (fun (c : Dev nD) (t : X) => (dutyTok ER (cell (t.tgt c) t true) 0 (0 : Fin 5) : sProp 𝕄))]
    exact bigSep_congr fun t _ => bigSep_univ_equiv t.tgt fun c : Dev nD => (dutyTok ER (cell c t true) 0 (0 : Fin 5) : sProp 𝕄)
  have hs (c : Dev nD) : (bigSep Finset.univ fun y : X × Bool => (dutyTok ER (cell c y.1 y.2) 0 (0 : Fin 5) : sProp 𝕄))
      = iprop((bigSep Finset.univ fun t : X => dutyTok ER (cell c t false) 0 (0 : Fin 5)) ∗ bigSep Finset.univ fun t : X => dutyTok ER (cell c t true) 0 (0 : Fin 5)) := by
    rw [bigSep_univ_prod, ← bigSep_sep']
    exact bigSep_congr fun t _ => bigSep_bool _
  unfold toks payToks
  rw [bigSep_sep', bigSep_sep', hb, bigSep_congr fun c _ => hs c, bigSep_sep', hr,
    bigSep_congr fun (c : Dev nD) _ => bigSep_sep' Finset.univ (fun t : X => (dutyTok ER (cell c t false) 0 (0 : Fin 5) : sProp 𝕄)) (fun t : X => dutyTok ER (cell (t.tgt c) t true) 0 (0 : Fin 5)),
    bigSep_sep']

theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Option (X × Bool) => iprop(∃ κ : ℕ, cellInv ER (ringRd m) κ (kcell ck))),
    bigSep_congr (s := Finset.univ) (fun (c : Dev nD) _ => bigSep_sep' Finset.univ (fun k : Option (X × Bool) => (atPos ER (kcell (c, k)) 0 ∅ 0 : sProp 𝕄)) (fun k => reached ER (kcell (c, k)) 0)),
    bigSep_sep', ← bigSep_univ_prod (fun ck : Dev nD × Option (X × Bool) => (reached ER (kcell ck) 0 : sProp 𝕄))]
  iintro ⟨HI, ⟨Hat, #HR⟩, Htok⟩
  ihave HK := (BI.bigSep_exists_pi Finset.univ (fun (ck : Dev nD × Option (X × Bool)) (κ : ℕ) => (cellInv ER (ringRd m) κ (kcell ck) : sProp 𝕄))) $$ HI
  icases HK with ⟨%K, #HI⟩
  ihave Htk := (toks_around (F := F)) $$ Htok
  iapply (bigSep_with (R := records m K) (Φ := fun c : Dev nD => linear c) fun c _ => by
    unfold G'
    iintro H
    iexists K
    iexact H)
  isplitr
  · unfold records; isplitl; · iexact HI
    iexact HR
  · unfold linear
    rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem sum_at {I : Type} [Fintype I] (f : I → CellTallies nD τ sig Unit) (g : GSem nD τ sig) : (∑ i, f i) g () = ∑ i, f i g () := by
  rw [Finset.sum_apply, Finsupp.finset_sum_apply]

theorem bar_inj {a b : Dev nD} (h : barCell a = barCell b) : a = b := congrArg (fun g : GSem nD τ sig => g.1.1) h
theorem cell_inj {a b : Dev nD} {t u : X} (h : cell a t true = cell b u true) : a = b ∧ t = u :=
  ⟨congrArg (fun g : GSem nD τ sig => g.1.1) h,
    congrArg Prod.fst (Option.some.inj (csem_injective (a₁ := some (t, true)) (a₂ := some (u, true)) (congrArg Prod.snd h)))⟩
theorem bar_ne_cell (a b : Dev nD) (t : X) : barCell a ≠ cell b t true := fun h =>
  absurd (csem_injective (a₁ := none) (a₂ := some (t, true)) (congrArg Prod.snd h)) (by simp)

/-- What the devices together owe a barrier. -/
theorem owed_bar (c : Dev nD) : ∑ d : Dev nD, O₀ d (barCell c) () = 5 := by
  have h (d : Dev nD) : O₀ d (barCell c) () = ∑ i : Fin 5, if (peer i).symm c = d then 1 else 0 := by
    have h1 : Ow d 0 (barCell c) () = 0 := by
      unfold Ow
      rw [sum_at]
      exact Finset.sum_eq_zero fun t _ => by rw [if_pos (Nat.zero_le _), tallyAt_ne_cell (bar_ne_cell _ _ _)]; rfl
    unfold O₀
    rw [Pi.add_apply, Finsupp.add_apply, h1, Nat.zero_add]
    unfold Ob
    rw [sum_at]
    refine Finset.sum_congr rfl fun i _ => ?_
    rw [if_pos (Nat.zero_le _), tallyAt_apply]
    by_cases hd : (peer i).symm c = d
    · rw [if_pos hd, if_pos ⟨by rw [← hd, Equiv.apply_symm_apply], rfl⟩]
    · rw [if_neg hd, if_neg fun hh => hd (by rw [bar_inj hh.1, Equiv.symm_apply_apply])]
  rw [Finset.sum_congr rfl fun d _ => h d, Finset.sum_comm, Finset.sum_congr rfl fun i _ => Finset.sum_ite_eq Finset.univ ((peer i).symm c) fun _ => 1]
  simp

/-- What the devices together owe a receive cell. -/
theorem owed_cell (c : Dev nD) (t : X) : ∑ d : Dev nD, O₀ d (cell c t true) () = t.N := by
  have h (d : Dev nD) : O₀ d (cell c t true) () = if t.tgt.symm c = d then t.N else 0 := by
    have h1 : Ob d 0 (cell c t true) () = 0 := by
      unfold Ob
      rw [sum_at]
      exact Finset.sum_eq_zero fun i _ => by rw [if_pos (Nat.zero_le _), tallyAt_ne_cell (bar_ne_cell _ _ _).symm]; rfl
    unfold O₀
    rw [Pi.add_apply, Finsupp.add_apply, h1, Nat.add_zero]
    unfold Ow
    rw [sum_at, Finset.sum_eq_single t, if_pos (Nat.zero_le _), tallyAt_apply]
    · by_cases hd : t.tgt.symm c = d
      · rw [if_pos hd, if_pos ⟨by rw [← hd, Equiv.apply_symm_apply], rfl⟩]
      · rw [if_neg hd, if_neg fun hh => hd (by rw [(cell_inj hh.1).1, Equiv.symm_apply_apply])]
    · intro u _ hu
      rw [if_pos (Nat.zero_le _), tallyAt_ne_cell fun hh => hu (cell_inj hh).2.symm]; rfl
    · exact fun hh => absurd (Finset.mem_univ _) hh
  rw [Finset.sum_congr rfl fun d _ => h d, Finset.sum_ite_eq Finset.univ (t.tgt.symm c) fun _ => t.N, if_pos (Finset.mem_univ _)]

theorem launch_at (g : GSem nD τ sig) (n : ℕ) (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

theorem creds (c : Dev nD) : (Pipeline.launchCred O₀ c : sProp 𝕄) ⊢ credits c := by
  have hr : (fun t : X => (cred (tallyAt (cell c t true) () t.N) : sProp 𝕄)) = fun t : X => cred (tallyOn (cell c t true) (launchCredit (Pipeline.owing O₀) 0 (cell c t true))) :=
    funext fun t => by rw [launch_at _ _ (owed_cell c t)]
  have hi : Function.Injective fun t : X => (SemLoc.dma (t.ds true) : SemLoc sig) := fun t u h =>
    congrArg Prod.fst (Option.some.inj (csem_injective (a₁ := some (t, true)) (a₂ := some (u, true)) h))
  unfold Pipeline.launchCred credits
  rw [bigSep_univ_at _ (SemLoc.reg barS), launch_at _ _ (owed_bar c), hr]
  refine sep_mono_right ?_
  refine (bigSep_subset (t := Finset.univ.map ⟨_, hi⟩) fun s hs => ?_).trans ?_
  · obtain ⟨t, _, rfl⟩ := Finset.mem_map.mp hs
    exact Finset.mem_erase.mpr ⟨fun h => absurd (csem_injective (a₁ := some (t, true)) (a₂ := none) h) (by simp), Finset.mem_univ _⟩
  · rw [bigSep_map]; exact BI.Entails.refl _

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  unfold G' records
  icases HG with ⟨%K, ⟨HI, HR⟩, HL⟩
  imodintro
  unfold start ctx levs
  isplitl
  · isplitl [HI HR Hlev]
    · iexists K
      isplitl [HI]; · iexact HI
      isplitl [HR] <;> iassumption
    isplitl [HL] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs]; · iexact Hs
  unfold scr; iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  exact BI.Entails.refl _

theorem share_eq (c : Dev nD) (w : Fin cfg0.W) : (dats m ρ 0 c).share w = fullShare := by unfold Dat.share; split <;> rfl

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters the program ends, on any float values: each device's arrays at the contents
    computed, every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Ring

end
-- ==== Proof.Frames.lean ====
/-
The frames: every run of the kernel, at either values, and of the reference ends, the arguments as they were and every
semaphore counter at zero.
-/
module

public import proofs.«01_k».proof.Defs
public import proofs.«01_k».proof.Proof.Gen.Kernel
public import proofs.«01_k».proof.Proof.Gen.ReferenceIdeal.Run
public import proofs.«01_k».proof.Proof.Run

@[expose] public section

noncomputable section

namespace Cert.Ring

open Idealize.ShloMosaic Idealize.ShloMosaic.TcCoe Idealize.SL.Sem
open Cert.KernelIdeal Cert.KernelIdeal.Gen

set_option backward.proofsInPublic true

variable {F : FTy → Type} [FloatOps F] (m : (ℓ : Loc nD τ sig) → Buf (Elt F) ℓ) (ρ : Dev nD → PrngReg)

theorem finalA_0 (c : Dev nD) : finalA m ρ c (0 : Fin 3) = m ((c : Thread nD τ).loc main_arg0) := (dats (F := F) m ρ 0 c).arrAt_in (0 : Fin 3) rfl _
theorem finalA_1 (c : Dev nD) : finalA m ρ c (1 : Fin 3) = m ((c : Thread nD τ).loc main_arg1) := (dats (F := F) m ρ 0 c).arrAt_in (1 : Fin 3) rfl _

/-- The run of the program, read at its arguments, its result and the counters. -/
theorem run_read : θ_run defs (onTc (τ := τ) (main (F := F))) (s₀ m ρ) (fun r => (∀ c : Dev nD,
    r.2.mem ((c : Thread nD τ).loc main_v1) = finalA m ρ c (2 : Fin 3)
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c => ⟨h.1 c (2 : Fin 3), (h.1 c (0 : Fin 3)).trans (finalA_0 m ρ c), (h.1 c (1 : Fin 3)).trans (finalA_1 m ρ c)⟩, h.2⟩)
    (run_main m ρ)

theorem frame_ideal : Cert.quiescent_KernelIdeal := fun m ρ _ =>
  (θ_run defs _ _).mono (fun _ h => ⟨fun c => (h.1 c).2, h.2⟩) (run_read (F := Ideal) m ρ)

theorem defs₀_eq : Cert.Kernel.defs₀ (F := F) = Cert.KernelIdeal.defs₀ (F := F) := by
  unfold Cert.Kernel.defs₀ Cert.KernelIdeal.defs₀
  refine congrArg Defs.onTc (funext fun l => funext fun x => ?_)
  match l, x with
  | 0, (t, s) => rfl
/-- The kernel's text is its idealization's. -/
theorem defs_eq : Cert.Kernel.defs (F := F) = Cert.KernelIdeal.defs (F := F) := by
  unfold Cert.Kernel.defs Cert.KernelIdeal.defs
  exact congrArg (Pipeline.defs Cert.KernelIdeal.pcfgs) defs₀_eq

theorem frame_kernel : Cert.quiescent_Kernel := fun m ρ _ => by
  have h := (θ_run Cert.KernelIdeal.defs _ _).mono (Q' := fun r => (∀ c : Dev nD, r.2.mem ((c : Thread nD τ).loc main_arg0) = m ((c : Thread nD τ).loc main_arg0)
      ∧ r.2.mem ((c : Thread nD τ).loc main_arg1) = m ((c : Thread nD τ).loc main_arg1)) ∧ r.2.sem = fun _ => 0)
    (fun _ h => ⟨fun c => (h.1 c).2, h.2⟩) (run_read (F := Bits) m ρ)
  rw [← defs_eq] at h
  exact h

theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.Ring

end
-- ==== Proof.Sums.lean ====
/-
What the result is over the extended reals: every element the product of a row of the first whole operand with a row of
the second, whatever the order in which the layers' partial sums are added.
-/
module

public import proofs.«01_k».proof.Proof.Frames
public import Idealize.ShloMosaic.Lib.MatmulPlain
public import Idealize.ShloMosaic.Lib.StackMember
public import Idealize.ShloMosaic.Lib.ValueLayout
public import Idealize.ShloMosaic.Lib.Layout
public import Idealize.ShloMosaic.Lib.Pipeline.ValueKit

@[expose] public section

noncomputable section

namespace Cert.Ring

open Idealize.ShloMosaic hiding ix2
open Idealize.ShloMosaic.TcCoe Idealize.ShloMosaic.ValueIdx Idealize.SL.Sem
open Cert.KernelIdeal Cert.KernelIdeal.Gen
open scoped BigOperators

set_option backward.proofsInPublic true

section AnyValues
variable {F : FTy → Type} [FloatOps F] (m : (ℓ : Loc nD τ sig) → Buf (Elt F) ℓ) (ρ : Dev nD → PrngReg)

/-- The result array after the run is the result buffer as the body leaves it. -/
theorem finalA_2 (c : Dev nD) : finalA m ρ c (2 : Fin 3) = FIN m :=
  (dats (F := F) m ρ 0 c).arrAt_eq_of_after_last (2 : Fin 3) t0_0 (by decide +kernel) _ (fun j => rfl)

theorem dyS_apply (c : Dev nD) (i : S1024x4096.Idx) : dyS m c i = m ((c : Thread nD τ).loc main_arg0) i := by
  unfold dyS
  show m ((c : Thread nD τ).loc main_arg0) ((win0_0.rect (0 : Fin 1)).emb i) = _
  congr 1
  funext a; apply Fin.ext
  exact Pipeline.Window.rect_emb_val_of_index_zero win0_0 _ _ rfl i
theorem wS_apply (c : Dev nD) (i : S1024x4096.Idx) : wS m c i = m ((c : Thread nD τ).loc main_arg1) i := by
  unfold wS
  show m ((c : Thread nD τ).loc main_arg1) ((win0_1.rect (0 : Fin 1)).emb i) = _
  congr 1
  funext a; apply Fin.ext
  exact Pipeline.Window.rect_emb_val_of_index_zero win0_1 _ _ rfl i

end AnyValues

variable (m : (ℓ : Loc nD τ sig) → Buf (Elt Ideal) ℓ)

/-! ## One device -/

/-- The two operands as a device holds them. -/
abbrev arg0 (c : Dev nD) : (⟨2, ![1024, 4096]⟩ : Shape).Idx → EReal := m ((c : Thread nD τ).loc main_arg0)
abbrev arg1 (c : Dev nD) : (⟨2, ![1024, 4096]⟩ : Shape).Idx → EReal := m ((c : Thread nD τ).loc main_arg1)

/-- An element of a device's partial product: a row of its first block times a row of its second. -/
theorem PROD_apply (c : Dev nD) (r : Fin 128) (x : Fin 1024) :
    PROD m c (ix2 r x) = ∑ k : Fin 4096,
      arg0 m c (ix2 ⟨128 * pos c + r.val, by have := pos_lt c; omega⟩ k)
        * arg1 m c (ix2 x k) := by
  unfold PROD k0_pay1
  rw [show dot_S128x4096_S1024x4096_S128x1024_1_1_0_0_n_n = DotDims.transposedRhs 128 4096 1024 from rfl]
  refine (Ideal.matmul_transposedRhs_apply none _ _ _ r x).trans ?_
  rw [show (constant S128x1024 .f32 0x00000000#32 : FVec Ideal S128x1024 .f32) (ix2 r x) = 0 from Ideal.ofBits_zero_f32, zero_add]
  refine Finset.sum_congr rfl fun k _ => ?_
  rw [shapeCast_self, shapeCast_self]
  congr 1
  · show dyS m c ((dyR (pf c)).emb (ix2 r k)) = _
    rw [dyS_apply]
    congr 1
    funext a; apply Fin.ext
    rw [emb_flat]
    match a with
    | ⟨0, _⟩ => rfl
    | ⟨1, _⟩ => exact Nat.zero_add _
  · show wS m c (wR.emb (ix2 x k)) = _
    rw [wS_apply]
    congr 1
    funext a; apply Fin.ext
    rw [emb_flat]
    match a with
    | ⟨0, _⟩ => exact Nat.zero_add _
    | ⟨1, _⟩ => exact Nat.zero_add _

/-- A device's reduced rows: its own partial product's, and those of the three other layers at its place. -/
theorem RED_apply (c : Dev nD) (j : S32x1024.Idx) :
    RED m c j = prodN m c (32 * zc c + (j 0).val) (j 1).val
      + ((prodN m (nb 0 1 c) (32 * zc c + (j 0).val) (j 1).val + prodN m (nb 0 2 c) (32 * zc c + (j 0).val) (j 1).val)
        + prodN m (nb 0 3 c) (32 * zc c + (j 0).val) (j 1).val) := by
  have h0 : (outM.access (rowR c)).read (Elt Ideal) (OUT1 m c) j = prodN m c (32 * zc c + (j 0).val) (j 1).val := by
    refine (read_row_OUT1 m c c j).trans ?_
    rw [show 128 * pos c + 32 * zc c + (j 0).val - 128 * pos c = 32 * zc c + (j 0).val by omega]
  have h1 := read_sq_ZC m c 0 j
  have h2 := read_sq_ZC m c 1 j
  have h3 := read_sq_ZC m c 2 j
  unfold RED k0_pay5 k0_pay2 k0_pay3 k0_pay4
  dsimp only
  rw [shapeCast_self]
  exact congrArg₂ (· + ·) h0 (congrArg₂ (· + ·) (congrArg₂ (· + ·) h1 h2) h3)

/-! ## All devices -/

/-- The two whole operands, and how the devices hold them: cut along the second axis, a block per layer. -/
abbrev Whole := (⟨2, ![1024, 16384]⟩ : Shape).Idx → EReal
variable (A B : Whole)

abbrev slab (v : Whole) (c : Dev nD) : (⟨2, ![1024, 4096]⟩ : Shape).Idx → EReal :=
  Layout.blockN ⟨2, ![1024, 4096]⟩ ⟨2, ![1024, 16384]⟩ (Layout.meshBlock [2, 4, 4] ![[], [2]] c) v

theorem slab_apply (v : Whole) (c : Dev nD) (r : Fin 1024) (k : Fin 4096) :
    slab v c (ix2 r k) = v (ix2 r ⟨zc c * 4096 + k.val, by have := zc_lt c; omega⟩) := by
  show v _ = v _
  congr 1
  funext a; apply Fin.ext
  rw [Layout.TilesN.idx_val]
  match a with
  | ⟨0, _⟩ => show 0 * 1024 + r.val = r.val; omega
  | ⟨1, _⟩ =>
    show (Layout.meshLin [2, 4, 4] c.val [2]) * 4096 + k.val = zc c * 4096 + k.val
    unfold zc
    simp [Layout.meshLin, Layout.meshCoord, Layout.cutSize]

/-- The product of a row of each whole operand, over one layer's stretch of the axis they share. -/
def term (R x : Fin 1024) (k : ℕ) : EReal :=
  A (ix2 R ⟨k % 16384, Nat.mod_lt _ (by decide)⟩) * B (ix2 x ⟨k % 16384, Nat.mod_lt _ (by decide)⟩)
def part (R x : Fin 1024) (l : ℕ) : EReal := ∑ k : Fin 4096, term A B R x (l * 4096 + k.val)

theorem parts_sum (R x : Fin 1024) :
    part A B R x 0 + part A B R x 1 + part A B R x 2 + part A B R x 3 = ∑ k : Fin 16384, A (ix2 R k) * B (ix2 x k) := by
  have h := Fin.sum_univ_univ_mul_add 4 4096 (term A B R x)
  rw [Fin.sum_univ_four] at h
  refine h.trans (Finset.sum_congr rfl fun k _ => ?_)
  unfold term
  have hk : k.val % 16384 = k.val := Nat.mod_eq_of_lt k.isLt
  simp only [hk]

variable (hA : ∀ c : Dev nD, arg0 m c = slab A c)
variable (hB : ∀ c : Dev nD, arg1 m c = slab B c)
include hA hB

theorem prodN_part (c : Dev nD) (r x : ℕ) (hr : r < 128) (hx : x < 1024) :
    prodN m c r x = part A B ⟨128 * pos c + r, by have := pos_lt c; omega⟩ ⟨x, hx⟩ (zc c) := by
  unfold prodN
  rw [PROD_apply, hA, hB]
  unfold part term
  refine Finset.sum_congr rfl fun k _ => ?_
  rw [slab_apply, slab_apply]
  have h1 : (zc c * 4096 + k.val) % 16384 = zc c * 4096 + k.val := Nat.mod_eq_of_lt (by have := zc_lt c; omega)
  simp only [h1, Nat.mod_eq_of_lt hr, Nat.mod_eq_of_lt hx]

/-- The devices at one place hold the four layers: their parts, in whatever order, are the whole product. -/
theorem RED_dot (c : Dev nD) (j : S32x1024.Idx) (R x : Fin 1024) (hR : R.val = 128 * pos c + 32 * zc c + (j 0).val)
    (hx : x.val = (j 1).val) : RED m c j = ∑ k : Fin 16384, A (ix2 R k) * B (ix2 x k) := by
  have h0 : (j 0).val < 32 := (j 0).isLt
  have hz := zc_lt c
  have hp := pos_lt c
  have hn : ∀ i : ℕ, prodN m (nb 0 i c) (32 * zc c + (j 0).val) (j 1).val = part A B R x ((zc c + i) % 4) := fun i => by
    rw [← hx, prodN_part m A B hA hB _ _ _ (by omega) x.isLt, zc_nb]
    congr 1
    apply Fin.ext
    show 128 * pos (nb 0 i c) + (32 * zc c + (j 0).val) = R.val
    rw [pos_nb, hR]; omega
  have hc := hn 0
  rw [nb_zero] at hc
  rw [RED_apply, hc, hn 1, hn 2, hn 3, ← parts_sum]
  generalize part A B R x = f
  have hz' : zc c = 0 ∨ zc c = 1 ∨ zc c = 2 ∨ zc c = 3 := by omega
  rcases hz' with h | h | h | h <;> rw [h] <;> simp only [Nat.reduceAdd, Nat.reduceMod] <;> abel

/-- The result: each row of the first operand times each row of the second. -/
theorem FIN_dot (R x : Fin 1024) : FIN m (ix2 R x) = ∑ k : Fin 16384, A (ix2 R k) * B (ix2 x k) := by
  unfold FIN redN
  refine RED_dot m A B hA hB _ _ R x ?_ ?_
  · show R.val = 128 * pos (dv (R.val / 128) (R.val % 128 / 32)) + 32 * zc (dv (R.val / 128) (R.val % 128 / 32)) + R.val % 32 % 32
    rw [pos_dv, zc_dv]; omega
  · exact (Nat.mod_eq_of_lt x.isLt).symm

omit hA hB in
/-- The reference's product, read at an element. -/
theorem ref_dot (R x : Fin 1024) :
    (Host.dotGeneral (φ₁ := .f32) (φ₂ := .f32) Cert.ReferenceIdeal.dot_S1024x16384_S16384x1024_S1024x1024_1_0_0_1_n_n none A
      (transpose (α := EReal) Cert.ReferenceIdeal.S16384x1024 [1, 0] B Cert.ReferenceIdeal.Facts₀.transposes_S1024x16384_S16384x1024_1_0)
        : FVec Ideal ⟨2, ![1024, 1024]⟩ .f32) (ix2 R x)
      = ∑ k : Fin 16384, A (ix2 R k) * B (ix2 x k) := by
  rw [show Cert.ReferenceIdeal.dot_S1024x16384_S16384x1024_S1024x1024_1_0_0_1_n_n = DotDims.plain 1024 16384 1024 from rfl]
  refine (StackMember.dotGeneral_plain_apply none A _ R x).trans ?_
  refine Finset.sum_congr rfl fun k _ => ?_
  rw [transpose_ix2_apply]

end Cert.Ring

end
-- ==== Proof.Value.lean ====
/-
The value: the kernel and the reference compute the same array over the extended reals.
-/
module

public import proofs.«01_k».proof.Proof.Sums

@[expose] public section

noncomputable section

namespace Cert.Ring

open Idealize.ShloMosaic hiding ix2
open Idealize.ShloMosaic.TcCoe Idealize.ShloMosaic.ValueIdx Idealize.SL.Sem

set_option backward.proofsInPublic true

/-- Every device ends with the reference's whole product. -/
theorem algebraic : Cert.algebraic_KernelIdeal_ReferenceIdeal := fun m g m' g' _ hin => by
  have hA : ∀ c, arg0 m c = slab (m' (((0 : Dev Cert.ReferenceIdeal.nD).tc : Thread _ _).loc Cert.ReferenceIdeal.main_arg0)) c := fun c => (hin c).1
  have hB : ∀ c, arg1 m c = slab (m' (((0 : Dev Cert.ReferenceIdeal.nD).tc : Thread _ _).loc Cert.ReferenceIdeal.main_arg1)) c := fun c => (hin c).2
  refine ⟨FIN m, (θ_run Cert.KernelIdeal.defs _ _).mono (fun r h c => ⟨(h.1 c).1.trans (finalA_2 m g c), (h.1 c).2⟩) (run_read (F := Ideal) m g),
    (θ_run Cert.ReferenceIdeal.defs _ _).mono (fun r h => ⟨(h 0).1.trans (funext fun i => ?_), (h 0).2⟩) (Cert.ReferenceIdeal.Value.run (F := Ideal) m' g')⟩
  obtain ⟨R, x, rfl⟩ : ∃ R x : Fin 1024, i = ix2 R x := ⟨i 0, i 1, ValueIdx.eq_ix2 i⟩
  exact (ref_dot _ _ R x).trans (FIN_dot m _ _ hA hB R x).symm

end Cert.Ring

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Ring.frame_kernel, Cert.Ring.frame_ideal, Cert.Ring.frame_reference, trivial, Cert.Ring.algebraic⟩

end Cert.Proof

end
